-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  IdealRules.named_const.Statement Cert.KernelIdeal.κ "score_log2" .f32 0x3E16C740#32 (((Real.sqrt 96)⁻¹ * (Real.log 2)⁻¹ : ℝ) : EReal)

def preserves_Reference_ReferenceIdeal : Prop :=
  IdealRules.named_const.Statement Cert.ReferenceIdeal.κ "inv_ln2" .f32 0x3FB8AA3B#32 (((Real.log 2)⁻¹ : ℝ) : EReal)
  ∧ IdealRules.named_const.Statement Cert.ReferenceIdeal.κ "score_scale" .f32 0x3DD105EC#32 (((Real.sqrt 96)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)) (v6 : (c : Dev Cert.KernelIdeal.nD) → Buf (Elt Ideal) ((c.tc : Thread Cert.KernelIdeal.nD Cert.KernelIdeal.τ).loc Cert.KernelIdeal.main_v2_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_v2_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_v3_5) = v5 c
          ∧ r.2.mem ((c.tc : Thread Cert.ReferenceIdeal.nD Cert.ReferenceIdeal.τ).loc Cert.ReferenceIdeal.main_v3_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hReference : Cert.Reference.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
-- ==== Pre_finite.lean ====
abbrev S2x1024x2304 : Shape := ⟨3, ![2, 1024, 2304]⟩
abbrev S2x1024x576 : Shape := ⟨3, ![2, 1024, 576]⟩
abbrev S_ : Shape := ⟨0, ![]⟩
abbrev S1 : Shape := ⟨1, ![1]⟩
abbrev S3 : Shape := ⟨1, ![3]⟩

class Facts : Prop where
  bitsLt_bf16_f32 : FTy.bits .bf16 < FTy.bits .f32
  bcast_S_S2x1024x2304 : S_.BroadcastsInDim S2x1024x2304 (![] : Fin 0 → Fin S2x1024x2304.rank)
  reducesTo_S2x1024x2304_S_d0_1_2 : S2x1024x2304.ReducesTo [0, 1, 2] S_
  h_S_ : 0 < S_.numel
  bcast_S_S2x1024x576 : S_.BroadcastsInDim S2x1024x576 (![] : Fin 0 → Fin S2x1024x576.rank)
  reducesTo_S2x1024x576_S_d0_1_2 : S2x1024x576.ReducesTo [0, 1, 2] S_
  bcast_S_S1 : S_.BroadcastsInDim S1 (![] : Fin 0 → Fin S1.rank)
  concatenates_S1_S1_S1_S3_d0 : Shape.Concatenates [S1, S1, S1] S3 0
  reducesTo_S3_S_d0 : S3.ReducesTo [0] S_

variable [Facts]

def fn_part1 {F : FTy → Type} [FloatOps F] (main_v15 : IVec S1 1) (main_v16 : IVec S1 1) (main_v17 : IVec S1 1) : IVec S_ 1 :=
  let main_v18 : IVec S3 1 := concatenate S3 0 [⟨S1, main_v15⟩, ⟨S1, main_v16⟩, ⟨S1, main_v17⟩] concatenates_S1_S1_S1_S3_d0
  let main_c_4 : IVec S_ 1 := constantI S_ 1 1#1
  let main_v19 : IVec S_ 1 := (fun x v => Host.reduce IntOp.andi x v reducesTo_S3_S_d0 h_S_) main_v18 main_c_4
  main_v19

def fn {F : FTy → Type} [FloatOps F] (main_arg0 : FVec F S2x1024x2304 .bf16) (main_arg1 : FVec F S2x1024x576 .bf16) (main_arg2 : FVec F S2x1024x576 .bf16) : IVec S_ 1 :=
  let main_v0 : FVec F S2x1024x2304 .f32 := (extf .f32 · bitsLt_bf16_f32) main_arg0
  let main_v1 : FVec F S2x1024x2304 .f32 := Host.absf main_v0
  let main_cst : FVec F S_ .f32 := constant S_ .f32 0x7F7F0000#32
  let main_v2 : FVec F S2x1024x2304 .f32 := broadcastInDim S2x1024x2304 ![] bcast_S_S2x1024x2304 main_cst
  let main_v3 : IVec S2x1024x2304 1 := cmpf .ole main_v1 main_v2
  let main_c : IVec S_ 1 := constantI S_ 1 1#1
  let main_v4 : IVec S_ 1 := (fun x v => Host.reduce IntOp.andi x v reducesTo_S2x1024x2304_S_d0_1_2 h_S_) main_v3 main_c
  let main_v5 : FVec F S2x1024x576 .f32 := (extf .f32 · bitsLt_bf16_f32) main_arg1
  let main_v6 : FVec F S2x1024x576 .f32 := Host.absf main_v5
  let main_cst_0 : FVec F S_ .f32 := constant S_ .f32 0x7F7F0000#32
  let main_v7 : FVec F S2x1024x576 .f32 := broadcastInDim S2x1024x576 ![] bcast_S_S2x1024x576 main_cst_0
  let main_v8 : IVec S2x1024x576 1 := cmpf .ole main_v6 main_v7
  let main_c_1 : IVec S_ 1 := constantI S_ 1 1#1
  let main_v9 : IVec S_ 1 := (fun x v => Host.reduce IntOp.andi x v reducesTo_S2x1024x576_S_d0_1_2 h_S_) main_v8 main_c_1
  let main_v10 : FVec F S2x1024x576 .f32 := (extf .f32 · bitsLt_bf16_f32) main_arg2
  let main_v11 : FVec F S2x1024x576 .f32 := Host.absf main_v10
  let main_cst_2 : FVec F S_ .f32 := constant S_ .f32 0x7F7F0000#32
  let main_v12 : FVec F S2x1024x576 .f32 := broadcastInDim S2x1024x576 ![] bcast_S_S2x1024x576 main_cst_2
  let main_v13 : IVec S2x1024x576 1 := cmpf .ole main_v11 main_v12
  let main_c_3 : IVec S_ 1 := constantI S_ 1 1#1
  let main_v14 : IVec S_ 1 := (fun x v => Host.reduce IntOp.andi x v reducesTo_S2x1024x576_S_d0_1_2 h_S_) main_v13 main_c_3
  let main_v15 : IVec S1 1 := broadcastInDim S1 ![] bcast_S_S1 main_v4
  let main_v16 : IVec S1 1 := broadcastInDim S1 ![] bcast_S_S1 main_v9
  let main_v17 : IVec S1 1 := broadcastInDim S1 ![] bcast_S_S1 main_v14
  fn_part1 (F := F) main_v15 main_v16 main_v17
-- ==== Kernel.lean ====
abbrev S2x1024x2304 : Shape := ⟨3, ![2, 1024, 2304]⟩
abbrev S2x1024x576 : Shape := ⟨3, ![2, 1024, 576]⟩
abbrev S2x576x1024 : Shape := ⟨3, ![2, 576, 1024]⟩
abbrev S2x2304x1024 : Shape := ⟨3, ![2, 2304, 1024]⟩
abbrev S2x8x24 : Shape := ⟨3, ![2, 8, 24]⟩
abbrev S6x2x16 : Shape := ⟨3, ![6, 2, 16]⟩
abbrev S6x2x96 : Shape := ⟨3, ![6, 2, 96]⟩
abbrev S1x1024x384 : Shape := ⟨3, ![1, 1024, 384]⟩
abbrev S1x96x1024 : Shape := ⟨3, ![1, 96, 1024]⟩
abbrev S1x384x1024 : Shape := ⟨3, ![1, 384, 1024]⟩
abbrev S1x2x16 : Shape := ⟨3, ![1, 2, 16]⟩
abbrev S1x2x96 : Shape := ⟨3, ![1, 2, 96]⟩
abbrev S1024x96 : Shape := ⟨2, ![1024, 96]⟩
abbrev S2x1024x512 : Shape := ⟨3, ![2, 1024, 512]⟩
abbrev S8x128 : Shape := ⟨2, ![8, 128]⟩
abbrev S96x1024 : Shape := ⟨2, ![96, 1024]⟩
abbrev S96 : Shape := ⟨1, ![96]⟩
abbrev S96x1 : Shape := ⟨2, ![96, 1]⟩
abbrev S96x128 : Shape := ⟨2, ![96, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S1x96x128 : Shape := ⟨3, ![1, 96, 128]⟩
abbrev S128x96 : Shape := ⟨2, ![128, 96]⟩
abbrev S1x16 : Shape := ⟨2, ![1, 16]⟩
abbrev S1x1x16 : Shape := ⟨3, ![1, 1, 16]⟩
abbrev S1x96 : Shape := ⟨2, ![1, 96]⟩
abbrev S1x1x96 : Shape := ⟨3, ![1, 1, 96]⟩
abbrev S1x128x384 : Shape := ⟨3, ![1, 128, 384]⟩
abbrev S128x384 : Shape := ⟨2, ![128, 384]⟩
abbrev S384x128 : Shape := ⟨2, ![384, 128]⟩
abbrev S16x128 : Shape := ⟨2, ![16, 128]⟩
abbrev S1x8x24 : Shape := ⟨3, ![1, 8, 24]⟩
abbrev S8x24 : Shape := ⟨2, ![8, 24]⟩
abbrev S128x128 : Shape := ⟨2, ![128, 128]⟩
abbrev S96x256 : Shape := ⟨2, ![96, 256]⟩
abbrev S128x256 : Shape := ⟨2, ![128, 256]⟩
abbrev S64x128 : Shape := ⟨2, ![64, 128]⟩
abbrev S1x64x128 : Shape := ⟨3, ![1, 64, 128]⟩
abbrev S1x128x128 : Shape := ⟨3, ![1, 128, 128]⟩
abbrev S1x256x128 : Shape := ⟨3, ![1, 256, 128]⟩
abbrev S256x128 : Shape := ⟨2, ![256, 128]⟩
abbrev S1x96x256 : Shape := ⟨3, ![1, 96, 256]⟩
abbrev S256x256 : Shape := ⟨2, ![256, 256]⟩

abbrev nBuf : Space → Nat
  | .hbm => 12
  | .vmem => 21
  | .smem => 0
  | _ => 0

abbrev bufTy : (tb : Table) → Fin (tcTables nBuf tb) → BufTy
  | .hbm, ⟨0, _⟩ => ⟨S2x1024x2304, .bf16⟩
  | .hbm, ⟨1, _⟩ => ⟨S2x1024x576, .bf16⟩
  | .hbm, ⟨2, _⟩ => ⟨S2x1024x576, .bf16⟩
  | .hbm, ⟨3, _⟩ => ⟨S2x576x1024, .bf16⟩
  | .hbm, ⟨4, _⟩ => ⟨S2x576x1024, .bf16⟩
  | .hbm, ⟨5, _⟩ => ⟨S2x1024x2304, .bf16⟩
  | .hbm, ⟨6, _⟩ => ⟨S2x2304x1024, .fp8e4m3⟩
  | .hbm, ⟨7, _⟩ => ⟨S2x8x24, .f32⟩
  | .hbm, ⟨8, _⟩ => ⟨S2x576x1024, .fp8e4m3⟩
  | .hbm, ⟨9, _⟩ => ⟨S6x2x16, .f32⟩
  | .hbm, ⟨10, _⟩ => ⟨S2x576x1024, .fp8e4m3⟩
  | .hbm, ⟨11, _⟩ => ⟨S6x2x96, .f32⟩
  | .local _ .vmem, ⟨0, _⟩ => ⟨S1x1024x384, .bf16⟩
  | .local _ .vmem, ⟨1, _⟩ => ⟨S1x1024x384, .bf16⟩
  | .local _ .vmem, ⟨2, _⟩ => ⟨S1x96x1024, .bf16⟩
  | .local _ .vmem, ⟨3, _⟩ => ⟨S1x96x1024, .bf16⟩
  | .local _ .vmem, ⟨4, _⟩ => ⟨S1x96x1024, .bf16⟩
  | .local _ .vmem, ⟨5, _⟩ => ⟨S1x96x1024, .bf16⟩
  | .local _ .vmem, ⟨6, _⟩ => ⟨S1x1024x384, .bf16⟩
  | .local _ .vmem, ⟨7, _⟩ => ⟨S1x1024x384, .bf16⟩
  | .local _ .vmem, ⟨8, _⟩ => ⟨S1x384x1024, .fp8e4m3⟩
  | .local _ .vmem, ⟨9, _⟩ => ⟨S1x384x1024, .fp8e4m3⟩
  | .local _ .vmem, ⟨10, _⟩ => ⟨S2x8x24, .f32⟩
  | .local _ .vmem, ⟨11, _⟩ => ⟨S1x96x1024, .fp8e4m3⟩
  | .local _ .vmem, ⟨12, _⟩ => ⟨S1x96x1024, .fp8e4m3⟩
  | .local _ .vmem, ⟨13, _⟩ => ⟨S1x2x16, .f32⟩
  | .local _ .vmem, ⟨14, _⟩ => ⟨S1x2x16, .f32⟩
  | .local _ .vmem, ⟨15, _⟩ => ⟨S1x96x1024, .fp8e4m3⟩
  | .local _ .vmem, ⟨16, _⟩ => ⟨S1x96x1024, .fp8e4m3⟩
  | .local _ .vmem, ⟨17, _⟩ => ⟨S1x2x96, .f32⟩
  | .local _ .vmem, ⟨18, _⟩ => ⟨S1x2x96, .f32⟩
  | .local _ .vmem, ⟨19, _⟩ => ⟨S1024x96, .fp8e4m3⟩
  | .local _ .vmem, ⟨20, _⟩ => ⟨S2x1024x512, .f32⟩
  | _, _ => ⟨S2x1024x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![6, 2], ![false, false]⟩

def k0_off1 (i : grid0.Coords) : Fin 3 → Nat :=
  let c0_622 : Index := 0#32
  let arg1 : BitVec 32 := BitVec.ofNat 32 (i 1).val
  let v2001 : Index := Scalar.indexCast arg1
  let c0_623 : Index := 0#32
  ![0, v2001.toNat, 0]
def k0_off2 (i : grid0.Coords) : Fin 3 → Nat :=
  let c0_701 : Index := 0#32
  let arg1 : BitVec 32 := BitVec.ofNat 32 (i 1).val
  let v2203 : Index := Scalar.indexCast arg1
  let c0_702 : Index := 0#32
  ![0, v2203.toNat, 0]
def k0_off3 (i : grid0.Coords) : Fin 3 → Nat :=
  let arg1 : BitVec 32 := BitVec.ofNat 32 (i 1).val
  let v6424 : Index := Scalar.indexCast arg1
  let c0_2037 : Index := 0#32
  let c0_2038 : Index := 0#32
  ![v6424.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x96x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x384x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2x8x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x96x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x96x1024 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x96 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "score_log2" => some (((Real.sqrt 96)⁻¹ * (Real.log 2)⁻¹ : ℝ) : EReal)
  | _ => none
-- ==== ReferenceIdeal.lean ====
variable {F : FTy → Type} [FloatOps F] [Named F]
def κ : String → Option EReal := fun
  | "inv_ln2" => some (((Real.log 2)⁻¹ : ℝ) : EReal)
  | "score_scale" => some (((Real.sqrt 96)⁻¹ : ℝ) : EReal)
  | _ => none
-- ==== Reference.lean ====
abbrev S2x1024x2304 : Shape := ⟨3, ![2, 1024, 2304]⟩
abbrev S2x1024x576 : Shape := ⟨3, ![2, 1024, 576]⟩
abbrev S2x2304x1024 : Shape := ⟨3, ![2, 2304, 1024]⟩
abbrev S2x576x1024 : Shape := ⟨3, ![2, 576, 1024]⟩
abbrev S2x8x24 : Shape := ⟨3, ![2, 8, 24]⟩
abbrev S6x2x16 : Shape := ⟨3, ![6, 2, 16]⟩
abbrev S6x2x96 : Shape := ⟨3, ![6, 2, 96]⟩
abbrev S2x24x96x8x128 : Shape := ⟨5, ![2, 24, 96, 8, 128]⟩
abbrev S2x24x8 : Shape := ⟨3, ![2, 24, 8]⟩
abbrev S2x24x1x8x1 : Shape := ⟨5, ![2, 24, 1, 8, 1]⟩
abbrev S2x6x96x1024 : Shape := ⟨4, ![2, 6, 96, 1024]⟩
abbrev S2x6x96 : Shape := ⟨3, ![2, 6, 96]⟩
abbrev S2x6x96x1 : Shape := ⟨4, ![2, 6, 96, 1]⟩
abbrev S2x6x96x16x64 : Shape := ⟨5, ![2, 6, 96, 16, 64]⟩
abbrev S2x6x16 : Shape := ⟨3, ![2, 6, 16]⟩
abbrev S2x6x1x16x1 : Shape := ⟨5, ![2, 6, 1, 16, 1]⟩
abbrev S48x96x1024 : Shape := ⟨3, ![48, 96, 1024]⟩
abbrev S2x6x1x96x1024 : Shape := ⟨5, ![2, 6, 1, 96, 1024]⟩
abbrev S2x6x4x96x1024 : Shape := ⟨5, ![2, 6, 4, 96, 1024]⟩
abbrev S2x24x1x8x128 : Shape := ⟨5, ![2, 24, 1, 8, 128]⟩
abbrev S48x1x1024 : Shape := ⟨3, ![48, 1, 1024]⟩
abbrev S2x6x4x16x64 : Shape := ⟨5, ![2, 6, 4, 16, 64]⟩
abbrev S48x1024x1 : Shape := ⟨3, ![48, 1024, 1]⟩
abbrev S2x6x1x96x1 : Shape := ⟨5, ![2, 6, 1, 96, 1]⟩
abbrev S2x6x4x96x1 : Shape := ⟨5, ![2, 6, 4, 96, 1]⟩
abbrev S48x96x1 : Shape := ⟨3, ![48, 96, 1]⟩
abbrev S48x1024x1024 : Shape := ⟨3, ![48, 1024, 1024]⟩
abbrev S48x1024 : Shape := ⟨2, ![48, 1024]⟩

abbrev nBuf : Space → Nat
  | .hbm => 13
  | .vmem => 10
  | .smem => 0
  | _ => 0

abbrev bufTy : (tb : Table) → Fin (tcTables nBuf tb) → BufTy
  | .hbm, ⟨0, _⟩ => ⟨S2x1024x2304, .bf16⟩
  | .hbm, ⟨1, _⟩ => ⟨S2x1024x576, .bf16⟩
  | .hbm, ⟨2, _⟩ => ⟨S2x1024x576, .bf16⟩
  | .hbm, ⟨3, _⟩ => ⟨S2x2304x1024, .bf16⟩
  | .hbm, ⟨4, _⟩ => ⟨S2x576x1024, .bf16⟩
  | .hbm, ⟨5, _⟩ => ⟨S2x576x1024, .bf16⟩
  | .hbm, ⟨6, _⟩ => ⟨S2x1024x2304, .bf16⟩
  | .hbm, ⟨7, _⟩ => ⟨S2x2304x1024, .fp8e4m3⟩
  | .hbm, ⟨8, _⟩ => ⟨S2x8x24, .f32⟩
  | .hbm, ⟨9, _⟩ => ⟨S2x576x1024, .fp8e4m3⟩
  | .hbm, ⟨10, _⟩ => ⟨S6x2x16, .f32⟩
  | .hbm, ⟨11, _⟩ => ⟨S2x576x1024, .fp8e4m3⟩
  | .hbm, ⟨12, _⟩ => ⟨S6x2x96, .f32⟩
  | .local _ .vmem, ⟨0, _⟩ => ⟨S2x2304x1024, .bf16⟩
  | .local _ .vmem, ⟨1, _⟩ => ⟨S2x576x1024, .bf16⟩
  | .local _ .vmem, ⟨2, _⟩ => ⟨S2x576x1024, .bf16⟩
  | .local _ .vmem, ⟨3, _⟩ => ⟨S2x1024x2304, .bf16⟩
  | .local _ .vmem, ⟨4, _⟩ => ⟨S2x2304x1024, .fp8e4m3⟩
  | .local _ .vmem, ⟨5, _⟩ => ⟨S2x8x24, .f32⟩
  | .local _ .vmem, ⟨6, _⟩ => ⟨S2x576x1024, .fp8e4m3⟩
  | .local _ .vmem, ⟨7, _⟩ => ⟨S6x2x16, .f32⟩
  | .local _ .vmem, ⟨8, _⟩ => ⟨S2x576x1024, .fp8e4m3⟩
  | .local _ .vmem, ⟨9, _⟩ => ⟨S6x2x96, .f32⟩
  | _, _ => ⟨S2x1024x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v3_6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2x2304x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x576x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x576x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2304x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x576x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x2x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x576x1024 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x2x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelFrame.lean ====
/- The frame of the kernel at the machine's own numbers: the body runs, the launch ends, the arguments are unchanged. -/
module

public import proofs.«01_k».proof.Proof.Gen.Kernel.Frame
public import proofs.«01_k».proof.Proof.Gen.Kernel.Skeleton
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers -/

/-- Each window's current staging memref at point `t`, spelled as the pipeline passes it (`bodyAt0`), and its wholeness. -/
abbrev ms0_0 (t : Fin cfg0.N) : Memref sig .tc .vmem S1x1024x384 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x96x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x96x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x384 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x384x1024 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x8x24 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x96x1024 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x16 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x96x1024 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x96 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1024x96 .fp8e4m3 := Memref.whole cc0_scratch0
abbrev scM0_1 : Memref sig .tc .vmem S2x1024x512 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The argument arrays end unchanged, from a run whose post names the arrays by a relation. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body run -/

-- (the run's proof term is large: checking it walks past the default budget)
set_option maxHeartbeats 9380000 in
/-- The body's triple: on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x1024x384 .bf16) (harg2 : arg2.IsWhole) (arg3 : Memref sig .tc .vmem S1x96x1024 .bf16) (harg3 : arg3.IsWhole) (arg4 : Memref sig .tc .vmem S1x96x1024 .bf16) (harg4 : arg4.IsWhole) (arg5 : Memref sig .tc .vmem S1x1024x384 .bf16) (harg5 : arg5.IsWhole) (arg6 : Memref sig .tc .vmem S1x384x1024 .fp8e4m3) (harg6 : arg6.IsWhole) (arg7 : Memref sig .tc .vmem S2x8x24 .f32) (harg7 : arg7.IsWhole) (arg8 : Memref sig .tc .vmem S1x96x1024 .fp8e4m3) (harg8 : arg8.IsWhole) (arg9 : Memref sig .tc .vmem S1x2x16 .f32) (harg9 : arg9.IsWhole) (arg10 : Memref sig .tc .vmem S1x96x1024 .fp8e4m3) (harg10 : arg10.IsWhole) (arg11 : Memref sig .tc .vmem S1x2x96 .f32) (harg11 : arg11.IsWhole) (arg12 : Memref sig .tc .vmem S1024x96 .fp8e4m3) (harg12 : arg12.IsWhole) (arg13 : Memref sig .tc .vmem S2x1024x512 .f32) (harg13 : arg13.IsWhole)
    (x0 : Vec F S1x1024x384 .bf16) (x1 : Vec F S1x96x1024 .bf16) (x2 : Vec F S1x96x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_sage_fp8_attention i arg2 harg2 arg3 harg3 arg4 harg4 arg5 harg5 arg6 harg6 arg7 harg7 arg8 harg8 arg9 harg9 arg10 harg10 arg11 harg11 arg12 harg12 arg13 harg13) K := by
    intro E K
    simp only [cc0_sage_fp8_attention_eq_skeleton]; unfold cc0_sage_fp8_attention_skel
    simp only [k0_part419_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part420_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part421_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part422_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part423_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part424_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part425_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    iexists _, _; isplitr; swap; · iexact HS1
    ipureintro; rfl

/-! ## The pipeline's proof data -/

/-- The output windows this certificate FORGETS (3, 4, 5, 6, 7, 8, 9): nothing reads what the kernel leaves in them, so nothing
    of it is named (Lib/Pipeline/Dat.lean `Dat.toRForget`). -/
def forgets0 : Fin 10 → Bool := fun w => w.val == 3 || w.val == 4 || w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6, 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_rel m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.Point.lean ====
/- The launch of the kernel as its proof sees it: the buffers of every point, and the proof data. -/
module

public import proofs.«01_k».proof.Proof.Gen.KernelIdeal.Frame
public import proofs.«01_k».proof.Proof.Gen.KernelIdeal.Skeleton
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers -/

/-- Each window's current staging memref at point `t`, spelled as the pipeline passes it (`bodyAt0`), and its wholeness. -/
abbrev ms0_0 (t : Fin cfg0.N) : Memref sig .tc .vmem S1x1024x384 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x96x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x96x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x384 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x384x1024 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x8x24 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x96x1024 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x16 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x96x1024 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x96 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1024x96 .fp8e4m3 := Memref.whole cc0_scratch0
abbrev scM0_1 : Memref sig .tc .vmem S2x1024x512 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The argument arrays end unchanged, from a run whose post names the arrays by a relation. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The pipeline's proof data -/

/-- The proof data of the pipeline on core `c`: the arrays as the region finds them (`V`), each input's buffer at its block
    after the body, the outputs unnamed (a relation over this data names them later), nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

end Cert.KernelIdeal.Gen

end
-- ==== Proof.Body.lean ====
/- The kernel's body run once on whole staging memrefs: what it leaves in each buffer, as the list of its stores. -/
module

public import proofs.«01_k».proof.Proof.Point

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 9348000 in
/-- The body's run, with what it leaves as the witness: for the buffers whose stores sit at fixed places the list of the
    stores (last first), for the three scale arrays (stored at the row of the batch, over what they held: `x5`, `x7`,
    `x9`) the contents. -/
noncomputable def kernelRun (c : Dev nD) (i : grid0.Coords) (arg2 : Memref sig .tc .vmem S1x1024x384 .bf16) (harg2 : arg2.IsWhole) (arg3 : Memref sig .tc .vmem S1x96x1024 .bf16) (harg3 : arg3.IsWhole) (arg4 : Memref sig .tc .vmem S1x96x1024 .bf16) (harg4 : arg4.IsWhole) (arg5 : Memref sig .tc .vmem S1x1024x384 .bf16) (harg5 : arg5.IsWhole) (arg6 : Memref sig .tc .vmem S1x384x1024 .fp8e4m3) (harg6 : arg6.IsWhole) (arg7 : Memref sig .tc .vmem S2x8x24 .f32) (harg7 : arg7.IsWhole) (arg8 : Memref sig .tc .vmem S1x96x1024 .fp8e4m3) (harg8 : arg8.IsWhole) (arg9 : Memref sig .tc .vmem S1x2x16 .f32) (harg9 : arg9.IsWhole) (arg10 : Memref sig .tc .vmem S1x96x1024 .fp8e4m3) (harg10 : arg10.IsWhole) (arg11 : Memref sig .tc .vmem S1x2x96 .f32) (harg11 : arg11.IsWhole) (arg12 : Memref sig .tc .vmem S1024x96 .fp8e4m3) (harg12 : arg12.IsWhole) (arg13 : Memref sig .tc .vmem S2x1024x512 .f32) (harg13 : arg13.IsWhole)
    (x0 : Vec F S1x1024x384 .bf16) (x1 : Vec F S1x96x1024 .bf16) (x2 : Vec F S1x96x1024 .bf16)
    (x5 : Vec F S2x8x24 .f32) (x7 : Vec F S1x2x16 .f32) (x9 : Vec F S1x2x96 .f32) :
    Σ' (L3 : List (View.Piece (Elt F) S1x1024x384 .bf16)), Σ' (L4 : List (View.Piece (Elt F) S1x384x1024 .fp8e4m3)), Σ' (G5 : Buf (Elt F) (arg7.view.loc (c : Thread nD τ))), Σ' (L6 : List (View.Piece (Elt F) S1x96x1024 .fp8e4m3)), Σ' (G7 : Buf (Elt F) (arg9.view.loc (c : Thread nD τ))), Σ' (L8 : List (View.Piece (Elt F) S1x96x1024 .fp8e4m3)), Σ' (G9 : Buf (Elt F) (arg11.view.loc (c : Thread nD τ))), Σ' (LT0 : List (View.Piece (Elt F) S1024x96 .fp8e4m3)), { LT1 : List (View.Piece (Elt F) S2x1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare x5 ∗ (∃ d, owns (c : Thread nD τ) arg8 fullShare d) ∗ owns (c : Thread nD τ) arg9 fullShare x7 ∗ (∃ d, owns (c : Thread nD τ) arg10 fullShare d) ∗ owns (c : Thread nD τ) arg11 fullShare x9 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (arg7.view.loc (c : Thread nD τ) ↦[arg7.view.set]{fullShare} G5) ∗ (∃ f, arg8.view.loc (c : Thread nD τ) ↦[arg8.view.set]{fullShare} arg8.view.writes (Elt F) f L6) ∗ (arg9.view.loc (c : Thread nD τ) ↦[arg9.view.set]{fullShare} G7) ∗ (∃ f, arg10.view.loc (c : Thread nD τ) ↦[arg10.view.set]{fullShare} arg10.view.writes (Elt F) f L8) ∗ (arg11.view.loc (c : Thread nD τ) ↦[arg11.view.set]{fullShare} G9) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1)) -∗ K ⟨⟩))
          ⊢ wp frame (wpE (defs₀ (F := F)) Variants.none c none) E (cc0_sage_fp8_attention i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, ?_, ?_, fun E K => ?run⟩
  case run =>
    simp only [cc0_sage_fp8_attention_eq_skeleton]; unfold cc0_sage_fp8_attention_skel
    simp only [k0_part419_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part420_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part421_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part422_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part423_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part424_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part425_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%d6, %f6, -, H6⟩, ⟨%f7, %hf7, H7⟩, ⟨%d8, %f8, -, H8⟩, ⟨%f9, %hf9, H9⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg7.eq_unread hf5; obtain rfl := harg9.eq_unread hf7; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexact H5
    isplitl [H6]; · iexists _; iexact H6
    isplitl [H7]; · iexact H7
    isplitl [H8]; · iexists _; iexact H8
    isplitl [H9]; · iexact H9
    isplitl [HS0]; · iexists _; iexact HS0
    iexists _; iexact HS1

end Cert.KernelIdeal.Gen

end
-- ==== Proof.Model.lean ====
/- What one grid point of the kernel computes, tile by tile: the same operations as the printed body, with the tile, the
   half and the head as parameters. -/
module

public import proofs.«01_k».proof.Proof.Gen.KernelIdeal

@[expose] public section

noncomputable section

namespace Cert.KernelIdeal.Gen

open Idealize.ShloMosaic Idealize.SL.Sem

variable {F : FTy → Type} [FloatOps F] [Named F]

/-! ## The power-of-two scale of a block -/

/-- One step of the binary search of the exponent field of `y`. -/
def expStep {s : Shape} (k : BitVec 32) (y : FVec F s .f32) (e : IVec s 32) : IVec s 32 :=
  select (cmpf .oge y (bitcastToFloat .f32 (shli (addi e (broadcast s k)) (broadcast s 23#32)))) (addi e (broadcast s k)) e

/-- The exponent field of `y`. -/
def expField {s : Shape} (y : FVec F s .f32) : IVec s 32 :=
  expStep 1#32 y <| expStep 2#32 y <| expStep 4#32 y <| expStep 8#32 y <| expStep 16#32 y <| expStep 32#32 y <|
    expStep 64#32 y <| expStep 128#32 y <| broadcast s 0#32

/-- The multiplier that brings the block into the codes' range. -/
def invV {s : Shape} (y : FVec F s .f32) : FVec F s .f32 :=
  select (cmpi .eq (expField y) (broadcast s 0#32)) (broadcast s (Scalar.ofBits .f32 0x3F800000#32))
    (bitcastToFloat .f32 (shli (subi (broadcast s 253#32) (expField y)) (broadcast s 23#32)))

/-- The block's scale, the multiplier's inverse. -/
def scaleV {s : Shape} (y : FVec F s .f32) : FVec F s .f32 :=
  select (cmpi .eq (expField y) (broadcast s 0#32)) (broadcast s (Scalar.ofBits .f32 0x3F800000#32))
    (bitcastToFloat .f32 (shli (addi (expField y) (broadcast s 1#32)) (broadcast s 23#32)))

/-- The greatest of `m`, spread over the tile, over 448. -/
def splatY (m : FVec F S8x128 .f32) : FVec F S8x128 .f32 :=
  mulf (broadcastTo S8x128 (shapeCast S1x1 (shapeCast S1x1 (multiReduction .maximumf [1] S1 (shapeCast S1x128
    (multiReduction .maximumf [0] S128 m 0xFF800000#32 reduces_S8x128_S128 (.inl rfl) rfl) shapeCasts_S128_S1x128)
      0xFF800000#32 reduces_S1x128_S1 (.inl rfl) rfl) shapeCasts_S1_S1x1) shapeCasts_S1x1_S1x1) broadcasts_S1x1_S8x128)
    (broadcast S8x128 (Scalar.ofBits .f32 0x3B124925#32))

/-! ## Tiles -/

theorem slices_rows96 (j : ℕ) : S96x128.Slices ![8 * (j % 12), 0] S8x128 :=
  ⟨rfl, fun a => by match a with | 0 => show 8 * (j % 12) + 8 ≤ 96; omega | 1 => show 0 + 128 ≤ 128; omega⟩
theorem slices_rows64 (j : ℕ) : S64x128.Slices ![8 * (j % 8), 0] S8x128 :=
  ⟨rfl, fun a => by match a with | 0 => show 8 * (j % 8) + 8 ≤ 64; omega | 1 => show 0 + 128 ≤ 128; omega⟩
theorem slices_rows16 (j : ℕ) : S96x128.Slices ![16 * (j % 6), 0] S16x128 :=
  ⟨rfl, fun a => by match a with | 0 => show 16 * (j % 6) + 16 ≤ 96; omega | 1 => show 0 + 128 ≤ 128; omega⟩
theorem slices_tile (t : ℕ) : S96x1024.Slices ![0, 128 * (t % 8)] S96x128 :=
  ⟨rfl, fun a => by match a with | 0 => show 0 + 96 ≤ 96; omega | 1 => show 128 * (t % 8) + 128 ≤ 1024; omega⟩
theorem slices_head (h : ℕ) : S384x128.Slices ![96 * (h % 4), 0] S96x128 :=
  ⟨rfl, fun a => by match a with | 0 => show 96 * (h % 4) + 96 ≤ 384; omega | 1 => show 0 + 128 ≤ 128; omega⟩

/-- Row by row, the greatest over the row groups `0..n` of eight. -/
def rowsMax96 (a : FVec F S96x128 .f32) : ℕ → FVec F S8x128 .f32
  | 0 => extractStridedSlice S8x128 ![8 * (0 % 12), 0] a (slices_rows96 0)
  | n + 1 => maximumf (rowsMax96 a n) (extractStridedSlice S8x128 ![8 * ((n + 1) % 12), 0] a (slices_rows96 (n + 1)))
/-- The same for a block of 64 rows. -/
def rowsMax64 (a : FVec F S64x128 .f32) : ℕ → FVec F S8x128 .f32
  | 0 => extractStridedSlice S8x128 ![8 * (0 % 8), 0] a (slices_rows64 0)
  | n + 1 => maximumf (rowsMax64 a n) (extractStridedSlice S8x128 ![8 * ((n + 1) % 8), 0] a (slices_rows64 (n + 1)))
/-- The same by row groups of sixteen. -/
def rowsMax16 (a : FVec F S96x128 .bf16) : ℕ → FVec F S16x128 .bf16
  | 0 => extractStridedSlice S16x128 ![16 * (0 % 6), 0] a (slices_rows16 0)
  | n + 1 => maximumf (rowsMax16 a n) (extractStridedSlice S16x128 ![16 * ((n + 1) % 6), 0] a (slices_rows16 (n + 1)))

/-- The lanes of the first half of a tile. -/
def loHalf : IVec S8x128 1 := cmpi .slt (iota .tc S8x128 32 [1] iota_S8x128_d1_w32) (broadcast S8x128 64#32)
def zero8 : FVec F S8x128 .f32 := broadcast S8x128 (Scalar.ofBits .f32 0x00000000#32)

/-! ## The keys -/

/-- The keys of the point's head as f32. -/
def keyF (x1 : Vec F S1x96x1024 .bf16) : FVec F S96x1024 .f32 :=
  extf .f32 (shapeCast S96x1024 x1 shapeCasts_S1x96x1024_S96x1024) bitsLt_bf16_f32
/-- Their mean over the sequence. -/
def keyMean (x1 : Vec F S1x96x1024 .bf16) : FVec F S96x1 .f32 :=
  mulf (shapeCast S96x1 (multiReduction .add [1] S96 (keyF x1) 0x00000000#32 reduces_S96x1024_S96 (.inl rfl) rfl)
    shapeCasts_S96_S96x1) (broadcast S96x1 (Scalar.ofBits .f32 0x3A800000#32))
/-- Tile `t` of the smoothed keys. -/
def keyTile (x1 : Vec F S1x96x1024 .bf16) (t : ℕ) : FVec F S96x128 .f32 :=
  subf (extractStridedSlice S96x128 ![0, 128 * (t % 8)] (keyF x1) (slices_tile t))
    (broadcastTo S96x128 (keyMean x1) broadcasts_S96x1_S96x128)
/-- The greatest magnitudes of tile `t`, row by row. -/
def keyMax (x1 : Vec F S1x96x1024 .bf16) (t : ℕ) : FVec F S8x128 .f32 := rowsMax96 (absf (keyTile x1 t)) 11
/-- Half `u` of tile `t`: its greatest magnitude over 448. -/
def keyY (x1 : Vec F S1x96x1024 .bf16) (t : ℕ) : ℕ → FVec F S8x128 .f32
  | 0 => splatY (select loHalf (keyMax x1 t) zero8)
  | _ + 1 => splatY (select loHalf zero8 (keyMax x1 t))
/-- The scale of key block `j`. -/
def keyScale (x1 : Vec F S1x96x1024 .bf16) (j : ℕ) : FVec F S8x128 .f32 := scaleV (keyY x1 (j / 2) (j % 2))
/-- The codes of tile `t`. -/
def keyCodes (x1 : Vec F S1x96x1024 .bf16) (t : ℕ) : FVec F S96x128 .fp8e4m3 :=
  truncf .fp8e4m3 (minimumf (broadcast S96x128 (Scalar.ofBits .f32 0x43E00000#32)) (maximumf (broadcast S96x128 (Scalar.ofBits .f32 0xC3E00000#32))
    (mulf (keyTile x1 t) (broadcastTo S96x128 (extractStridedSlice S1x128 ![0, 0]
      (select loHalf (invV (keyY x1 t 0)) (invV (keyY x1 t 1))) slices_S8x128_o0_0_S1x128) broadcasts_S1x128_S96x128)))) bitsLt_fp8e4m3_f32
/-- The scales of the key blocks `0..n`, block `j` in lane `j`. -/
def keyRow (x1 : Vec F S1x96x1024 .bf16) : ℕ → FVec F S8x128 .f32
  | 0 => keyScale x1 0
  | n + 1 => select (cmpi .eq (iota .tc S8x128 32 [1] iota_S8x128_d1_w32) (broadcast S8x128 (BitVec.ofNat 32 (n + 1))))
      (keyScale x1 (n + 1)) (keyRow x1 n)

theorem inb_tile (t : ℕ) : ∀ a, (![0, 0, 128 * (t % 8)] : Fin 3 → ℕ) a + S1x96x128.size a ≤ S1x96x1024.size a := fun a => by
  match a with | 0 => show 0 + 1 ≤ 1; omega | 1 => show 0 + 96 ≤ 96; omega | 2 => show 128 * (t % 8) + 128 ≤ 1024; omega
theorem inb_krows (t : ℕ) : ∀ a, (![128 * (t % 8), 0] : Fin 2 → ℕ) a + S128x96.size a ≤ S1024x96.size a := fun a => by
  match a with | 0 => show 128 * (t % 8) + 128 ≤ 1024; omega | 1 => show 0 + 96 ≤ 96; omega

/-- The store of tile `t` of the key codes. -/
def keyPiece (x1 : Vec F S1x96x1024 .bf16) (t : ℕ) : View.Piece (Elt F) S1x96x1024 .fp8e4m3 :=
  ⟨Rect.unit ![0, 0, 128 * (t % 8)] S1x96x128.size (inb_tile t),
    shapeCast S1x96x128 (keyCodes x1 t) shapeCasts_S96x128_S1x96x128⟩
/-- The store of tile `t` of the key codes, keys in rows. -/
def keyRowsPiece (x1 : Vec F S1x96x1024 .bf16) (t : ℕ) : View.Piece (Elt F) S1024x96 .fp8e4m3 :=
  ⟨Rect.unit ![128 * (t % 8), 0] S128x96.size (inb_krows t),
    shapeCast S128x96 (truncf .fp8e4m3 (transpose S128x96 [1, 0] (extf .bf16 (keyCodes x1 t) bitsLt_fp8e4m3_bf16)
      transposes_S96x128_p1_0_S128x96) bitsLt_fp8e4m3_bf16) shapeCasts_S128x96_S128x96⟩
/-- The tiles, last first. -/
def down8 : List ℕ := [7, 6, 5, 4, 3, 2, 1, 0]
/-- The row of key scales as stored. -/
def keyScaleRow (x1 : Vec F S1x96x1024 .bf16) : FVec F S1x1x16 .f32 :=
  shapeCast S1x1x16 (extractStridedSlice S1x16 ![0, 0] (keyRow x1 15) slices_S8x128_o0_0_S1x16) shapeCasts_S1x16_S1x1x16

/-! ## The values -/

def valA (x2 : Vec F S1x96x1024 .bf16) : FVec F S96x1024 .bf16 := shapeCast S96x1024 x2 shapeCasts_S1x96x1024_S96x1024
def valY (x2 : Vec F S1x96x1024 .bf16) : FVec F S96x128 .f32 :=
  mulf (broadcastTo S96x128 (shapeCast S96x1 (shapeCast S96x1 (multiReduction .maximumf [1] S96
    (extf .f32 (absf (valA x2)) bitsLt_bf16_f32) 0xFF800000#32 reduces_S96x1024_S96 (.inl rfl) rfl) shapeCasts_S96_S96x1)
      shapeCasts_S96x1_S96x1) broadcasts_S96x1_S96x128) (broadcast S96x128 (Scalar.ofBits .f32 0x3B124925#32))
def valScale (x2 : Vec F S1x96x1024 .bf16) : FVec F S96x128 .f32 := scaleV (valY x2)
def clipB {s : Shape} (x : FVec F s .bf16) : FVec F s .fp8e4m3 :=
  truncf .fp8e4m3 (minimumf (broadcast s (Scalar.truncf .bf16 bitsLt_bf16_f32 (Scalar.ofBits .f32 0x43E00000#32)))
    (maximumf (broadcast s (Scalar.truncf .bf16 bitsLt_bf16_f32 (Scalar.ofBits .f32 0xC3E00000#32))) x)) bitsLt_fp8e4m3_bf16
def valCodes (x2 : Vec F S1x96x1024 .bf16) (t : ℕ) : FVec F S96x128 .fp8e4m3 :=
  clipB (mulf (extractStridedSlice S96x128 ![0, 128 * (t % 8)] (valA x2) (slices_tile t)) (truncf .bf16 (invV (valY x2)) bitsLt_bf16_f32))
def valPiece (x2 : Vec F S1x96x1024 .bf16) (t : ℕ) : View.Piece (Elt F) S1x96x1024 .fp8e4m3 :=
  ⟨Rect.unit ![0, 0, 128 * (t % 8)] S1x96x128.size (inb_tile t),
    shapeCast S1x96x128 (valCodes x2 t) shapeCasts_S96x128_S1x96x128⟩
def valScaleRow (x2 : Vec F S1x96x1024 .bf16) : FVec F S1x1x96 .f32 :=
  shapeCast S1x1x96 (extractStridedSlice S1x96 ![0, 0] (transpose S128x96 [1, 0] (valScale x2) transposes_S96x128_p1_0_S128x96)
    slices_S128x96_o0_0_S1x96) shapeCasts_S1x96_S1x1x96

/-! ## The queries -/

/-- Head `h` of a block of queries, transposed. -/
def qryHead (xb : Vec F S1x128x384 .bf16) (h : ℕ) : FVec F S96x128 .bf16 :=
  extractStridedSlice S96x128 ![96 * (h % 4), 0] (transpose S384x128 [1, 0] (shapeCast S128x384 xb shapeCasts_S1x128x384_S128x384)
    transposes_S128x384_p1_0_S384x128) (slices_head h)
def qryMax (xb : Vec F S1x128x384 .bf16) (h : ℕ) : FVec F S16x128 .f32 :=
  extf .f32 (rowsMax16 (absf (qryHead xb h)) 5) bitsLt_bf16_f32
def qryY (xb : Vec F S1x128x384 .bf16) (h : ℕ) : FVec F S8x128 .f32 :=
  splatY (maximumf (extractStridedSlice S8x128 ![0, 0] (qryMax xb h) slices_S16x128_o0_0_S8x128)
    (extractStridedSlice S8x128 ![8, 0] (qryMax xb h) slices_S16x128_o8_0_S8x128))
def qryScale (xb : Vec F S1x128x384 .bf16) (h : ℕ) : FVec F S8x128 .f32 := scaleV (qryY xb h)
def qryCodes (xb : Vec F S1x128x384 .bf16) (h : ℕ) : FVec F S96x128 .fp8e4m3 :=
  clipB (mulf (qryHead xb h) (broadcastTo S96x128 (truncf .bf16 (extractStridedSlice S1x128 ![0, 0] (invV (qryY xb h))
    slices_S8x128_o0_0_S1x128) bitsLt_bf16_f32) broadcasts_S1x128_S96x128))

theorem inb_x (i : ℕ) : ∀ a, (![0, 128 * (i % 8), 0] : Fin 3 → ℕ) a + S1x128x384.size a ≤ S1x1024x384.size a := fun a => by
  match a with | 0 => show 0 + 1 ≤ 1; omega | 1 => show 128 * (i % 8) + 128 ≤ 1024; omega | 2 => show 0 + 384 ≤ 384; omega
theorem inb_qc (i h : ℕ) : ∀ a, (![0, 96 * (h % 4), 128 * (i % 8)] : Fin 3 → ℕ) a + S1x96x128.size a ≤ S1x384x1024.size a := fun a => by
  match a with
  | 0 => show 0 + 1 ≤ 1; omega
  | 1 => show 96 * (h % 4) + 96 ≤ 384; omega
  | 2 => show 128 * (i % 8) + 128 ≤ 1024; omega

def qryPiece (xb : ℕ → Vec F S1x128x384 .bf16) (i h : ℕ) : View.Piece (Elt F) S1x384x1024 .fp8e4m3 :=
  ⟨Rect.unit ![0, 96 * (h % 4), 128 * (i % 8)] S1x96x128.size (inb_qc i h),
    shapeCast S1x96x128 (qryCodes (xb i) h) shapeCasts_S96x128_S1x96x128⟩
def qryPieces (xb : ℕ → Vec F S1x128x384 .bf16) : List (View.Piece (Elt F) S1x384x1024 .fp8e4m3) :=
  down8.flatMap fun i => [3, 2, 1, 0].map fun h => qryPiece xb i h
/-- The scales of head `h` of the query blocks below `n`, block `i` in row `i`. -/
def qryCol (xb : ℕ → Vec F S1x128x384 .bf16) (h : ℕ) : ℕ → FVec F S8x128 .f32
  | 0 => zero8
  | n + 1 => select (cmpi .eq (iota .tc S8x128 32 [0] iota_S8x128_d0_w32) (broadcast S8x128 (BitVec.ofNat 32 n)))
      (qryScale (xb n) h) (qryCol xb h n)
/-- The row of query scales: the lanes of the point's `n` first heads over the row's own. -/
def qryAll (xb : ℕ → Vec F S1x128x384 .bf16) (g : BitVec 32) (row : FVec F S8x24 .f32) : ℕ → FVec F S8x24 .f32
  | 0 => row
  | n + 1 => select (cmpi .eq (iota .tc S8x24 32 [1] iota_S8x24_d1_w32) (broadcast S8x24 (Scalar.addi (Scalar.muli 4#32 g) (BitVec.ofNat 32 n))))
      (extractStridedSlice S8x24 ![0, 0] (qryCol xb n 8) slices_S8x128_o0_0_S8x24) (qryAll xb g row n)
def qryScaleRow (xb : ℕ → Vec F S1x128x384 .bf16) (g : BitVec 32) (row : Vec F S1x8x24 .f32) : FVec F S1x8x24 .f32 :=
  shapeCast S1x8x24 (qryAll xb g (shapeCast S8x24 (shapeCast S1x8x24 row shapeCasts_S1x8x24_S1x8x24) shapeCasts_S1x8x24_S8x24) 4) shapeCasts_S8x24_S1x8x24

/-! ## The scores

`ks j` is the scale of key block `j`, `qs i h` of query block `i` of head `h`; `kn t` the codes of tile `t` of the keys,
`qc i h` of query block `i` of head `h`. -/

theorem slices_dot (u n : ℕ) : S128x256.Slices ![64 * (u % 2), 128 * (n % 2)] S64x128 :=
  ⟨rfl, fun a => by match a with | 0 => show 64 * (u % 2) + 64 ≤ 128; omega | 1 => show 128 * (n % 2) + 128 ≤ 256; omega⟩
theorem slices_vis (u : ℕ) : S128x128.Slices ![64 * (u % 2), 0] S64x128 :=
  ⟨rfl, fun a => by match a with | 0 => show 64 * (u % 2) + 64 ≤ 128; omega | 1 => show 0 + 128 ≤ 128; omega⟩
theorem slices_acc (n : ℕ) : S96x256.Slices ![0, 128 * (n % 2)] S96x128 :=
  ⟨rfl, fun a => by match a with | 0 => show 0 + 96 ≤ 96; omega | 1 => show 128 * (n % 2) + 128 ≤ 256; omega⟩
theorem slices_sum256 (j : ℕ) : S256x128.Slices ![8 * (j % 32), 0] S8x128 :=
  ⟨rfl, fun a => by match a with | 0 => show 8 * (j % 32) + 8 ≤ 256; omega | 1 => show 0 + 128 ≤ 128; omega⟩
theorem slices_sum128 (j : ℕ) : S128x128.Slices ![8 * (j % 16), 0] S8x128 :=
  ⟨rfl, fun a => by match a with | 0 => show 8 * (j % 16) + 8 ≤ 128; omega | 1 => show 0 + 128 ≤ 128; omega⟩
theorem inb_score (i h t u : ℕ) : ∀ a, (![i % 2, 128 * (t % 8) + 64 * (u % 2), 128 * (h % 4)] : Fin 3 → ℕ) a + S1x64x128.size a ≤ S2x1024x512.size a := fun a => by
  match a with
  | 0 => show i % 2 + 1 ≤ 2; omega
  | 1 => show 128 * (t % 8) + 64 * (u % 2) + 64 ≤ 1024; omega
  | 2 => show 128 * (h % 4) + 128 ≤ 512; omega

/-- The keys a tile on the diagonal shows its queries. -/
def visible : IVec S128x128 1 :=
  cmpi .sle (iota .tc S128x128 32 [0] iota_S128x128_d0_w32) (iota .tc S128x128 32 [1] iota_S128x128_d1_w32)

section
variable (ks : ℕ → FVec F S8x128 .f32) (qs : ℕ → ℕ → FVec F S8x128 .f32) (kn : ℕ → Vec F S128x96 .fp8e4m3)
  (qc : ℕ → ℕ → Vec F S1x96x128 .fp8e4m3)

/-- Key tile `t` against query block `i` of the two heads of a pair. -/
def scoreDot (i pair t : ℕ) : FVec F S128x256 .f32 :=
  matmul dot_S128x96_S96x256_S128x256_1_0_0_1_n_n none (kn t) (concatenate S96x256 1
    [⟨S96x128, shapeCast S96x128 (qc i (2 * pair)) shapeCasts_S1x96x128_S96x128⟩,
      ⟨S96x128, shapeCast S96x128 (qc i (2 * pair + 1)) shapeCasts_S1x96x128_S96x128⟩] concatenates_S96x128_S96x128_S96x256_d1)
    (constant S128x256 .f32 0x00000000#32)
/-- Half `u` of key tile `t` against query block `i` of head `h`, scaled. -/
def scoreRaw (i h t u : ℕ) : FVec F S64x128 .f32 :=
  mulf (extractStridedSlice S64x128 ![64 * (u % 2), 128 * (h % 2)] (scoreDot kn qc i (h / 2) t) (slices_dot u h))
    (broadcastTo S64x128 (extractStridedSlice S1x128 ![0, 0] (mulf (ks (2 * t + u)) (mulf (qs i h)
      (broadcast S8x128 (Named.named κ "score_log2" 0x3E16C740#32)))) slices_S8x128_o0_0_S1x128) broadcasts_S1x128_S64x128)
/-- The same, a diagonal tile's hidden entries -∞. -/
def scoreBlk (i h t u : ℕ) : FVec F S64x128 .f32 :=
  if t = i then select (extractStridedSlice S64x128 ![64 * (u % 2), 0] visible (slices_vis u)) (scoreRaw ks qs kn qc i h t u)
    (broadcast S64x128 (Scalar.ofBits .f32 0xFF800000#32)) else scoreRaw ks qs kn qc i h t u
/-- Its store. -/
def scorePiece (i h t u : ℕ) : View.Piece (Elt F) S2x1024x512 .f32 :=
  ⟨Rect.unit ![i % 2, 128 * (t % 8) + 64 * (u % 2), 128 * (h % 4)] S1x64x128.size (inb_score i h t u),
    shapeCast S1x64x128 (scoreBlk ks qs kn qc i h t u) shapeCasts_S64x128_S1x64x128⟩
def downFrom : ℕ → List ℕ | 0 => [0] | n + 1 => (n + 1) :: downFrom n
/-- The stores of query block `i`, last first. -/
def scoresOf (i : ℕ) : List (View.Piece (Elt F) S2x1024x512 .f32) :=
  [1, 0].flatMap fun pair => (downFrom i).flatMap fun t => [1, 0].flatMap fun n => [1, 0].map fun u =>
    scorePiece ks qs kn qc i (2 * pair + n) t u
/-- The stores of the query blocks up to `i`, last first. -/
def scoresUpTo : ℕ → List (View.Piece (Elt F) S2x1024x512 .f32)
  | 0 => scoresOf ks qs kn qc 0
  | i + 1 => scoresOf ks qs kn qc (i + 1) ++ scoresUpTo i
/-- Row by row, the greatest score of the half tiles `0..j`. -/
def scoreMaxAt (i h : ℕ) : ℕ → FVec F S8x128 .f32
  | 0 => rowsMax64 (scoreBlk ks qs kn qc i h 0 0) 7
  | j + 1 => maximumf (scoreMaxAt i h j) (rowsMax64 (scoreBlk ks qs kn qc i h ((j + 1) / 2) ((j + 1) % 2)) 7)
/-- Each query's greatest score, less 8. -/
def scoreTop (i h : ℕ) : FVec F S1x128 .f32 :=
  subf (shapeCast S1x128 (multiReduction .maximumf [0] S128 (scoreMaxAt ks qs kn qc i h (2 * i + 1)) 0xFF800000#32 reduces_S8x128_S128
    (.inl rfl) rfl) shapeCasts_S128_S1x128) (broadcast S1x128 (Scalar.ofBits .f32 0x41000000#32))
end

/-! ## The weighted values

`top i h` is the scores' greatest less 8, `rd256 i h k` and `rd128 i h k` the scores of query block `i` of head `h` against the
256 (128) keys from `256 k` on, `vc256 k` and `vc128 k` the value codes of those keys. -/

section
variable (top : ℕ → ℕ → FVec F S1x128 .f32) (rd256 : ℕ → ℕ → ℕ → Vec F S1x256x128 .f32) (rd128 : ℕ → ℕ → ℕ → Vec F S1x128x128 .f32)
  (vc256 : ℕ → Vec F S1x96x256 .fp8e4m3) (vc128 : ℕ → Vec F S1x96x128 .fp8e4m3) (vsc : FVec F S96x128 .f32)

def prob256 (i h k : ℕ) : FVec F S256x128 .f32 :=
  exp2 (subf (shapeCast S256x128 (rd256 i h k) shapeCasts_S1x256x128_S256x128) (broadcastTo S256x128 (top i h) broadcasts_S1x128_S256x128))
def prob128 (i h k : ℕ) : FVec F S128x128 .f32 :=
  exp2 (subf (shapeCast S128x128 (rd128 i h k) shapeCasts_S1x128x128_S128x128) (broadcastTo S128x128 (top i h) broadcasts_S1x128_S128x128))
/-- `acc` and the first `n` row groups of `p`. -/
def sum256 (p : FVec F S256x128 .f32) (acc : FVec F S8x128 .f32) : ℕ → FVec F S8x128 .f32
  | 0 => acc
  | n + 1 => addf (sum256 p acc n) (extractStridedSlice S8x128 ![8 * (n % 32), 0] p (slices_sum256 n))
def sum128 (p : FVec F S128x128 .f32) (acc : FVec F S8x128 .f32) : ℕ → FVec F S8x128 .f32
  | 0 => acc
  | n + 1 => addf (sum128 p acc n) (extractStridedSlice S8x128 ![8 * (n % 16), 0] p (slices_sum128 n))
/-- The weights' sums over the first `k` groups of 256 keys. -/
def sumsAt (i h : ℕ) : ℕ → FVec F S8x128 .f32
  | 0 => zero8
  | k + 1 => sum256 (prob256 top rd256 i h k) (sumsAt i h k) 32
/-- The weights' sums over all keys of the query block. -/
def sums (i h : ℕ) : FVec F S8x128 .f32 :=
  if i % 2 = 0 then sum128 (prob128 top rd128 i h ((i + 1) / 2)) (sumsAt top rd256 i h ((i + 1) / 2)) 16
  else sumsAt top rd256 i h ((i + 1) / 2)
/-- The weights' codes. -/
def clipP {s : Shape} (p : FVec F s .f32) : FVec F s .fp8e4m3 :=
  truncf .fp8e4m3 (minimumf (broadcast s (Scalar.ofBits .f32 0x43E00000#32)) (maximumf (broadcast s (Scalar.ofBits .f32 0x00000000#32)) p)) bitsLt_fp8e4m3_f32
def dot256 (i pair k : ℕ) : FVec F S96x256 .f32 :=
  matmul dot_S96x256_S256x256_S96x256_1_0_0_1_n_n none (shapeCast S96x256 (vc256 k) shapeCasts_S1x96x256_S96x256)
    (concatenate S256x256 1 [⟨S256x128, clipP (prob256 top rd256 i (2 * pair) k)⟩, ⟨S256x128, clipP (prob256 top rd256 i (2 * pair + 1) k)⟩]
      concatenates_S256x128_S256x128_S256x256_d1) (constant S96x256 .f32 0x00000000#32)
def dot128 (i pair k : ℕ) : FVec F S96x256 .f32 :=
  matmul dot_S96x128_S128x256_S96x256_1_0_0_1_n_n none (shapeCast S96x128 (vc128 k) shapeCasts_S1x96x128_S96x128)
    (concatenate S128x256 1 [⟨S128x128, clipP (prob128 top rd128 i (2 * pair) k)⟩, ⟨S128x128, clipP (prob128 top rd128 i (2 * pair + 1) k)⟩]
      concatenates_S128x128_S128x128_S128x256_d1) (constant S96x256 .f32 0x00000000#32)
/-- The weighted values over the groups `0..k` of 256 keys. -/
def accAt (i pair : ℕ) : ℕ → FVec F S96x256 .f32
  | 0 => dot256 top rd256 vc256 i pair 0
  | k + 1 => addf (accAt i pair k) (dot256 top rd256 vc256 i pair (k + 1))
/-- The weighted values over all keys of the query block. -/
def acc (i pair : ℕ) : FVec F S96x256 .f32 :=
  if i = 0 then dot128 top rd128 vc128 0 pair 0
  else if i % 2 = 0 then addf (accAt top rd256 vc256 i pair ((i + 1) / 2 - 1)) (dot128 top rd128 vc128 i pair ((i + 1) / 2))
  else accAt top rd256 vc256 i pair ((i + 1) / 2 - 1)
/-- The outputs of query block `i` of head `h`, transposed. -/
def outCol (i h : ℕ) : FVec F S96x128 .bf16 :=
  truncf .bf16 (mulf (mulf (extractStridedSlice S96x128 ![0, 128 * (h % 2)] (acc top rd256 rd128 vc256 vc128 i (h / 2)) (slices_acc h)) vsc)
    (broadcastTo S96x128 (divf (broadcast S1x128 (Scalar.ofBits .f32 0x3F800000#32)) (shapeCast S1x128 (multiReduction .add [0] S128
      (sums top rd256 rd128 i h) 0x00000000#32 reduces_S8x128_S128 (.inl rfl) rfl) shapeCasts_S128_S1x128)) broadcasts_S1x128_S96x128)) bitsLt_bf16_f32
/-- Their store. -/
def outPiece (i : ℕ) : View.Piece (Elt F) S1x1024x384 .bf16 :=
  ⟨Rect.unit ![0, 128 * (i % 8), 0] S1x128x384.size (inb_x i),
    shapeCast S1x128x384 (transpose S128x384 [1, 0] (concatenate S384x128 0
      [⟨S96x128, outCol top rd256 rd128 vc256 vc128 vsc i 0⟩, ⟨S96x128, outCol top rd256 rd128 vc256 vc128 vsc i 1⟩,
        ⟨S96x128, outCol top rd256 rd128 vc256 vc128 vsc i 2⟩, ⟨S96x128, outCol top rd256 rd128 vc256 vc128 vsc i 3⟩]
      concatenates_S96x128_S96x128_S96x128_S96x128_S384x128_d0) transposes_S384x128_p1_0_S128x384) shapeCasts_S128x384_S1x128x384⟩
end

/-! ## The loads of what the point has stored -/

theorem inb_vals (k : ℕ) : ∀ a, (![0, 0, 256 * (k % 4)] : Fin 3 → ℕ) a + S1x96x256.size a ≤ S1x96x1024.size a := fun a => by
  match a with | 0 => show 0 + 1 ≤ 1; omega | 1 => show 0 + 96 ≤ 96; omega | 2 => show 256 * (k % 4) + 256 ≤ 1024; omega
theorem inb_vals' (k : ℕ) : ∀ a, (![0, 0, 256 * (k % 4)] : Fin 3 → ℕ) a + S1x96x128.size a ≤ S1x96x1024.size a := fun a => by
  match a with | 0 => show 0 + 1 ≤ 1; omega | 1 => show 0 + 96 ≤ 96; omega | 2 => show 256 * (k % 4) + 128 ≤ 1024; omega
theorem inb_rd256 (i h k : ℕ) : ∀ a, (![i % 2, 256 * (k % 4), 128 * (h % 4)] : Fin 3 → ℕ) a + S1x256x128.size a ≤ S2x1024x512.size a := fun a => by
  match a with | 0 => show i % 2 + 1 ≤ 2; omega | 1 => show 256 * (k % 4) + 256 ≤ 1024; omega | 2 => show 128 * (h % 4) + 128 ≤ 512; omega
theorem inb_rd128 (i h k : ℕ) : ∀ a, (![i % 2, 256 * (k % 4), 128 * (h % 4)] : Fin 3 → ℕ) a + S1x128x128.size a ≤ S2x1024x512.size a := fun a => by
  match a with | 0 => show i % 2 + 1 ≤ 2; omega | 1 => show 256 * (k % 4) + 128 ≤ 1024; omega | 2 => show 128 * (h % 4) + 128 ≤ 512; omega

section
variable (arg6 : Memref sig .tc .vmem S1x384x1024 .fp8e4m3) (arg10 : Memref sig .tc .vmem S1x96x1024 .fp8e4m3)
  (arg12 : Memref sig .tc .vmem S1024x96 .fp8e4m3) (arg13 : Memref sig .tc .vmem S2x1024x512 .f32)
  (xb : ℕ → Vec F S1x128x384 .bf16) (x1 x2 : Vec F S1x96x1024 .bf16)

def knRead (t : ℕ) : Vec F S128x96 .fp8e4m3 :=
  arg12.view.readCov (down8.map (keyRowsPiece x1)) (Rect.unit (s := S1024x96) ![128 * (t % 8), 0] S128x96.size (inb_krows t)).toLoadRect
def qcRead (i h : ℕ) : Vec F S1x96x128 .fp8e4m3 :=
  arg6.view.readCov (qryPieces xb) (Rect.unit (s := S1x384x1024) ![0, 96 * (h % 4), 128 * (i % 8)] S1x96x128.size (inb_qc i h)).toLoadRect
def vcRead256 (k : ℕ) : Vec F S1x96x256 .fp8e4m3 :=
  arg10.view.readCov (down8.map (valPiece x2)) (Rect.unit (s := S1x96x1024) ![0, 0, 256 * (k % 4)] S1x96x256.size (inb_vals k)).toLoadRect
def vcRead128 (k : ℕ) : Vec F S1x96x128 .fp8e4m3 :=
  arg10.view.readCov (down8.map (valPiece x2)) (Rect.unit (s := S1x96x1024) ![0, 0, 256 * (k % 4)] S1x96x128.size (inb_vals' k)).toLoadRect
/-- The point's score stores up to query block `i`. -/
def scoreList (i : ℕ) : List (View.Piece (Elt F) S2x1024x512 .f32) :=
  scoresUpTo (keyScale x1) (fun i h => qryScale (xb i) h) (knRead arg12 x1) (qcRead arg6 xb) i
def sRead256 (i h k : ℕ) : Vec F S1x256x128 .f32 :=
  arg13.view.readCov (scoreList arg6 arg12 xb x1 (min (i + 1) 7)) (Rect.unit (s := S2x1024x512) ![i % 2, 256 * (k % 4), 128 * (h % 4)] S1x256x128.size (inb_rd256 i h k)).toLoadRect
def sRead128 (i h k : ℕ) : Vec F S1x128x128 .f32 :=
  arg13.view.readCov (scoreList arg6 arg12 xb x1 (min (i + 1) 7)) (Rect.unit (s := S2x1024x512) ![i % 2, 256 * (k % 4), 128 * (h % 4)] S1x128x128.size (inb_rd128 i h k)).toLoadRect
/-- The stores of the output, last first. -/
def outPieces : List (View.Piece (Elt F) S1x1024x384 .bf16) :=
  down8.map (outPiece (scoreTop (keyScale x1) (fun i h => qryScale (xb i) h) (knRead arg12 x1) (qcRead arg6 xb))
    (sRead256 arg6 arg12 arg13 xb x1) (sRead128 arg6 arg12 arg13 xb x1) (vcRead256 arg10 x2) (vcRead128 arg10 x2) (valScale x2))
end

end Cert.KernelIdeal.Gen

end
-- ==== Proof.RunModel.lean ====
/- The body's stores are the model's. -/
module

public import proofs.«01_k».proof.Proof.Body
public import proofs.«01_k».proof.Proof.Model

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The whole load of the keys. -/
abbrev load1 (arg3 : Memref sig .tc .vmem S1x96x1024 .bf16) (harg3 : arg3.IsWhole) (x1 : Vec F S1x96x1024 .bf16) : Vec F S1x96x1024 .bf16 :=
  View.readAt (Elt F) arg3.view (Rect.unit (s := S1x96x1024) ![0, 0, 0] S1x96x1024.size inb_S1x96x1024_S1x96x1024_0_0_0).toLoadRect (harg3.unread x1)

/-- The load of query block `i`. -/
abbrev load0 (arg2 : Memref sig .tc .vmem S1x1024x384 .bf16) (harg2 : arg2.IsWhole) (x0 : Vec F S1x1024x384 .bf16) (i : ℕ) : Vec F S1x128x384 .bf16 :=
  View.readAt (Elt F) arg2.view (Rect.unit (s := S1x1024x384) ![0, 128 * (i % 8), 0] S1x128x384.size (inb_x i)).toLoadRect (harg2.unread x0)

section
variable (c : Dev nD) (i : grid0.Coords) (arg2 : Memref sig .tc .vmem S1x1024x384 .bf16) (harg2 : arg2.IsWhole) (arg3 : Memref sig .tc .vmem S1x96x1024 .bf16) (harg3 : arg3.IsWhole) (arg4 : Memref sig .tc .vmem S1x96x1024 .bf16) (harg4 : arg4.IsWhole) (arg5 : Memref sig .tc .vmem S1x1024x384 .bf16) (harg5 : arg5.IsWhole) (arg6 : Memref sig .tc .vmem S1x384x1024 .fp8e4m3) (harg6 : arg6.IsWhole) (arg7 : Memref sig .tc .vmem S2x8x24 .f32) (harg7 : arg7.IsWhole) (arg8 : Memref sig .tc .vmem S1x96x1024 .fp8e4m3) (harg8 : arg8.IsWhole) (arg9 : Memref sig .tc .vmem S1x2x16 .f32) (harg9 : arg9.IsWhole) (arg10 : Memref sig .tc .vmem S1x96x1024 .fp8e4m3) (harg10 : arg10.IsWhole) (arg11 : Memref sig .tc .vmem S1x2x96 .f32) (harg11 : arg11.IsWhole) (arg12 : Memref sig .tc .vmem S1024x96 .fp8e4m3) (harg12 : arg12.IsWhole) (arg13 : Memref sig .tc .vmem S2x1024x512 .f32) (harg13 : arg13.IsWhole)
    (x0 : Vec F S1x1024x384 .bf16) (x1 : Vec F S1x96x1024 .bf16) (x2 : Vec F S1x96x1024 .bf16)
    (x5 : Vec F S2x8x24 .f32) (x7 : Vec F S1x2x16 .f32) (x9 : Vec F S1x2x96 .f32)

theorem run_o : (kernelRun c i arg2 harg2 arg3 harg3 arg4 harg4 arg5 harg5 arg6 harg6 arg7 harg7 arg8 harg8 arg9 harg9 arg10 harg10 arg11 harg11 arg12 harg12 arg13 harg13 x0 x1 x2 x5 x7 x9).1 = (outPieces arg6 arg10 arg12 arg13 (load0 arg2 harg2 x0) (load1 arg3 harg3 x1) (load1 arg4 harg4 x2)) := by sl_kernel_rfl
theorem run_qc : (kernelRun c i arg2 harg2 arg3 harg3 arg4 harg4 arg5 harg5 arg6 harg6 arg7 harg7 arg8 harg8 arg9 harg9 arg10 harg10 arg11 harg11 arg12 harg12 arg13 harg13 x0 x1 x2 x5 x7 x9).2.1 = (qryPieces (load0 arg2 harg2 x0)) := by sl_kernel_rfl
theorem run_qs : (kernelRun c i arg2 harg2 arg3 harg3 arg4 harg4 arg5 harg5 arg6 harg6 arg7 harg7 arg8 harg8 arg9 harg9 arg10 harg10 arg11 harg11 arg12 harg12 arg13 harg13 x0 x1 x2 x5 x7 x9).2.2.1 = (arg7.view.writes (Elt F) (harg7.unread x5) [⟨Rect.unit (s := S2x8x24) (k0_off3 i) S1x8x24.size (k0_off3_inb i), qryScaleRow (load0 arg2 harg2 x0) (BitVec.ofNat 32 (i 0).val) (View.readAt (Elt F) arg7.view (Rect.unit (s := S2x8x24) (k0_off3 i) S1x8x24.size (k0_off3_inb i)).toLoadRect (harg7.unread x5))⟩]) := by sl_kernel_rfl
theorem run_kc : (kernelRun c i arg2 harg2 arg3 harg3 arg4 harg4 arg5 harg5 arg6 harg6 arg7 harg7 arg8 harg8 arg9 harg9 arg10 harg10 arg11 harg11 arg12 harg12 arg13 harg13 x0 x1 x2 x5 x7 x9).2.2.2.1 = (down8.map (keyPiece (load1 arg3 harg3 x1))) := by sl_kernel_rfl
theorem run_ks : (kernelRun c i arg2 harg2 arg3 harg3 arg4 harg4 arg5 harg5 arg6 harg6 arg7 harg7 arg8 harg8 arg9 harg9 arg10 harg10 arg11 harg11 arg12 harg12 arg13 harg13 x0 x1 x2 x5 x7 x9).2.2.2.2.1 = (arg9.view.writes (Elt F) (harg9.unread x7) [⟨Rect.unit (s := S1x2x16) (k0_off1 i) S1x1x16.size (k0_off1_inb i), keyScaleRow (load1 arg3 harg3 x1)⟩]) := by sl_kernel_rfl
theorem run_vc : (kernelRun c i arg2 harg2 arg3 harg3 arg4 harg4 arg5 harg5 arg6 harg6 arg7 harg7 arg8 harg8 arg9 harg9 arg10 harg10 arg11 harg11 arg12 harg12 arg13 harg13 x0 x1 x2 x5 x7 x9).2.2.2.2.2.1 = (down8.map (valPiece (load1 arg4 harg4 x2))) := by sl_kernel_rfl
theorem run_vs : (kernelRun c i arg2 harg2 arg3 harg3 arg4 harg4 arg5 harg5 arg6 harg6 arg7 harg7 arg8 harg8 arg9 harg9 arg10 harg10 arg11 harg11 arg12 harg12 arg13 harg13 x0 x1 x2 x5 x7 x9).2.2.2.2.2.2.1 = (arg11.view.writes (Elt F) (harg11.unread x9) [⟨Rect.unit (s := S1x2x96) (k0_off2 i) S1x1x96.size (k0_off2_inb i), valScaleRow (load1 arg4 harg4 x2)⟩]) := by sl_kernel_rfl
theorem run_t0 : (kernelRun c i arg2 harg2 arg3 harg3 arg4 harg4 arg5 harg5 arg6 harg6 arg7 harg7 arg8 harg8 arg9 harg9 arg10 harg10 arg11 harg11 arg12 harg12 arg13 harg13 x0 x1 x2 x5 x7 x9).2.2.2.2.2.2.2.1 = (down8.map (keyRowsPiece (load1 arg3 harg3 x1))) := by sl_kernel_rfl
theorem run_t1 : (kernelRun c i arg2 harg2 arg3 harg3 arg4 harg4 arg5 harg5 arg6 harg6 arg7 harg7 arg8 harg8 arg9 harg9 arg10 harg10 arg11 harg11 arg12 harg12 arg13 harg13 x0 x1 x2 x5 x7 x9).2.2.2.2.2.2.2.2.1 = (scoreList arg6 arg12 (load0 arg2 harg2 x0) (load1 arg3 harg3 x1) 7) := by sl_kernel_rfl

/-- The body's triple, with what it leaves in each buffer given. -/
def Leaves (L3 : List (View.Piece (Elt F) S1x1024x384 .bf16)) (L4 : List (View.Piece (Elt F) S1x384x1024 .fp8e4m3)) (G5 : Buf (Elt F) (arg7.view.loc (c : Thread nD τ))) (L6 : List (View.Piece (Elt F) S1x96x1024 .fp8e4m3)) (G7 : Buf (Elt F) (arg9.view.loc (c : Thread nD τ))) (L8 : List (View.Piece (Elt F) S1x96x1024 .fp8e4m3)) (G9 : Buf (Elt F) (arg11.view.loc (c : Thread nD τ))) (LT0 : List (View.Piece (Elt F) S1024x96 .fp8e4m3)) (LT1 : List (View.Piece (Elt F) S2x1024x512 .f32)) : Prop :=
  ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare x5 ∗ (∃ d, owns (c : Thread nD τ) arg8 fullShare d) ∗ owns (c : Thread nD τ) arg9 fullShare x7 ∗ (∃ d, owns (c : Thread nD τ) arg10 fullShare d) ∗ owns (c : Thread nD τ) arg11 fullShare x9 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (arg7.view.loc (c : Thread nD τ) ↦[arg7.view.set]{fullShare} G5) ∗ (∃ f, arg8.view.loc (c : Thread nD τ) ↦[arg8.view.set]{fullShare} arg8.view.writes (Elt F) f L6) ∗ (arg9.view.loc (c : Thread nD τ) ↦[arg9.view.set]{fullShare} G7) ∗ (∃ f, arg10.view.loc (c : Thread nD τ) ↦[arg10.view.set]{fullShare} arg10.view.writes (Elt F) f L8) ∗ (arg11.view.loc (c : Thread nD τ) ↦[arg11.view.set]{fullShare} G9) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1)) -∗ K ⟨⟩))
                ⊢ wp frame (wpE (defs₀ (F := F)) Variants.none c none) E (cc0_sage_fp8_attention i arg2 harg2 arg3 harg3 arg4 harg4 arg5 harg5 arg6 harg6 arg7 harg7 arg8 harg8 arg9 harg9 arg10 harg10 arg11 harg11 arg12 harg12 arg13 harg13) K

theorem run_leaves : Leaves c i arg2 harg2 arg3 harg3 arg4 harg4 arg5 harg5 arg6 harg6 arg7 harg7 arg8 harg8 arg9 harg9 arg10 harg10 arg11 harg11 arg12 harg12 arg13 harg13 x0 x1 x2 x5 x7 x9
    (kernelRun c i arg2 harg2 arg3 harg3 arg4 harg4 arg5 harg5 arg6 harg6 arg7 harg7 arg8 harg8 arg9 harg9 arg10 harg10 arg11 harg11 arg12 harg12 arg13 harg13 x0 x1 x2 x5 x7 x9).1 (kernelRun c i arg2 harg2 arg3 harg3 arg4 harg4 arg5 harg5 arg6 harg6 arg7 harg7 arg8 harg8 arg9 harg9 arg10 harg10 arg11 harg11 arg12 harg12 arg13 harg13 x0 x1 x2 x5 x7 x9).2.1 (kernelRun c i arg2 harg2 arg3 harg3 arg4 harg4 arg5 harg5 arg6 harg6 arg7 harg7 arg8 harg8 arg9 harg9 arg10 harg10 arg11 harg11 arg12 harg12 arg13 harg13 x0 x1 x2 x5 x7 x9).2.2.1 (kernelRun c i arg2 harg2 arg3 harg3 arg4 harg4 arg5 harg5 arg6 harg6 arg7 harg7 arg8 harg8 arg9 harg9 arg10 harg10 arg11 harg11 arg12 harg12 arg13 harg13 x0 x1 x2 x5 x7 x9).2.2.2.1 (kernelRun c i arg2 harg2 arg3 harg3 arg4 harg4 arg5 harg5 arg6 harg6 arg7 harg7 arg8 harg8 arg9 harg9 arg10 harg10 arg11 harg11 arg12 harg12 arg13 harg13 x0 x1 x2 x5 x7 x9).2.2.2.2.1 (kernelRun c i arg2 harg2 arg3 harg3 arg4 harg4 arg5 harg5 arg6 harg6 arg7 harg7 arg8 harg8 arg9 harg9 arg10 harg10 arg11 harg11 arg12 harg12 arg13 harg13 x0 x1 x2 x5 x7 x9).2.2.2.2.2.1 (kernelRun c i arg2 harg2 arg3 harg3 arg4 harg4 arg5 harg5 arg6 harg6 arg7 harg7 arg8 harg8 arg9 harg9 arg10 harg10 arg11 harg11 arg12 harg12 arg13 harg13 x0 x1 x2 x5 x7 x9).2.2.2.2.2.2.1 (kernelRun c i arg2 harg2 arg3 harg3 arg4 harg4 arg5 harg5 arg6 harg6 arg7 harg7 arg8 harg8 arg9 harg9 arg10 harg10 arg11 harg11 arg12 harg12 arg13 harg13 x0 x1 x2 x5 x7 x9).2.2.2.2.2.2.2.1 (kernelRun c i arg2 harg2 arg3 harg3 arg4 harg4 arg5 harg5 arg6 harg6 arg7 harg7 arg8 harg8 arg9 harg9 arg10 harg10 arg11 harg11 arg12 harg12 arg13 harg13 x0 x1 x2 x5 x7 x9).2.2.2.2.2.2.2.2.1 :=
  (kernelRun c i arg2 harg2 arg3 harg3 arg4 harg4 arg5 harg5 arg6 harg6 arg7 harg7 arg8 harg8 arg9 harg9 arg10 harg10 arg11 harg11 arg12 harg12 arg13 harg13 x0 x1 x2 x5 x7 x9).2.2.2.2.2.2.2.2.2

theorem run_as (L3 : List (View.Piece (Elt F) S1x1024x384 .bf16)) (L4 : List (View.Piece (Elt F) S1x384x1024 .fp8e4m3)) (G5 : Buf (Elt F) (arg7.view.loc (c : Thread nD τ))) (L6 : List (View.Piece (Elt F) S1x96x1024 .fp8e4m3)) (G7 : Buf (Elt F) (arg9.view.loc (c : Thread nD τ))) (L8 : List (View.Piece (Elt F) S1x96x1024 .fp8e4m3)) (G9 : Buf (Elt F) (arg11.view.loc (c : Thread nD τ))) (LT0 : List (View.Piece (Elt F) S1024x96 .fp8e4m3)) (LT1 : List (View.Piece (Elt F) S2x1024x512 .f32))
    (hL3 : (kernelRun c i arg2 harg2 arg3 harg3 arg4 harg4 arg5 harg5 arg6 harg6 arg7 harg7 arg8 harg8 arg9 harg9 arg10 harg10 arg11 harg11 arg12 harg12 arg13 harg13 x0 x1 x2 x5 x7 x9).1 = L3)
    (hL4 : (kernelRun c i arg2 harg2 arg3 harg3 arg4 harg4 arg5 harg5 arg6 harg6 arg7 harg7 arg8 harg8 arg9 harg9 arg10 harg10 arg11 harg11 arg12 harg12 arg13 harg13 x0 x1 x2 x5 x7 x9).2.1 = L4)
    (hG5 : (kernelRun c i arg2 harg2 arg3 harg3 arg4 harg4 arg5 harg5 arg6 harg6 arg7 harg7 arg8 harg8 arg9 harg9 arg10 harg10 arg11 harg11 arg12 harg12 arg13 harg13 x0 x1 x2 x5 x7 x9).2.2.1 = G5)
    (hL6 : (kernelRun c i arg2 harg2 arg3 harg3 arg4 harg4 arg5 harg5 arg6 harg6 arg7 harg7 arg8 harg8 arg9 harg9 arg10 harg10 arg11 harg11 arg12 harg12 arg13 harg13 x0 x1 x2 x5 x7 x9).2.2.2.1 = L6)
    (hG7 : (kernelRun c i arg2 harg2 arg3 harg3 arg4 harg4 arg5 harg5 arg6 harg6 arg7 harg7 arg8 harg8 arg9 harg9 arg10 harg10 arg11 harg11 arg12 harg12 arg13 harg13 x0 x1 x2 x5 x7 x9).2.2.2.2.1 = G7)
    (hL8 : (kernelRun c i arg2 harg2 arg3 harg3 arg4 harg4 arg5 harg5 arg6 harg6 arg7 harg7 arg8 harg8 arg9 harg9 arg10 harg10 arg11 harg11 arg12 harg12 arg13 harg13 x0 x1 x2 x5 x7 x9).2.2.2.2.2.1 = L8)
    (hG9 : (kernelRun c i arg2 harg2 arg3 harg3 arg4 harg4 arg5 harg5 arg6 harg6 arg7 harg7 arg8 harg8 arg9 harg9 arg10 harg10 arg11 harg11 arg12 harg12 arg13 harg13 x0 x1 x2 x5 x7 x9).2.2.2.2.2.2.1 = G9)
    (hLT0 : (kernelRun c i arg2 harg2 arg3 harg3 arg4 harg4 arg5 harg5 arg6 harg6 arg7 harg7 arg8 harg8 arg9 harg9 arg10 harg10 arg11 harg11 arg12 harg12 arg13 harg13 x0 x1 x2 x5 x7 x9).2.2.2.2.2.2.2.1 = LT0)
    (hLT1 : (kernelRun c i arg2 harg2 arg3 harg3 arg4 harg4 arg5 harg5 arg6 harg6 arg7 harg7 arg8 harg8 arg9 harg9 arg10 harg10 arg11 harg11 arg12 harg12 arg13 harg13 x0 x1 x2 x5 x7 x9).2.2.2.2.2.2.2.2.1 = LT1)
    : Leaves c i arg2 harg2 arg3 harg3 arg4 harg4 arg5 harg5 arg6 harg6 arg7 harg7 arg8 harg8 arg9 harg9 arg10 harg10 arg11 harg11 arg12 harg12 arg13 harg13 x0 x1 x2 x5 x7 x9 L3 L4 G5 L6 G7 L8 G9 LT0 LT1 := by
  subst hL3 hL4 hG5 hL6 hG7 hL8 hG9 hLT0 hLT1
  exact run_leaves c i arg2 harg2 arg3 harg3 arg4 harg4 arg5 harg5 arg6 harg6 arg7 harg7 arg8 harg8 arg9 harg9 arg10 harg10 arg11 harg11 arg12 harg12 arg13 harg13 x0 x1 x2 x5 x7 x9

/-- The body's run: what it leaves, by the model. -/
theorem run_model : Leaves c i arg2 harg2 arg3 harg3 arg4 harg4 arg5 harg5 arg6 harg6 arg7 harg7 arg8 harg8 arg9 harg9 arg10 harg10 arg11 harg11 arg12 harg12 arg13 harg13 x0 x1 x2 x5 x7 x9
    (outPieces arg6 arg10 arg12 arg13 (load0 arg2 harg2 x0) (load1 arg3 harg3 x1) (load1 arg4 harg4 x2))
    (qryPieces (load0 arg2 harg2 x0))
    (arg7.view.writes (Elt F) (harg7.unread x5) [⟨Rect.unit (s := S2x8x24) (k0_off3 i) S1x8x24.size (k0_off3_inb i), qryScaleRow (load0 arg2 harg2 x0) (BitVec.ofNat 32 (i 0).val) (View.readAt (Elt F) arg7.view (Rect.unit (s := S2x8x24) (k0_off3 i) S1x8x24.size (k0_off3_inb i)).toLoadRect (harg7.unread x5))⟩])
    (down8.map (keyPiece (load1 arg3 harg3 x1)))
    (arg9.view.writes (Elt F) (harg9.unread x7) [⟨Rect.unit (s := S1x2x16) (k0_off1 i) S1x1x16.size (k0_off1_inb i), keyScaleRow (load1 arg3 harg3 x1)⟩])
    (down8.map (valPiece (load1 arg4 harg4 x2)))
    (arg11.view.writes (Elt F) (harg11.unread x9) [⟨Rect.unit (s := S1x2x96) (k0_off2 i) S1x1x96.size (k0_off2_inb i), valScaleRow (load1 arg4 harg4 x2)⟩])
    (down8.map (keyRowsPiece (load1 arg3 harg3 x1)))
    (scoreList arg6 arg12 (load0 arg2 harg2 x0) (load1 arg3 harg3 x1) 7) :=
  run_as c i arg2 harg2 arg3 harg3 arg4 harg4 arg5 harg5 arg6 harg6 arg7 harg7 arg8 harg8 arg9 harg9 arg10 harg10 arg11 harg11 arg12 harg12 arg13 harg13 x0 x1 x2 x5 x7 x9 _ _ _ _ _ _ _ _ _ (run_o c i arg2 harg2 arg3 harg3 arg4 harg4 arg5 harg5 arg6 harg6 arg7 harg7 arg8 harg8 arg9 harg9 arg10 harg10 arg11 harg11 arg12 harg12 arg13 harg13 x0 x1 x2 x5 x7 x9) (run_qc c i arg2 harg2 arg3 harg3 arg4 harg4 arg5 harg5 arg6 harg6 arg7 harg7 arg8 harg8 arg9 harg9 arg10 harg10 arg11 harg11 arg12 harg12 arg13 harg13 x0 x1 x2 x5 x7 x9) (run_qs c i arg2 harg2 arg3 harg3 arg4 harg4 arg5 harg5 arg6 harg6 arg7 harg7 arg8 harg8 arg9 harg9 arg10 harg10 arg11 harg11 arg12 harg12 arg13 harg13 x0 x1 x2 x5 x7 x9) (run_kc c i arg2 harg2 arg3 harg3 arg4 harg4 arg5 harg5 arg6 harg6 arg7 harg7 arg8 harg8 arg9 harg9 arg10 harg10 arg11 harg11 arg12 harg12 arg13 harg13 x0 x1 x2 x5 x7 x9) (run_ks c i arg2 harg2 arg3 harg3 arg4 harg4 arg5 harg5 arg6 harg6 arg7 harg7 arg8 harg8 arg9 harg9 arg10 harg10 arg11 harg11 arg12 harg12 arg13 harg13 x0 x1 x2 x5 x7 x9) (run_vc c i arg2 harg2 arg3 harg3 arg4 harg4 arg5 harg5 arg6 harg6 arg7 harg7 arg8 harg8 arg9 harg9 arg10 harg10 arg11 harg11 arg12 harg12 arg13 harg13 x0 x1 x2 x5 x7 x9) (run_vs c i arg2 harg2 arg3 harg3 arg4 harg4 arg5 harg5 arg6 harg6 arg7 harg7 arg8 harg8 arg9 harg9 arg10 harg10 arg11 harg11 arg12 harg12 arg13 harg13 x0 x1 x2 x5 x7 x9) (run_t0 c i arg2 harg2 arg3 harg3 arg4 harg4 arg5 harg5 arg6 harg6 arg7 harg7 arg8 harg8 arg9 harg9 arg10 harg10 arg11 harg11 arg12 harg12 arg13 harg13 x0 x1 x2 x5 x7 x9) (run_t1 c i arg2 harg2 arg3 harg3 arg4 harg4 arg5 harg5 arg6 harg6 arg7 harg7 arg8 harg8 arg9 harg9 arg10 harg10 arg11 harg11 arg12 harg12 arg13 harg13 x0 x1 x2 x5 x7 x9)

end

end Cert.KernelIdeal.Gen
-- ==== Proof.Stores.lean ====
/- What a list of stores leaves, read at an index; and what one grid point leaves in each window's buffer. -/
module

public import proofs.«01_k».proof.Proof.Model
public import Idealize.ShloMosaic.Lib.Pipeline.FrameBody
public import Idealize.ShloMosaic.Lib.Pipeline.ReadBack

@[expose] public section

noncomputable section

namespace Cert.KernelIdeal.Gen

open Idealize.ShloMosaic Idealize.SL.Sem

variable {F : FTy → Type} [FloatOps F] [Named F]

/-! ## Lists of stores -/

section
variable {s : Shape} {e : EltTy} {Val : EltTy → Type} [∀ e, Nonempty (Val e)]

/-- What the stores leave at `y`, if every one that holds `y` writes `v` there and one of them does hold it. -/
theorem canon_of_mem (y : s.Idx) (v : Val e) : ∀ (L : List (View.Piece Val s e)), (∃ p ∈ L, y ∈ p.1.set) →
    (∀ p ∈ L, ∀ x, p.1.emb x = y → p.2 x = v) → View.canon L y = v
  | [], h, _ => by obtain ⟨_, hm, _⟩ := h; exact absurd hm List.not_mem_nil
  | p :: L, h, hv => by
    by_cases hy : y ∈ p.1.set
    · obtain ⟨x, rfl⟩ : ∃ x, p.1.emb x = y := p.1.exists_idx_of_mem hy
      have := hv p List.mem_cons_self x rfl
      rw [← this]
      exact View.canon_cons_emb p.1 p.2 L x
    · rw [View.canon_cons_of_not_mem p L hy]
      refine canon_of_mem y v L ?_ fun p' hp' => hv p' (List.mem_cons_of_mem _ hp')
      obtain ⟨p', hm, hy'⟩ := h
      rcases List.mem_cons.mp hm with rfl | hm
      · exact absurd hy' hy
      · exact ⟨p', hm, hy'⟩

open Classical in
/-- One store over the contents `Y`. -/
def patch (p : View.Piece Val s e) (Y : s.Idx → Val e) : s.Idx → Val e :=
  fun y => if y ∈ p.1.set then View.canon [p] y else Y y

theorem patch_emb (p : View.Piece Val s e) (Y : s.Idx → Val e) (x : p.1.shape.Idx) : patch p Y (p.1.emb x) = p.2 x := by
  have h : p.1.emb x ∈ p.1.set := by rw [← Rect.map_emb_univ]; exact Finset.mem_map_of_mem _ (Finset.mem_univ x)
  unfold patch; rw [if_pos h]; exact View.canon_cons_emb p.1 p.2 [] x

theorem patch_of_not_mem (p : View.Piece Val s e) (Y : s.Idx → Val e) {y : s.Idx} (h : y ∉ p.1.set) : patch p Y y = Y y := by
  unfold patch; rw [if_neg h]

theorem read_writes_one {sig : RefSig} {κ : Kind} {sp : Space} (v : View sig κ sp s e) (f : v.ty.Contents Val) (p : View.Piece Val s e) :
    v.read Val (v.writes Val f [p]) = patch p (v.read Val f) := by
  funext y
  by_cases hy : y ∈ p.1.set
  · rw [View.read_writes_apply_eq_canon v f y [p] ⟨p, List.mem_singleton_self _, hy⟩]; unfold patch; rw [if_pos hy]
  · rw [patch_of_not_mem p _ hy, View.writes_cons]
    exact View.read_slice_write_of_not_mem _ _ _ _ (by rwa [Rect.map_emb_univ])
end

/-! ## The stores cover -/

theorem mem_unit {s : Shape} {off size : Fin s.rank → ℕ} (inb : ∀ a, off a + size a ≤ s.size a) (y : s.Idx)
    (h : ∀ a, off a ≤ (y a).val ∧ (y a).val < off a + size a) : y ∈ (Rect.unit off size inb).set :=
  Rect.mem_set_unit.mpr h

theorem mem_down8 {t : ℕ} (h : t < 8) : t ∈ down8 := by
  unfold down8; interval_cases t <;> decide

theorem key_cover (x1 : Vec F S1x96x1024 .bf16) (y : S1x96x1024.Idx) : ∃ p ∈ down8.map (keyPiece x1), y ∈ p.1.set := by
  have h0 : (y 0).val < 1 := (y 0).isLt
  have h1 : (y 1).val < 96 := (y 1).isLt
  have h2 : (y 2).val < 1024 := (y 2).isLt
  refine ⟨_, List.mem_map_of_mem (mem_down8 (t := (y 2).val / 128) (by omega)), mem_unit (inb_tile _) _ fun a => ?_⟩
  match a with
  | 0 => show 0 ≤ (y 0).val ∧ (y 0).val < 0 + 1; omega
  | 1 => show 0 ≤ (y 1).val ∧ (y 1).val < 0 + 96; omega
  | 2 => show 128 * ((y 2).val / 128 % 8) ≤ (y 2).val ∧ (y 2).val < 128 * ((y 2).val / 128 % 8) + 128; omega

theorem val_cover (x2 : Vec F S1x96x1024 .bf16) (y : S1x96x1024.Idx) : ∃ p ∈ down8.map (valPiece x2), y ∈ p.1.set := by
  have h0 : (y 0).val < 1 := (y 0).isLt
  have h1 : (y 1).val < 96 := (y 1).isLt
  have h2 : (y 2).val < 1024 := (y 2).isLt
  refine ⟨_, List.mem_map_of_mem (mem_down8 (t := (y 2).val / 128) (by omega)), mem_unit (inb_tile _) _ fun a => ?_⟩
  match a with
  | 0 => show 0 ≤ (y 0).val ∧ (y 0).val < 0 + 1; omega
  | 1 => show 0 ≤ (y 1).val ∧ (y 1).val < 0 + 96; omega
  | 2 => show 128 * ((y 2).val / 128 % 8) ≤ (y 2).val ∧ (y 2).val < 128 * ((y 2).val / 128 % 8) + 128; omega

theorem rows_cover (x1 : Vec F S1x96x1024 .bf16) (y : S1024x96.Idx) : ∃ p ∈ down8.map (keyRowsPiece x1), y ∈ p.1.set := by
  have h0 : (y 0).val < 1024 := (y 0).isLt
  have h1 : (y 1).val < 96 := (y 1).isLt
  refine ⟨_, List.mem_map_of_mem (mem_down8 (t := (y 0).val / 128) (by omega)), mem_unit (inb_krows _) _ fun a => ?_⟩
  match a with
  | 0 => show 128 * ((y 0).val / 128 % 8) ≤ (y 0).val ∧ (y 0).val < 128 * ((y 0).val / 128 % 8) + 128; omega
  | 1 => show 0 ≤ (y 1).val ∧ (y 1).val < 0 + 96; omega

theorem mem_qryPieces (xb : ℕ → Vec F S1x128x384 .bf16) {p : View.Piece (Elt F) S1x384x1024 .fp8e4m3} :
    p ∈ qryPieces xb ↔ ∃ i < 8, ∃ h < 4, p = qryPiece xb i h := by
  unfold qryPieces
  rw [List.mem_flatMap]
  constructor
  · rintro ⟨i, hi, hp⟩
    obtain ⟨h, hh, rfl⟩ := List.mem_map.mp hp
    refine ⟨i, ?_, h, ?_, rfl⟩
    · unfold down8 at hi; simp only [List.mem_cons, List.not_mem_nil, or_false] at hi; omega
    · simp only [List.mem_cons, List.not_mem_nil, or_false] at hh; omega
  · rintro ⟨i, hi, h, hh, rfl⟩
    refine ⟨i, mem_down8 hi, List.mem_map_of_mem ?_⟩
    simp only [List.mem_cons, List.not_mem_nil, or_false]; omega

theorem qry_cover (xb : ℕ → Vec F S1x128x384 .bf16) (y : S1x384x1024.Idx) : ∃ p ∈ qryPieces xb, y ∈ p.1.set := by
  have h0 : (y 0).val < 1 := (y 0).isLt
  have h1 : (y 1).val < 384 := (y 1).isLt
  have h2 : (y 2).val < 1024 := (y 2).isLt
  refine ⟨_, (mem_qryPieces xb).mpr ⟨(y 2).val / 128, by omega, (y 1).val / 96, by omega, rfl⟩, mem_unit (inb_qc _ _) _ fun a => ?_⟩
  match a with
  | 0 => show 0 ≤ (y 0).val ∧ (y 0).val < 0 + 1; omega
  | 1 => show 96 * ((y 1).val / 96 % 4) ≤ (y 1).val ∧ (y 1).val < 96 * ((y 1).val / 96 % 4) + 96; omega
  | 2 => show 128 * ((y 2).val / 128 % 8) ≤ (y 2).val ∧ (y 2).val < 128 * ((y 2).val / 128 % 8) + 128; omega

theorem out_cover (arg6 : Memref sig .tc .vmem S1x384x1024 .fp8e4m3) (arg10 : Memref sig .tc .vmem S1x96x1024 .fp8e4m3)
    (arg12 : Memref sig .tc .vmem S1024x96 .fp8e4m3) (arg13 : Memref sig .tc .vmem S2x1024x512 .f32)
    (xb : ℕ → Vec F S1x128x384 .bf16) (x1 x2 : Vec F S1x96x1024 .bf16) (y : S1x1024x384.Idx) :
    ∃ p ∈ outPieces arg6 arg10 arg12 arg13 xb x1 x2, y ∈ p.1.set := by
  have h0 : (y 0).val < 1 := (y 0).isLt
  have h1 : (y 1).val < 1024 := (y 1).isLt
  have h2 : (y 2).val < 384 := (y 2).isLt
  refine ⟨_, List.mem_map_of_mem (mem_down8 (t := (y 1).val / 128) (by omega)), mem_unit (inb_x _) _ fun a => ?_⟩
  match a with
  | 0 => show 0 ≤ (y 0).val ∧ (y 0).val < 0 + 1; omega
  | 1 => show 128 * ((y 1).val / 128 % 8) ≤ (y 1).val ∧ (y 1).val < 128 * ((y 1).val / 128 % 8) + 128; omega
  | 2 => show 0 ≤ (y 2).val ∧ (y 2).val < 0 + 384; omega

/-! ## The buffers after a point -/

/-- Block `i` of 128 queries. -/
def blkOf (x0 : Vec F S1x1024x384 .bf16) (i : ℕ) : Vec F S1x128x384 .bf16 :=
  fun y => x0 ((Rect.unit (s := S1x1024x384) ![0, 128 * (i % 8), 0] S1x128x384.size (inb_x i)).idx y)

/-- The store of the query scales over the row `Y` held. -/
def qsPiece (i : grid0.Coords) (x0 : Vec F S1x1024x384 .bf16) (Y : Vec F S2x8x24 .f32) : View.Piece (Elt F) S2x8x24 .f32 :=
  ⟨Rect.unit (s := S2x8x24) (k0_off3 i) S1x8x24.size (k0_off3_inb i), qryScaleRow (blkOf x0) (BitVec.ofNat 32 (i 0).val)
    fun y => Y ((Rect.unit (s := S2x8x24) (k0_off3 i) S1x8x24.size (k0_off3_inb i)).idx y)⟩
/-- The store of the key scales. -/
def ksPiece (i : grid0.Coords) (x1 : Vec F S1x96x1024 .bf16) : View.Piece (Elt F) S1x2x16 .f32 :=
  ⟨Rect.unit (s := S1x2x16) (k0_off1 i) S1x1x16.size (k0_off1_inb i), keyScaleRow x1⟩
/-- The store of the value scales. -/
def vsPiece (i : grid0.Coords) (x2 : Vec F S1x96x1024 .bf16) : View.Piece (Elt F) S1x2x96 .f32 :=
  ⟨Rect.unit (s := S1x2x96) (k0_off2 i) S1x1x96.size (k0_off2_inb i), valScaleRow x2⟩

end Cert.KernelIdeal.Gen

end
-- ==== Proof.Run.lean ====
/- The kernel's launch, with what every point leaves in its windows stated as a relation between the contents found and left. -/
module

public import proofs.«01_k».proof.Proof.RunModel
public import proofs.«01_k».proof.Proof.Stores
public import proofs.«01_k».proof.Proof.Gen.KernelIdeal.Frame
public import Idealize.ShloMosaic.Lib.Pipeline.ArrRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What a load reads -/

theorem load1_eq (arg3 : Memref sig .tc .vmem S1x96x1024 .bf16) (harg3 : arg3.IsWhole) (x1 : Vec F S1x96x1024 .bf16) : load1 arg3 harg3 x1 = x1 := by
  unfold load1
  rw [View.readAt_eq_ld, Memref.IsWhole.read_unread]
  funext y
  refine congrArg x1 (funext fun a => Fin.ext ?_)
  match a with
  | 0 => show 0 + 1 * (y 0).val = (y 0).val; omega
  | 1 => show 0 + 1 * (y 1).val = (y 1).val; omega
  | 2 => show 0 + 1 * (y 2).val = (y 2).val; omega

theorem load0_eq (arg2 : Memref sig .tc .vmem S1x1024x384 .bf16) (harg2 : arg2.IsWhole) (x0 : Vec F S1x1024x384 .bf16) :
    load0 arg2 harg2 x0 = blkOf x0 := by
  funext i
  unfold load0
  rw [View.readAt_eq_ld, Memref.IsWhole.read_unread]
  rfl

/-! ## The relations -/

/-- What point `t` leaves in the output windows: the codes and the output whole, the scales over what the window held. -/
def rel (c : Dev nD) (w : Fin cfg0.W) : Option (Fin cfg0.N → (Y X : (cfg0.win w).block.Idx → Elt F (cfg0.win w).elt) → Prop) :=
  match w with
  | ⟨3, _⟩ => some fun t Y X => X = View.canon (outPieces (ms0_4 t) (ms0_8 t) scM0_0 scM0_1 (blkOf (iblk m c 0 t)) (iblk m c 1 t) (iblk m c 2 t))
  | ⟨4, _⟩ => some fun t Y X => X = View.canon (qryPieces (blkOf (iblk m c 0 t)))
  | ⟨5, _⟩ => some fun t Y X => X = patch (qsPiece (grid0.coords t) (iblk m c 0 t) Y) Y
  | ⟨6, _⟩ => some fun t Y X => X = View.canon (down8.map (keyPiece (iblk m c 1 t)))
  | ⟨7, _⟩ => some fun t Y X => X = patch (ksPiece (grid0.coords t) (iblk m c 1 t)) Y
  | ⟨8, _⟩ => some fun t Y X => X = View.canon (down8.map (valPiece (iblk m c 2 t)))
  | ⟨9, _⟩ => some fun t Y X => X = patch (vsPiece (grid0.coords t) (iblk m c 2 t)) Y
  | _ => none

/-- The proof data: the inputs exact, the outputs by `rel`. -/
def rdat (c : Dev nD) : RDat τ (Elt F) Unit ℕ (UR sig nD τ) ℕ cfg0 c := (dats m 0 c).toR.override (rel m c)

theorem owns_canon {s : Shape} {e : EltTy} (c : Dev nD) (M : Memref sig .tc .vmem s e) (L : List (View.Piece (Elt F) s e))
    (h : ∀ y, ∃ p ∈ L, y ∈ p.1.set) :
    iprop(∃ f, M.view.loc (c : Thread nD τ) ↦[M.view.set]{fullShare} M.view.writes (Elt F) f L)
      ⊢ (owns (c : Thread nD τ) M fullShare (View.canon L) : sProp 𝕄) := by
  unfold owns
  iintro ⟨%f, H⟩
  iexists _; isplitr; swap; · iexact H
  ipureintro; exact View.read_writes_eq_canon _ _ _ h

theorem owns_patch {s : Shape} {e : EltTy} (c : Dev nD) (M : Memref sig .tc .vmem s e) (hM : M.IsWhole) (Y : s.Idx → Elt F e)
    (p : View.Piece (Elt F) s e) :
    (M.view.loc (c : Thread nD τ) ↦[M.view.set]{fullShare} M.view.writes (Elt F) (hM.unread Y) [p])
      ⊢ (owns (c : Thread nD τ) M fullShare (patch p Y) : sProp 𝕄) := by
  unfold owns
  iintro H
  iexists _; isplitr; swap; · iexact H
  ipureintro; rw [read_writes_one, Memref.IsWhole.read_unread]

theorem owns_any {s : Shape} {e : EltTy} (c : Dev nD) (M : Memref sig .tc .vmem s e) (L : List (View.Piece (Elt F) s e)) :
    iprop(∃ f, M.view.loc (c : Thread nD τ) ↦[M.view.set]{fullShare} M.view.writes (Elt F) f L)
      ⊢ (iprop(∃ d, owns (c : Thread nD τ) M fullShare d) : sProp 𝕄) := by
  unfold owns
  iintro ⟨%f, H⟩
  iexists _, _; isplitr; swap; · iexact H
  ipureintro; rfl

/-- The row of query scales a load reads of contents `Y`. -/
theorem qs_row (i : grid0.Coords) (arg7 : Memref sig .tc .vmem S2x8x24 .f32) (harg7 : arg7.IsWhole) (Y : Vec F S2x8x24 .f32) :
    View.readAt (Elt F) arg7.view (Rect.unit (s := S2x8x24) (k0_off3 i) S1x8x24.size (k0_off3_inb i)).toLoadRect (harg7.unread Y)
      = fun y => Y ((Rect.unit (s := S2x8x24) (k0_off3 i) S1x8x24.size (k0_off3_inb i)).idx y) := by
  rw [View.readAt_eq_ld, Memref.IsWhole.read_unread]

set_option maxHeartbeats 2000000 in
/-- The body at any point, from the windows' contents. -/
theorem sound_point (c : Dev nD) (t : Fin cfg0.N) (x5 : Vec F S2x8x24 .f32) (x7 : Vec F S1x2x16 .f32) (x9 : Vec F S1x2x96 .f32) :
    iprop((dats m 0 c).Φ t.castSucc ∗ (dats m 0 c).owesAt () t.castSucc
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ (∃ d, owns (c : Thread nD τ) (ms0_3 t) fullShare d)
      ∗ (∃ d, owns (c : Thread nD τ) (ms0_4 t) fullShare d)
      ∗ owns (c : Thread nD τ) (ms0_5 t) fullShare x5
      ∗ (∃ d, owns (c : Thread nD τ) (ms0_6 t) fullShare d)
      ∗ owns (c : Thread nD τ) (ms0_7 t) fullShare x7
      ∗ (∃ d, owns (c : Thread nD τ) (ms0_8 t) fullShare d)
      ∗ owns (c : Thread nD τ) (ms0_9 t) fullShare x9)
    ⊢ wp Idealize.ShloMosaic.frame (wpE (defs₀ (F := F)) Variants.none c none) Set.univ (bodyAt0 t) (fun _ =>
      iprop((dats m 0 c).Φ t.succ ∗ (dats m 0 c).owesAt () t.succ
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (View.canon (outPieces (ms0_4 t) (ms0_8 t) scM0_0 scM0_1 (blkOf (iblk m c 0 t)) (iblk m c 1 t) (iblk m c 2 t)))
      ∗ owns (c : Thread nD τ) (ms0_4 t) fullShare (View.canon (qryPieces (blkOf (iblk m c 0 t))))
      ∗ owns (c : Thread nD τ) (ms0_5 t) fullShare (patch (qsPiece (grid0.coords t) (iblk m c 0 t) x5) x5)
      ∗ owns (c : Thread nD τ) (ms0_6 t) fullShare (View.canon (down8.map (keyPiece (iblk m c 1 t))))
      ∗ owns (c : Thread nD τ) (ms0_7 t) fullShare (patch (ksPiece (grid0.coords t) (iblk m c 1 t)) x7)
      ∗ owns (c : Thread nD τ) (ms0_8 t) fullShare (View.canon (down8.map (valPiece (iblk m c 2 t))))
      ∗ owns (c : Thread nD τ) (ms0_9 t) fullShare (patch (vsPiece (grid0.coords t) (iblk m c 2 t)) x9))) := by
  unfold bodyAt0
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  iintro ⟨⟨⟨HS0, HS1⟩, Hg⟩, Ho, H0, H1, H2, ⟨%d3, H3⟩, ⟨%d4, H4⟩, H5, ⟨%d6, H6⟩, H7, ⟨%d8, H8⟩, H9⟩
  have hrun := run_model (F := F) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _)
    (iblk m c 0 t) (iblk m c 1 t) (iblk m c 2 t) x5 x7 x9
  rw [load1_eq, load1_eq, load0_eq, qs_row] at hrun
  unfold Leaves at hrun
  iapply (hrun Set.univ _)
  isplitl [H0]; · iexact H0
  isplitl [H1]; · iexact H1
  isplitl [H2]; · iexact H2
  isplitl [H3]; · iexists _; iexact H3
  isplitl [H4]; · iexists _; iexact H4
  isplitl [H5]; · iexact H5
  isplitl [H6]; · iexists _; iexact H6
  isplitl [H7]; · iexact H7
  isplitl [H8]; · iexists _; iexact H8
  isplitl [H9]; · iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iapply (owns_any c scM0_0 _) $$ HS0
      iapply (owns_any c scM0_1 _) $$ HS1
    iexact Hg
  isplitl [Ho]; · iexact Ho
  isplitl [H0]; · iexact H0
  isplitl [H1]; · iexact H1
  isplitl [H2]; · iexact H2
  isplitl [H3]; · iapply (owns_canon c (ms0_3 t) _ (out_cover _ _ _ _ _ _ _)) $$ H3
  isplitl [H4]; · iapply (owns_canon c (ms0_4 t) _ (qry_cover _)) $$ H4
  isplitl [H5]; · iapply (owns_patch c (ms0_5 t) (hs0_5 t) x5 _) $$ H5
  isplitl [H6]; · iapply (owns_canon c (ms0_6 t) _ (key_cover _)) $$ H6
  isplitl [H7]; · iapply (owns_patch c (ms0_7 t) (hs0_7 t) x7 _) $$ H7
  isplitl [H8]; · iapply (owns_canon c (ms0_8 t) _ (val_cover _)) $$ H8
  iapply (owns_patch c (ms0_9 t) (hs0_9 t) x9 _) $$ H9

theorem found0 (c : Dev nD) (t : Fin cfg0.N) (Y) (h : (rdat m c).Finds 0 t Y) : Y = iblk m c 0 t := by
  obtain ⟨d, rfl⟩ := Dat.toR_finds (dats m 0 c) 0 t Y ((RDat.override_finds (dats m 0 c).toR (ovr := rel m c) rfl t Y).mp h)
  exact before0_0 m c t d
theorem found1 (c : Dev nD) (t : Fin cfg0.N) (Y) (h : (rdat m c).Finds 1 t Y) : Y = iblk m c 1 t := by
  obtain ⟨d, rfl⟩ := Dat.toR_finds (dats m 0 c) 1 t Y ((RDat.override_finds (dats m 0 c).toR (ovr := rel m c) rfl t Y).mp h)
  exact before0_1 m c t d
theorem found2 (c : Dev nD) (t : Fin cfg0.N) (Y) (h : (rdat m c).Finds 2 t Y) : Y = iblk m c 2 t := by
  obtain ⟨d, rfl⟩ := Dat.toR_finds (dats m 0 c) 2 t Y ((RDat.override_finds (dats m 0 c).toR (ovr := rel m c) rfl t Y).mp h)
  exact before0_2 m c t d

theorem left_intro {s : Shape} {e : EltTy} (c : Dev nD) (M : Memref sig .tc .vmem s e) (X : s.Idx → Elt F e)
    (R : (s.Idx → Elt F e) → Prop) (h : R X) :
    (owns (c : Thread nD τ) M fullShare X : sProp 𝕄) ⊢ iprop(∃ X, ⌜R X⌝ ∗ owns (c : Thread nD τ) M fullShare X) := by
  iintro H
  iexists X; isplitr; swap; · iexact H
  ipureintro; exact h

theorem some_intro {s : Shape} {e : EltTy} (c : Dev nD) (M : Memref sig .tc .vmem s e) (X : s.Idx → Elt F e) :
    (owns (c : Thread nD τ) M fullShare X : sProp 𝕄) ⊢ iprop(∃ X, owns (c : Thread nD τ) M fullShare X) := by
  iintro H
  iexists X; iexact H

theorem rel_obligation (c : Dev nD) : (rdat (F := F) m c).BodyObligation (defs₀ (F := F)) Variants.none () Set.univ := fun t Y hY => by
  have h0 := found0 m c t _ (hY 0)
  have h1 := found1 m c t _ (hY 1)
  have h2 := found2 m c t _ (hY 2)
  rw [bigSep_W0, bigSep_W0, defs₀_row, h0, h1, h2]
  refine triple_restated (sound_point m c t (Y 5) (Y 7) (Y 9)) rfl ?_ fun _ => ?_
  · refine BIClass.sep_mono .rfl (BIClass.sep_mono .rfl (BIClass.sep_mono .rfl (BIClass.sep_mono .rfl (BIClass.sep_mono .rfl (BIClass.sep_mono (some_intro c _ _) (BIClass.sep_mono (some_intro c _ _)
      (BIClass.sep_mono .rfl (BIClass.sep_mono (some_intro c _ _) (BIClass.sep_mono .rfl (BIClass.sep_mono (some_intro c _ _) .rfl))))))))))
  · refine BIClass.sep_mono .rfl (BIClass.sep_mono .rfl (BIClass.sep_mono (left_intro c _ _ _ rfl) (BIClass.sep_mono (left_intro c _ _ _ rfl) (BIClass.sep_mono (left_intro c _ _ _ rfl)
      (BIClass.sep_mono (left_intro c _ _ _ rfl) (BIClass.sep_mono (left_intro c _ _ _ rfl) (BIClass.sep_mono (left_intro c _ _ _ rfl) (BIClass.sep_mono (left_intro c _ _ _ rfl)
      (BIClass.sep_mono (left_intro c _ _ _ rfl) (BIClass.sep_mono (left_intro c _ _ _ rfl) (left_intro c _ _ _ rfl)))))))))))

set_option backward.isDefEq.respectTransparency.types false in
/-- THE LAUNCH: every array ends at what some exact data name, whose contents at each point are left by the body; and
    every semaphore counter ends at zero. -/
theorem run_rel_quiescent : θ_run defs (onTc (τ := τ) (main (F := F))) (s₀ m ρ)
    (fun r => Pipeline.RDat.FramePost (cfgs 0) (rdat m) (V m) r ∧ r.2.sem = fun _ => 0) :=
  Pipeline.RDat.θ_run_frame (Q' := _) cfgs (0 : Fin 1) launch0 defs₀ Variants.none (rdat m) m ρ main
    (hbody := rel_obligation m) (hshare := fun c => (dats m 0 c).share_full fun _ => rfl)
    (howed := fun _ _ => rfl) (V := V m) (hmain := hmain m Variants.none) (hA := A_eq m) (hΦ := fun _ _ => rfl)

/-- The launch's arrays alone. -/
theorem run_rel : θ_run defs (onTc (τ := τ) (main (F := F))) (s₀ m ρ) (Pipeline.RDat.FramePost (cfgs 0) (rdat m) (V m)) :=
  (θ_run defs _ _).mono (fun _ h => h.1) (run_rel_quiescent m ρ)

/-- THE FRAME: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of_rel m ρ (rdat m) (A_eq m) (run_rel m ρ))
    ((θ_run defs _ _).mono (fun _ h => h.2) (run_rel_quiescent m ρ))

end Cert.KernelIdeal.Gen

end
-- ==== Proof.Pow2.lean ====
/- The power-of-two scale of a block, over the extended reals. The kernel finds the exponent by a binary search over words that hold
   nothing but an exponent field; the reference takes the floor of a logarithm. Both are the same integer. -/
module

public import Idealize.ShloMosaic.Lib.Pointwise

@[expose] public section

noncomputable section

namespace Cert.Sage

open Idealize.ShloMosaic

/-- The value of the word whose exponent field is `n` and whose other bits are zero. -/
def thr (n : ℕ) : EReal := if n = 0 then 0 else if 255 ≤ n then ⊤ else (((2 : ℝ) ^ ((n : ℤ) - 127) : ℝ) : EReal)

theorem thr_zero : thr 0 = 0 := rfl
theorem thr_top {n : ℕ} (h : 255 ≤ n) : thr n = ⊤ := by
  unfold thr; rw [if_neg (by omega), if_pos h]
theorem thr_mid {n : ℕ} (h0 : n ≠ 0) (h : n < 255) : thr n = (((2 : ℝ) ^ ((n : ℤ) - 127) : ℝ) : EReal) := by
  unfold thr; rw [if_neg h0, if_neg (by omega)]

/-- The fields of a word that holds an exponent only. -/
theorem fields (n : Fin 256) :
    ((BitVec.ofNat 32 n.val <<< (23#32)).extractLsb' 31 1 == 1#1) = false
      ∧ ((BitVec.ofNat 32 n.val <<< (23#32)).extractLsb' 23 8).toNat = n.val
      ∧ ((BitVec.ofNat 32 n.val <<< (23#32)).extractLsb' 0 23).toNat = 0 := by
  revert n; decide +kernel

theorem normal_eq (a : ℕ) (n : ℤ) : ((2 ^ a + 0 : ℕ) : ℝ) * (2 : ℝ) ^ (n - 127 - (a : ℤ)) = (2 : ℝ) ^ (n - 127) := by
  rw [Nat.add_zero, Nat.cast_pow, Nat.cast_ofNat, ← zpow_natCast, ← zpow_add₀ (by norm_num)]
  congr 1; ring

theorem ofBits_field (n : ℕ) (h : n < 256) :
    Ideal.ofBits .f32 (IntOp.shli .vector (BitVec.ofNat 32 n) 23#32) = thr n := by
  obtain ⟨h1, h2, h3⟩ := fields ⟨n, h⟩
  have hs : IntOp.shli .vector (BitVec.ofNat 32 n) 23#32 = BitVec.ofNat 32 n <<< (23#32) := rfl
  rw [hs]
  show Ideal.ieee 8 23 _ = _
  simp only [Ideal.ieee, Nat.reduceAdd]
  simp only [h1, h2, h3]
  by_cases h255 : n = 255
  · subst h255; rw [thr_top (le_refl _)]; simp
  by_cases h0 : n = 0
  · subst h0; simp [thr_zero]
  rw [thr_mid h0 (by omega)]
  rw [if_neg (by omega), if_neg h0]
  rw [show ((2 : ℤ) ^ (8 - 1) - 1) = 127 by norm_num, if_neg Bool.false_ne_true, one_mul]
  exact congrArg (fun r : ℝ => (r : EReal)) (normal_eq 23 n)

/-- One step of the search on words. -/
def stepW (k : ℕ) (y : EReal) (e : BitVec 32) : BitVec 32 :=
  Scalar.select (FloatOps.cmpf (F := Ideal) (φ := .f32) .oge y
    (FloatOps.ofBits .f32 (IntOp.shli .vector (e + BitVec.ofNat 32 k) 23#32))) (e + BitVec.ofNat 32 k) e

theorem stepW_spec {k : ℕ} {y : EReal} {n : ℕ} (hk : n + 2 * k ≤ 256) (hk0 : 0 < k) (h1 : thr n ≤ y) (h2 : y < thr (n + 2 * k)) :
    ∃ n', stepW k y (BitVec.ofNat 32 n) = BitVec.ofNat 32 n' ∧ n' + k ≤ 256 ∧ thr n' ≤ y ∧ y < thr (n' + k) := by
  have hb : Ideal.ofBits .f32 (IntOp.shli .vector (BitVec.ofNat 32 n + BitVec.ofNat 32 k) 23#32) = thr (n + k) := by
    rw [← BitVec.ofNat_add]; exact ofBits_field _ (by omega)
  have hc : FloatOps.cmpf (F := Ideal) (φ := .f32) .oge y
      (FloatOps.ofBits .f32 (IntOp.shli .vector (BitVec.ofNat 32 n + BitVec.ofNat 32 k) 23#32))
        = BitVec.ofBool (decide (thr (n + k) ≤ y)) := by
    rw [← hb]; rfl
  unfold stepW
  rw [hc]
  by_cases h : thr (n + k) ≤ y
  · refine ⟨n + k, ?_, by omega, h, by rw [show n + k + k = n + 2 * k by ring]; exact h2⟩
    rw [decide_eq_true h]; rw [BitVec.ofNat_add]; rfl
  · refine ⟨n, ?_, by omega, h1, not_le.mp h⟩
    rw [decide_eq_false h]; rfl

/-- The search: eight steps from zero. -/
def fieldW (y : EReal) : BitVec 32 :=
  stepW 1 y (stepW 2 y (stepW 4 y (stepW 8 y (stepW 16 y (stepW 32 y (stepW 64 y (stepW 128 y 0#32)))))))

theorem fieldW_spec {y : EReal} (h0 : 0 ≤ y) (ht : y < ⊤) :
    ∃ n, fieldW y = BitVec.ofNat 32 n ∧ n < 255 ∧ thr n ≤ y ∧ y < thr (n + 1) := by
  obtain ⟨a, ha, _, ha1, ha2⟩ := stepW_spec (k := 128) (n := 0) (y := y) (by norm_num) (by norm_num) h0 (by rw [thr_top (by norm_num)]; exact ht)
  obtain ⟨b, hb, _, hb1, hb2⟩ := stepW_spec (k := 64) (n := a) (y := y) (by omega) (by norm_num) ha1 ha2
  obtain ⟨c, hc, _, hc1, hc2⟩ := stepW_spec (k := 32) (n := b) (y := y) (by omega) (by norm_num) hb1 hb2
  obtain ⟨d, hd, _, hd1, hd2⟩ := stepW_spec (k := 16) (n := c) (y := y) (by omega) (by norm_num) hc1 hc2
  obtain ⟨e, he, _, he1, he2⟩ := stepW_spec (k := 8) (n := d) (y := y) (by omega) (by norm_num) hd1 hd2
  obtain ⟨f, hf, _, hf1, hf2⟩ := stepW_spec (k := 4) (n := e) (y := y) (by omega) (by norm_num) he1 he2
  obtain ⟨g, hg, _, hg1, hg2⟩ := stepW_spec (k := 2) (n := f) (y := y) (by omega) (by norm_num) hf1 hf2
  obtain ⟨i, hi, hi0, hi1, hi2⟩ := stepW_spec (k := 1) (n := g) (y := y) (by omega) (by norm_num) hg1 hg2
  refine ⟨i, ?_, ?_, hi1, hi2⟩
  · unfold fieldW
    rw [show (0#32 : BitVec 32) = BitVec.ofNat 32 0 from rfl, ha, hb, hc, hd, he, hf, hg, hi]
  · by_contra h
    rw [thr_top (by omega)] at hi1
    exact absurd ht (not_lt.mpr hi1)

/-- The exponent of a block whose largest entry over 448 is `y`. -/
def expo (y : ℝ) : ℤ := if y < (2 : ℝ) ^ (-126 : ℤ) then 0 else ⌊Real.log y * (Real.log 2)⁻¹⌋ + 1

theorem expo_of {y : ℝ} {n : ℕ} (hn : n ≠ 0) (h1 : (2 : ℝ) ^ ((n : ℤ) - 127) ≤ y) (h2 : y < (2 : ℝ) ^ ((n : ℤ) - 126)) :
    expo y = (n : ℤ) - 126 := by
  have h126 : (2 : ℝ) ^ (-126 : ℤ) ≤ y := le_trans (zpow_le_zpow_right₀ (by norm_num) (by omega)) h1
  have hy : 0 < y := lt_of_lt_of_le (by positivity) h126
  unfold expo; rw [if_neg (not_lt.mpr h126)]
  have : ⌊Real.log y * (Real.log 2)⁻¹⌋ = (n : ℤ) - 127 := by
    have hl : 0 < Real.log 2 := Real.log_pos (by norm_num)
    rw [Int.floor_eq_iff, ← div_eq_mul_inv]
    constructor
    · rw [le_div_iff₀ hl, ← Real.log_zpow]; exact Real.log_le_log (by positivity) h1
    · rw [div_lt_iff₀ hl, show (((n : ℤ) - 127 : ℤ) : ℝ) + 1 = (((n : ℤ) - 126 : ℤ) : ℝ) by push_cast; ring, ← Real.log_zpow]
      exact Real.log_lt_log hy h2
  rw [this]; ring

/-- The kernel's two selects on the field: the scale's inverse and the scale. -/
def invW (y : EReal) : EReal :=
  Scalar.select (IntOp.cmpi .eq (fieldW y) 0#32) (1 : EReal) (FloatOps.ofBits (F := Ideal) .f32 (IntOp.shli .vector (253#32 - fieldW y) 23#32))
def scaleW (y : EReal) : EReal :=
  Scalar.select (IntOp.cmpi .eq (fieldW y) 0#32) (1 : EReal) (FloatOps.ofBits (F := Ideal) .f32 (IntOp.shli .vector (fieldW y + 1#32) 23#32))

theorem field_cases {y : ℝ} (h0 : 0 ≤ y) (h : y < (2 : ℝ) ^ (126 : ℤ)) :
    (fieldW (y : EReal) = 0#32 ∧ expo y = 0) ∨
      ∃ n : ℕ, n ≠ 0 ∧ n < 253 ∧ fieldW (y : EReal) = BitVec.ofNat 32 n ∧ expo y = (n : ℤ) - 126 := by
  obtain ⟨n, hn, hlt, h1, h2⟩ := fieldW_spec (y := (y : EReal)) (by exact_mod_cast h0) (EReal.coe_lt_top y)
  by_cases hn0 : n = 0
  · left; subst hn0
    refine ⟨hn, ?_⟩
    rw [thr_mid (by norm_num) (by norm_num)] at h2
    have : y < (2 : ℝ) ^ (-126 : ℤ) := by
      have := EReal.coe_lt_coe_iff.mp h2; norm_num at this ⊢; exact this
    unfold expo; rw [if_pos this]
  · right
    rw [thr_mid hn0 hlt] at h1
    have h1' := EReal.coe_le_coe_iff.mp h1
    have hn253 : n < 253 := by
      by_contra hc
      have : (2 : ℝ) ^ (126 : ℤ) ≤ (2 : ℝ) ^ ((n : ℤ) - 127) := zpow_le_zpow_right₀ (by norm_num) (by omega)
      linarith
    refine ⟨n, hn0, hn253, hn, expo_of hn0 h1' ?_⟩
    rw [thr_mid (by omega) (by omega)] at h2
    have := EReal.coe_lt_coe_iff.mp h2
    rwa [show (((n + 1 : ℕ) : ℤ) - 127) = (n : ℤ) - 126 by push_cast; ring] at this

theorem ofNat_ne_zero {n : ℕ} (h0 : n ≠ 0) (h : n < 253) : BitVec.ofNat 32 n ≠ 0#32 := by
  intro hc
  have := congrArg BitVec.toNat hc
  simp at this; omega

theorem invW_eq {y : ℝ} (h0 : 0 ≤ y) (h : y < (2 : ℝ) ^ (126 : ℤ)) : invW (y : EReal) = (((2 : ℝ) ^ (-expo y) : ℝ) : EReal) := by
  unfold invW
  rcases field_cases h0 h with ⟨hf, he⟩ | ⟨n, hn0, hn, hf, he⟩
  · rw [hf, he]; norm_num; rfl
  · have hne : IntOp.cmpi .eq (fieldW (y : EReal)) 0#32 = 0#1 := by
      rw [hf]; show BitVec.ofBool (BitVec.ofNat 32 n == 0#32) = 0#1; rw [beq_eq_false_iff_ne.mpr (ofNat_ne_zero hn0 hn)]; rfl
    rw [hne, hf]
    have : (253#32 - BitVec.ofNat 32 n) = BitVec.ofNat 32 (253 - n) := by
      apply BitVec.eq_of_toNat_eq
      simp [BitVec.toNat_sub]; omega
    rw [this]
    show Ideal.ofBits .f32 _ = _
    rw [ofBits_field _ (by omega), thr_mid (by omega) (by omega), he]
    congr 2; push_cast [Nat.le_of_lt hn]; ring

theorem scaleW_eq {y : ℝ} (h0 : 0 ≤ y) (h : y < (2 : ℝ) ^ (126 : ℤ)) : scaleW (y : EReal) = (((2 : ℝ) ^ (expo y) : ℝ) : EReal) := by
  unfold scaleW
  rcases field_cases h0 h with ⟨hf, he⟩ | ⟨n, hn0, hn, hf, he⟩
  · rw [hf, he]; norm_num; rfl
  · have hne : IntOp.cmpi .eq (fieldW (y : EReal)) 0#32 = 0#1 := by
      rw [hf]; show BitVec.ofBool (BitVec.ofNat 32 n == 0#32) = 0#1; rw [beq_eq_false_iff_ne.mpr (ofNat_ne_zero hn0 hn)]; rfl
    rw [hne, hf]
    have : (BitVec.ofNat 32 n + 1#32) = BitVec.ofNat 32 (n + 1) := by rw [BitVec.ofNat_add]
    rw [this]
    show Ideal.ofBits .f32 _ = _
    rw [ofBits_field _ (by omega), thr_mid (by omega) (by omega), he]
    congr 2; push_cast; ring

/-- The reference's exponent. -/
def expR (y : EReal) : EReal :=
  Scalar.select (FloatOps.cmpf (F := Ideal) (φ := .f32) .olt y (((2 : ℝ) ^ (-126 : ℤ) : ℝ) : EReal)) (0 : EReal)
    (Ideal.liftRound Int.floor (Ideal.log y * (((Real.log 2)⁻¹ : ℝ) : EReal)) + 1)

theorem expR_eq {y : ℝ} : expR (y : EReal) = ((expo y : ℝ) : EReal) := by
  unfold expR expo
  have hc : FloatOps.cmpf (F := Ideal) (φ := .f32) .olt (y : EReal) (((2 : ℝ) ^ (-126 : ℤ) : ℝ) : EReal)
      = BitVec.ofBool (decide (y < (2 : ℝ) ^ (-126 : ℤ))) := by
    show BitVec.ofBool _ = _
    congr 1; exact decide_eq_decide.mpr EReal.coe_lt_coe_iff
  rw [hc]
  by_cases h : y < (2 : ℝ) ^ (-126 : ℤ)
  · rw [decide_eq_true h, if_pos h]; simp [Scalar.select]
  · rw [decide_eq_false h, if_neg h]
    have hy : 0 < y := lt_of_lt_of_le (by positivity) (not_lt.mp h)
    show Ideal.liftRound Int.floor (Ideal.log (y : EReal) * _) + 1 = _
    have hl : Ideal.log (y : EReal) = ((Real.log y : ℝ) : EReal) := by
      show (if y ≤ 0 then (⊥ : EReal) else _) = _
      rw [if_neg (not_le.mpr hy)]
    rw [hl, ← EReal.coe_mul]
    show (((⌊Real.log y * (Real.log 2)⁻¹⌋ : ℤ) : ℝ) : EReal) + 1 = _
    push_cast; rfl

theorem exp2_int (z : ℤ) : Ideal.exp2 (((z : ℝ)) : EReal) = (((2 : ℝ) ^ z : ℝ) : EReal) := by
  show ((Real.rpow 2 (z : ℝ) : ℝ) : EReal) = _
  congr 1; exact Real.rpow_intCast 2 z

end Cert.Sage

end
-- ==== Proof.Spec.lean ====
/- The mathematics both programs compute, head by head: the greatest magnitude of a block, its power-of-two scale, and the
   codes it is divided into. -/
module

public import Idealize.ShloMosaic.PureOps.Ideal
public import proofs.«01_k».proof.Proof.Pow2

@[expose] public section

noncomputable section

namespace Cert.Sage

open Idealize.ShloMosaic

/-- The magnitude. -/
def absE (x : EReal) : EReal := max x (-x)
/-- The constant that stands for one over 448. -/
def c448 : EReal := Ideal.ofBits .f32 0x3B124925#32
/-- Clipping to the codes' range. -/
def clip (z : EReal) : EReal := min (Ideal.ofBits .f32 0x43E00000#32) (max (Ideal.ofBits .f32 0xC3E00000#32) z)
/-- The greatest magnitude of the rows' entries in the columns `P`. -/
def peak {m n : ℕ} (A : Fin m → Fin n → EReal) (P : Fin n → Prop) : EReal := ⨆ d, ⨆ s, ⨆ (_ : P s), absE (A d s)

theorem peak_le {m n : ℕ} (A : Fin m → Fin n → EReal) (P : Fin n → Prop) (z : EReal) :
    peak A P ≤ z ↔ ∀ d s, P s → absE (A d s) ≤ z := by
  unfold peak; simp only [iSup_le_iff]

theorem absE_nonneg (x : EReal) : 0 ≤ absE x := by
  unfold absE
  rcases le_total 0 x with h | h
  · exact le_max_of_le_left h
  · exact le_max_of_le_right (by simpa using EReal.neg_le_neg_iff.mpr h)

theorem ninf_f32 : Ideal.ofBits .f32 0xFF800000#32 = ⊥ := by
  simp [Ideal.ofBits, Ideal.ieee]
theorem ninf_le (z : EReal) : Ideal.ofBits .f32 0xFF800000#32 ≤ z := by rw [ninf_f32]; exact bot_le

/-- A head of queries: block `i`'s greatest magnitude over 448. -/
def yq (Q : Fin 96 → Fin 1024 → EReal) (i : ℕ) : EReal := peak Q (fun s => s.val / 128 = i) * c448
def qCode (Q : Fin 96 → Fin 1024 → EReal) (d : Fin 96) (s : Fin 1024) : EReal := clip (Q d s * invW (yq Q (s.val / 128)))
def qScale (Q : Fin 96 → Fin 1024 → EReal) (i : ℕ) : EReal := scaleW (yq Q i)

/-- A head of keys, less its mean over the sequence. -/
def smooth (K : Fin 96 → Fin 1024 → EReal) (d : Fin 96) (s : Fin 1024) : EReal :=
  K d s - (∑ s', K d s') * Ideal.ofBits .f32 0x3A800000#32
def yk (K : Fin 96 → Fin 1024 → EReal) (j : ℕ) : EReal := peak (smooth K) (fun s => s.val / 64 = j) * c448
def kCode (K : Fin 96 → Fin 1024 → EReal) (d : Fin 96) (s : Fin 1024) : EReal := clip (smooth K d s * invW (yk K (s.val / 64)))
def kScale (K : Fin 96 → Fin 1024 → EReal) (j : ℕ) : EReal := scaleW (yk K j)

/-- A head of values, scaled channel by channel. -/
def yv (V : Fin 96 → Fin 1024 → EReal) (d : Fin 96) : EReal := (⨆ s, absE (V d s)) * c448
def vCode (V : Fin 96 → Fin 1024 → EReal) (d : Fin 96) (s : Fin 1024) : EReal := clip (V d s * invW (yv V d))
def vScale (V : Fin 96 → Fin 1024 → EReal) (d : Fin 96) : EReal := scaleW (yv V d)

/-- The reference's multiplier and scale, from the exponent it takes by logarithm. -/
def invR (y : EReal) : EReal := Ideal.exp2 (0 - expR y)
def scaleR (y : EReal) : EReal := Ideal.exp2 (expR y)

theorem invR_eq {y : EReal} (h : ∃ r : ℝ, y = r ∧ 0 ≤ r ∧ r < (2 : ℝ) ^ (126 : ℤ)) : invR y = invW y := by
  obtain ⟨r, rfl, h0, h1⟩ := h
  rw [invR, expR_eq, invW_eq h0 h1, ← exp2_int]
  congr 1
  rw [Int.cast_neg, EReal.coe_neg, zero_sub]
theorem scaleR_eq {y : EReal} (h : ∃ r : ℝ, y = r ∧ 0 ≤ r ∧ r < (2 : ℝ) ^ (126 : ℤ)) : scaleR y = scaleW y := by
  obtain ⟨r, rfl, h0, h1⟩ := h
  rw [scaleR, expR_eq, scaleW_eq h0 h1, exp2_int]

end Cert.Sage
end
-- ==== Proof.KerKeys.lean ====
/- What the kernel's key codes and scales hold at one grid point, entry by entry. -/
module

public import proofs.«01_k».proof.Proof.Model
public import proofs.«01_k».proof.Proof.Spec
public import Idealize.ShloMosaic.Lib.Pointwise

@[expose] public section

set_option maxHeartbeats 40000

noncomputable section

namespace Cert.KernelIdeal.Gen

open Idealize.ShloMosaic Idealize.SL.Sem Cert.Sage

/-- The rows of a head's block. -/
def rowsOf (x1 : Vec Ideal S1x96x1024 .bf16) (d : Fin 96) (s : Fin 1024) : EReal := x1 (ix3 0 d s)

/-- One step of the search, entry by entry. -/
theorem expStep_at {s : Shape} (k : ℕ) (y : FVec Ideal s .f32) (e : IVec s 32) (i : s.Idx) :
    expStep (BitVec.ofNat 32 k) y e i = stepW k (y i) (e i) := rfl
theorem expField_at {s : Shape} (y : FVec Ideal s .f32) (i : s.Idx) : expField y i = fieldW (y i) := by
  refine (expStep_at 1 y _ i).trans (congrArg (stepW 1 (y i)) ?_)
  refine (expStep_at 2 y _ i).trans (congrArg (stepW 2 (y i)) ?_)
  refine (expStep_at 4 y _ i).trans (congrArg (stepW 4 (y i)) ?_)
  refine (expStep_at 8 y _ i).trans (congrArg (stepW 8 (y i)) ?_)
  refine (expStep_at 16 y _ i).trans (congrArg (stepW 16 (y i)) ?_)
  refine (expStep_at 32 y _ i).trans (congrArg (stepW 32 (y i)) ?_)
  refine (expStep_at 64 y _ i).trans (congrArg (stepW 64 (y i)) ?_)
  exact expStep_at 128 y _ i
theorem invV_at {s : Shape} (y : FVec Ideal s .f32) (i : s.Idx) : invV y i = invW (y i) := by
  unfold invV invW
  rw [← expField_at, ← Ideal.ofBits_one_f32]
  rfl
theorem scaleV_at {s : Shape} (y : FVec Ideal s .f32) (i : s.Idx) : scaleV y i = scaleW (y i) := by
  unfold scaleV scaleW
  rw [← expField_at, ← Ideal.ofBits_one_f32]
  rfl

theorem splatY_at (m : FVec Ideal S8x128 .f32) (r : Fin 8) (l : Fin 128) : splatY m (ix2 r l) =
    Finset.univ.fold max (Ideal.ofBits .f32 0xFF800000#32) (fun l : Fin 128 => Finset.univ.fold max (Ideal.ofBits .f32 0xFF800000#32)
      fun r : Fin 8 => m (ix2 r l)) * Ideal.ofBits .f32 0x3B124925#32 := by
  unfold splatY
  pointwise
/-- `splatY` is the supremum over the tile over 448. -/
theorem splatY_eq (m : FVec Ideal S8x128 .f32) (p : EReal) (h : ∀ z, p ≤ z ↔ ∀ (l : Fin 128) (r : Fin 8), m (ix2 r l) ≤ z) (r : Fin 8) (l : Fin 128) :
    splatY m (ix2 r l) = p * c448 := by
  rw [splatY_at]
  unfold c448
  congr 1
  refine eq_of_forall_ge_iff fun z => ?_
  rw [h, Finset.fold_max_le]
  simp only [Finset.fold_max_le, ninf_le, true_and, Finset.mem_univ, forall_true_left]

theorem tile_at (m : FVec Ideal S96x1024 .f32) (t : ℕ) (d : Fin 96) (l : Fin 128) :
    extractStridedSlice S96x128 ![0, 128 * (t % 8)] m (slices_tile t) (ix2 d l) = m (ix2 d ⟨128 * (t % 8) + l, by omega⟩) := by
  pointwise
theorem rows96_at (m : FVec Ideal S96x128 .f32) (n : ℕ) (r : Fin 8) (l : Fin 128) :
    extractStridedSlice S8x128 ![8 * (n % 12), 0] m (slices_rows96 n) (ix2 r l) = m (ix2 ⟨8 * (n % 12) + r, by omega⟩ l) := by
  pointwise
theorem rowsMax96_le (a : FVec Ideal S96x128 .f32) (r : Fin 8) (l : Fin 128) (z : EReal) (n : ℕ) :
    rowsMax96 a n (ix2 r l) ≤ z ↔ ∀ m ≤ n, a (ix2 ⟨8 * (m % 12) + r, by omega⟩ l) ≤ z := by
  induction n with
  | zero =>
    show extractStridedSlice S8x128 ![8 * (0 % 12), 0] a (slices_rows96 0) (ix2 r l) ≤ z ↔ _
    rw [rows96_at]
    exact ⟨fun h m hm => by obtain rfl : m = 0 := by omega
                            exact h, fun h => h 0 le_rfl⟩
  | succ n ih =>
    show max (rowsMax96 a n (ix2 r l)) (extractStridedSlice S8x128 ![8 * ((n + 1) % 12), 0] a (slices_rows96 (n + 1)) (ix2 r l)) ≤ z ↔ _
    rw [max_le_iff, ih, rows96_at]
    constructor
    · rintro ⟨h, h'⟩ m hm
      rcases Nat.lt_or_ge n m with hlt | hge
      · obtain rfl : m = n + 1 := by omega
        exact h'
      · exact h m hge
    · exact fun h => ⟨fun m hm => h m (by omega), h _ le_rfl⟩
/-- All rows at once. -/
theorem rowsMax96_all (a : FVec Ideal S96x128 .f32) (l : Fin 128) (z : EReal) :
    (∀ r, rowsMax96 a 11 (ix2 r l) ≤ z) ↔ ∀ d, a (ix2 d l) ≤ z := by
  simp only [rowsMax96_le]
  constructor
  · intro h d
    have := h ⟨d.val % 8, by omega⟩ (d.val / 8) (by omega)
    convert this using 3
    exact Fin.ext (by show d.val = 8 * (d.val / 8 % 12) + d.val % 8; omega)
  · exact fun h r m _ => h _

theorem keyF_at (x1 : Vec Ideal S1x96x1024 .bf16) (d : Fin 96) (s : Fin 1024) : keyF x1 (ix2 d s) = rowsOf x1 d s := by
  unfold keyF rowsOf
  pointwise
theorem keyMean_at (x1 : Vec Ideal S1x96x1024 .bf16) (d : Fin 96) :
    keyMean x1 (ix2 d 0) = (∑ s, rowsOf x1 d s) * Ideal.ofBits .f32 0x3A800000#32 := by
  unfold keyMean keyF rowsOf
  pointwise
theorem spread_at (m : FVec Ideal S96x1 .f32) (d : Fin 96) (l : Fin 128) : broadcastTo S96x128 m broadcasts_S96x1_S96x128 (ix2 d l) = m (ix2 d 0) := by
  pointwise
theorem keyTile_at (x1 : Vec Ideal S1x96x1024 .bf16) (t : ℕ) (d : Fin 96) (l : Fin 128) :
    keyTile x1 t (ix2 d l) = smooth (rowsOf x1) d ⟨128 * (t % 8) + l, by omega⟩ := by
  show extractStridedSlice S96x128 ![0, 128 * (t % 8)] (keyF x1) (slices_tile t) (ix2 d l)
    - broadcastTo S96x128 (keyMean x1) broadcasts_S96x1_S96x128 (ix2 d l) = _
  rw [tile_at, spread_at, keyMean_at, keyF_at]
  rfl

theorem loHalf_at (r : Fin 8) (l : Fin 128) : loHalf (ix2 r l) = if l.val < 64 then 1#1 else 0#1 := by
  have : ∀ l : Fin 128, IntOp.cmpi .slt (BitVec.ofNat 32 l.val) 64#32 = if l.val < 64 then 1#1 else 0#1 := by decide +kernel
  show IntOp.cmpi .slt (iota .tc S8x128 32 [1] iota_S8x128_d1_w32 (ix2 r l)) 64#32 = _
  rw [iota_single_apply]
  exact this l
theorem keyLo_at (a : FVec Ideal S8x128 .f32) (r : Fin 8) (l : Fin 128) :
    select loHalf a zero8 (ix2 r l) = if l.val < 64 then a (ix2 r l) else 0 := by
  show Scalar.select (loHalf (ix2 r l)) (a (ix2 r l)) (Ideal.ofBits .f32 0x00000000#32) = _
  rw [loHalf_at, Ideal.ofBits_zero_f32]
  split <;> rfl
theorem keyHi_at (a : FVec Ideal S8x128 .f32) (r : Fin 8) (l : Fin 128) :
    select loHalf zero8 a (ix2 r l) = if l.val < 64 then 0 else a (ix2 r l) := by
  show Scalar.select (loHalf (ix2 r l)) (Ideal.ofBits .f32 0x00000000#32) (a (ix2 r l)) = _
  rw [loHalf_at, Ideal.ofBits_zero_f32]
  split <;> rfl
theorem keyMax_all (x1 : Vec Ideal S1x96x1024 .bf16) (t : ℕ) (l : Fin 128) (z : EReal) :
    (∀ r, keyMax x1 t (ix2 r l) ≤ z) ↔ ∀ d, absE (smooth (rowsOf x1) d ⟨128 * (t % 8) + l, by omega⟩) ≤ z := by
  unfold keyMax
  rw [rowsMax96_all]
  refine forall_congr' fun d => ?_
  show absE (keyTile x1 t (ix2 d l)) ≤ z ↔ _
  rw [keyTile_at]

theorem keyY_zero (x1 : Vec Ideal S1x96x1024 .bf16) (t : ℕ) (ht : t < 8) (r : Fin 8) (l : Fin 128) :
    keyY x1 t 0 (ix2 r l) = yk (rowsOf x1) (2 * t) := by
  refine splatY_eq _ _ (fun z => ?_) r l
  simp only [keyLo_at]
  rw [peak_le]
  constructor
  · intro h l r
    split
    · rename_i hl
      exact (keyMax_all x1 t l z).2 (fun d => h d _ (by show (128 * (t % 8) + l.val) / 64 = 2 * t; omega)) r
    · exact (absE_nonneg _).trans (h 0 ⟨128 * t, by omega⟩ (by show 128 * t / 64 = 2 * t; omega))
  · intro h d s hs
    have h1 : s.val % 128 < 64 := by omega
    have := (keyMax_all x1 t ⟨s.val % 128, by omega⟩ z).1 (fun r => by have := h ⟨s.val % 128, by omega⟩ r; rwa [if_pos h1] at this) d
    convert this using 3
    exact Fin.ext (by show s.val = 128 * (t % 8) + s.val % 128; omega)
theorem keyY_one (x1 : Vec Ideal S1x96x1024 .bf16) (t : ℕ) (ht : t < 8) (r : Fin 8) (l : Fin 128) :
    keyY x1 t 1 (ix2 r l) = yk (rowsOf x1) (2 * t + 1) := by
  refine splatY_eq _ _ (fun z => ?_) r l
  simp only [keyHi_at]
  rw [peak_le]
  constructor
  · intro h l r
    split
    · exact (absE_nonneg _).trans (h 0 ⟨128 * t + 64, by omega⟩ (by show (128 * t + 64) / 64 = 2 * t + 1; omega))
    · rename_i hl
      exact (keyMax_all x1 t l z).2 (fun d => h d _ (by show (128 * (t % 8) + l.val) / 64 = 2 * t + 1; omega)) r
  · intro h d s hs
    have h1 : ¬ s.val % 128 < 64 := by omega
    have := (keyMax_all x1 t ⟨s.val % 128, by omega⟩ z).1 (fun r => by have := h ⟨s.val % 128, by omega⟩ r; rwa [if_neg h1] at this) d
    convert this using 3
    exact Fin.ext (by show s.val = 128 * (t % 8) + s.val % 128; omega)

theorem keyScale_at (x1 : Vec Ideal S1x96x1024 .bf16) (j : ℕ) (hj : j < 16) (r : Fin 8) (l : Fin 128) :
    keyScale x1 j (ix2 r l) = kScale (rowsOf x1) j := by
  refine (scaleV_at _ _).trans ?_
  unfold kScale
  congr 1
  rcases Nat.mod_two_eq_zero_or_one j with h | h <;> rw [h]
  · rw [keyY_zero _ _ (by omega)]; congr 1; omega
  · rw [keyY_one _ _ (by omega)]; congr 1; omega

theorem lane_eq (n : ℕ) (hn : n < 16) (r : Fin 8) (l : Fin 128) :
    cmpi .eq (iota .tc S8x128 32 [1] iota_S8x128_d1_w32) (broadcast S8x128 (BitVec.ofNat 32 n)) (ix2 r l) = if l.val = n then 1#1 else 0#1 := by
  have : ∀ (n : Fin 16) (l : Fin 128), IntOp.cmpi .eq (BitVec.ofNat 32 l.val) (BitVec.ofNat 32 n.val) = if l.val = n.val then 1#1 else 0#1 := by
    decide +kernel
  show IntOp.cmpi .eq (iota .tc S8x128 32 [1] iota_S8x128_d1_w32 (ix2 r l)) (BitVec.ofNat 32 n) = _
  rw [iota_single_apply]
  exact this ⟨n, hn⟩ l
theorem keyRow_at (x1 : Vec Ideal S1x96x1024 .bf16) (r : Fin 8) (l : Fin 128) (n : ℕ) (hn : n < 16) (hl : l.val ≤ n) :
    keyRow x1 n (ix2 r l) = kScale (rowsOf x1) l.val := by
  induction n with
  | zero =>
    rw [show l.val = 0 by omega]
    exact keyScale_at x1 0 (by norm_num) r l
  | succ n ih =>
    show Scalar.select (cmpi .eq (iota .tc S8x128 32 [1] iota_S8x128_d1_w32) (broadcast S8x128 (BitVec.ofNat 32 (n + 1))) (ix2 r l))
      (keyScale x1 (n + 1) (ix2 r l)) (keyRow x1 n (ix2 r l)) = _
    rw [lane_eq _ hn, keyScale_at _ _ hn]
    split
    · rename_i h; rw [h]; rfl
    · exact ih (by omega) (by omega)
theorem firstRow_at (m : FVec Ideal S8x128 .f32) (j : Fin 16) :
    shapeCast S1x1x16 (extractStridedSlice S1x16 ![0, 0] m slices_S8x128_o0_0_S1x16) shapeCasts_S1x16_S1x1x16 (ix3 0 0 j)
      = m (ix2 0 ⟨j, by omega⟩) := by
  pointwise
/-- The row of key scales. -/
theorem keyScaleRow_at (x1 : Vec Ideal S1x96x1024 .bf16) (j : Fin 16) : keyScaleRow x1 (ix3 0 0 j) = kScale (rowsOf x1) j := by
  unfold keyScaleRow
  rw [firstRow_at, keyRow_at _ _ _ 15 (by norm_num) (by show j.val ≤ 15; omega)]

theorem laneRow_at (m : FVec Ideal S8x128 .f32) (d : Fin 96) (l : Fin 128) :
    broadcastTo S96x128 (extractStridedSlice S1x128 ![0, 0] m slices_S8x128_o0_0_S1x128) broadcasts_S1x128_S96x128 (ix2 d l) = m (ix2 0 l) := by
  pointwise
theorem keyClip_at (a b : FVec Ideal S96x128 .f32) (i : S96x128.Idx) :
    truncf .fp8e4m3 (minimumf (broadcast S96x128 (Scalar.ofBits .f32 0x43E00000#32)) (maximumf (broadcast S96x128 (Scalar.ofBits .f32 0xC3E00000#32))
      (mulf a b))) bitsLt_fp8e4m3_f32 i = clip (a i * b i) := rfl
theorem select_one (a b : EReal) : Scalar.select 1#1 a b = a := rfl
theorem select_none (a b : EReal) : Scalar.select 0#1 a b = b := rfl
theorem select_at {s : Shape} (c : IVec s 1) (a b : FVec Ideal s .f32) (i : s.Idx) : select c a b i = Scalar.select (c i) (a i) (b i) := rfl
theorem keyCodes_at (x1 : Vec Ideal S1x96x1024 .bf16) (t : ℕ) (ht : t < 8) (d : Fin 96) (l : Fin 128) :
    keyCodes x1 t (ix2 d l) = kCode (rowsOf x1) d ⟨128 * (t % 8) + l, by omega⟩ := by
  unfold keyCodes
  rw [keyClip_at, laneRow_at, keyTile_at, select_at, loHalf_at, invV_at, invV_at, keyY_zero _ _ ht, keyY_one _ _ ht]
  unfold kCode
  congr 2
  split
  · rw [select_one]
    congr 2; show 2 * t = (128 * (t % 8) + l.val) / 64; omega
  · rw [select_none]
    congr 2; show 2 * t + 1 = (128 * (t % 8) + l.val) / 64; omega
theorem addUnit_at (m : FVec Ideal S96x128 .fp8e4m3) (d : Fin 96) (l : Fin 128) :
    shapeCast S1x96x128 m shapeCasts_S96x128_S1x96x128 (ix3 0 d l) = m (ix2 d l) := by
  pointwise
/-- The tile's store of key codes. -/
theorem keyPiece_at (x1 : Vec Ideal S1x96x1024 .bf16) (t : ℕ) (ht : t < 8) (d : Fin 96) (l : Fin 128) :
    (keyPiece x1 t).2 (ix3 0 d l) = kCode (rowsOf x1) d ⟨128 * (t % 8) + l, by omega⟩ := by
  exact (addUnit_at (keyCodes x1 t) d l).trans (keyCodes_at x1 t ht d l)

end Cert.KernelIdeal.Gen
end
-- ==== Proof.KerVals.lean ====
/- What the kernel's value codes and scales hold at one grid point, entry by entry. -/
module

public import proofs.«01_k».proof.Proof.KerKeys

@[expose] public section

set_option maxHeartbeats 40000

noncomputable section

namespace Cert.KernelIdeal.Gen

open Idealize.ShloMosaic Idealize.SL.Sem Cert.Sage

theorem valA_at (x2 : Vec Ideal S1x96x1024 .bf16) (d : Fin 96) (s : Fin 1024) : valA x2 (ix2 d s) = rowsOf x2 d s := by
  unfold valA rowsOf
  pointwise
theorem valRed_at (z : FVec Ideal S96x1024 .f32) (d : Fin 96) :
    multiReduction .maximumf [1] S96 z 0xFF800000#32 reduces_S96x1024_S96 (.inl rfl) rfl (ix1 d)
      = Finset.univ.fold max (Ideal.ofBits .f32 0xFF800000#32) fun s => z (ix2 d s) := by
  pointwise
theorem valSpread_at (m : FVec Ideal S96 .f32) (d : Fin 96) (l : Fin 128) :
    broadcastTo S96x128 (shapeCast S96x1 (shapeCast S96x1 m shapeCasts_S96_S96x1) shapeCasts_S96x1_S96x1) broadcasts_S96x1_S96x128 (ix2 d l) = m (ix1 d) := by
  pointwise
theorem over448_at {s : Shape} (m : FVec Ideal s .f32) (i : s.Idx) : mulf m (broadcast s (Scalar.ofBits .f32 0x3B124925#32)) i = m i * c448 := rfl
theorem valY_at (x2 : Vec Ideal S1x96x1024 .bf16) (d : Fin 96) (l : Fin 128) : valY x2 (ix2 d l) = yv (rowsOf x2) d := by
  unfold valY
  rw [over448_at, valSpread_at, valRed_at]
  unfold yv
  congr 1
  refine eq_of_forall_ge_iff fun z => ?_
  rw [Finset.fold_max_le]
  simp only [iSup_le_iff, ninf_le, true_and, Finset.mem_univ, forall_true_left]
  refine forall_congr' fun s => ?_
  show absE (valA x2 (ix2 d s)) ≤ z ↔ _
  rw [valA_at]
theorem valScale_at (x2 : Vec Ideal S1x96x1024 .bf16) (d : Fin 96) (l : Fin 128) : valScale x2 (ix2 d l) = vScale (rowsOf x2) d := by
  unfold valScale vScale
  rw [scaleV_at, valY_at]
theorem firstCol_at (m : FVec Ideal S96x128 .f32) (d : Fin 96) :
    shapeCast S1x1x96 (extractStridedSlice S1x96 ![0, 0] (transpose S128x96 [1, 0] m transposes_S96x128_p1_0_S128x96)
      slices_S128x96_o0_0_S1x96) shapeCasts_S1x96_S1x1x96 (ix3 0 0 d) = m (ix2 d 0) := by
  pointwise
/-- The row of value scales. -/
theorem valScaleRow_at (x2 : Vec Ideal S1x96x1024 .bf16) (d : Fin 96) : valScaleRow x2 (ix3 0 0 d) = vScale (rowsOf x2) d := by
  unfold valScaleRow
  rw [firstCol_at, valScale_at]

theorem clipB_at {s : Shape} (z : FVec Ideal s .bf16) (i : s.Idx) : clipB z i = clip (z i) := rfl
theorem tileB_at (m : FVec Ideal S96x1024 .bf16) (t : ℕ) (d : Fin 96) (l : Fin 128) :
    extractStridedSlice S96x128 ![0, 128 * (t % 8)] m (slices_tile t) (ix2 d l) = m (ix2 d ⟨128 * (t % 8) + l, by omega⟩) := by
  pointwise
theorem mulB_at {s : Shape} (a : FVec Ideal s .bf16) (b : FVec Ideal s .f32) (i : s.Idx) : mulf a (truncf .bf16 b bitsLt_bf16_f32) i = a i * b i := rfl
theorem valCodes_at (x2 : Vec Ideal S1x96x1024 .bf16) (t : ℕ) (d : Fin 96) (l : Fin 128) :
    valCodes x2 t (ix2 d l) = vCode (rowsOf x2) d ⟨128 * (t % 8) + l, by omega⟩ := by
  unfold valCodes vCode
  rw [clipB_at, mulB_at, tileB_at, valA_at, invV_at, valY_at]
/-- The tile's store of value codes. -/
theorem valPiece_at (x2 : Vec Ideal S1x96x1024 .bf16) (t : ℕ) (d : Fin 96) (l : Fin 128) :
    (valPiece x2 t).2 (ix3 0 d l) = vCode (rowsOf x2) d ⟨128 * (t % 8) + l, by omega⟩ :=
  (addUnit_at (valCodes x2 t) d l).trans (valCodes_at x2 t d l)

end Cert.KernelIdeal.Gen
end
-- ==== Proof.KerQueries.lean ====
/- What the kernel's query codes and scales hold at one grid point, entry by entry. -/
module

public import proofs.«01_k».proof.Proof.KerVals
public import proofs.«01_k».proof.Proof.Stores

@[expose] public section

set_option maxHeartbeats 40000

noncomputable section

namespace Cert.KernelIdeal.Gen

open Idealize.ShloMosaic Idealize.SL.Sem Cert.Sage

/-- Head `h` of the point's four, its channels as rows. -/
def headOf (x0 : Vec Ideal S1x1024x384 .bf16) (h : Fin 4) (d : Fin 96) (s : Fin 1024) : EReal := x0 (ix3 0 s ⟨96 * h + d, by omega⟩)

theorem headSlice_at (xb : Vec Ideal S1x128x384 .bf16) (h : ℕ) (d : Fin 96) (q : Fin 128) :
    qryHead xb h (ix2 d q) = xb (ix3 0 q ⟨96 * (h % 4) + d, by omega⟩) := by
  unfold qryHead
  pointwise
theorem blkOf_at (x0 : Vec Ideal S1x1024x384 .bf16) (i : ℕ) (q : Fin 128) (c : Fin 384) :
    blkOf x0 i (ix3 0 q c) = x0 (ix3 0 ⟨128 * (i % 8) + q, by omega⟩ c) := by
  refine congrArg x0 ?_
  funext a
  match a with
  | 0 => exact Fin.ext (by show 0 + 0 = 0; rfl)
  | 1 => exact Fin.ext (by show 128 * (i % 8) + 1 * q.val = 128 * (i % 8) + q.val; omega)
  | 2 => exact Fin.ext (by show 0 + 1 * c.val = c.val; omega)
theorem qryHead_at (x0 : Vec Ideal S1x1024x384 .bf16) (i : ℕ) (h : Fin 4) (d : Fin 96) (q : Fin 128) :
    qryHead (blkOf x0 i) h (ix2 d q) = headOf x0 h d ⟨128 * (i % 8) + q, by omega⟩ := by
  rw [headSlice_at, blkOf_at]
  unfold headOf
  congr 2
  exact Fin.ext (by show 96 * (h.val % 4) + d.val = 96 * h.val + d.val; omega)

theorem rows16_at (m : FVec Ideal S96x128 .bf16) (n : ℕ) (r : Fin 16) (l : Fin 128) :
    extractStridedSlice S16x128 ![16 * (n % 6), 0] m (slices_rows16 n) (ix2 r l) = m (ix2 ⟨16 * (n % 6) + r, by omega⟩ l) := by
  pointwise
theorem rowsMax16_le (a : FVec Ideal S96x128 .bf16) (r : Fin 16) (l : Fin 128) (z : EReal) (n : ℕ) :
    rowsMax16 a n (ix2 r l) ≤ z ↔ ∀ m ≤ n, a (ix2 ⟨16 * (m % 6) + r, by omega⟩ l) ≤ z := by
  induction n with
  | zero =>
    show extractStridedSlice S16x128 ![16 * (0 % 6), 0] a (slices_rows16 0) (ix2 r l) ≤ z ↔ _
    rw [rows16_at]
    exact ⟨fun h m hm => by obtain rfl : m = 0 := by omega
                            exact h, fun h => h 0 le_rfl⟩
  | succ n ih =>
    show max (rowsMax16 a n (ix2 r l)) (extractStridedSlice S16x128 ![16 * ((n + 1) % 6), 0] a (slices_rows16 (n + 1)) (ix2 r l)) ≤ z ↔ _
    rw [max_le_iff, ih, rows16_at]
    constructor
    · rintro ⟨h, h'⟩ m hm
      rcases Nat.lt_or_ge n m with hlt | hge
      · obtain rfl : m = n + 1 := by omega
        exact h'
      · exact h m hge
    · exact fun h => ⟨fun m hm => h m (by omega), h _ le_rfl⟩
theorem rowsMax16_all (a : FVec Ideal S96x128 .bf16) (l : Fin 128) (z : EReal) :
    (∀ r, rowsMax16 a 5 (ix2 r l) ≤ z) ↔ ∀ d, a (ix2 d l) ≤ z := by
  simp only [rowsMax16_le]
  constructor
  · intro h d
    have := h ⟨d.val % 16, by omega⟩ (d.val / 16) (by omega)
    convert this using 3
    exact Fin.ext (by show d.val = 16 * (d.val / 16 % 6) + d.val % 16; omega)
  · exact fun h r m _ => h _
theorem topHalf_at (m : FVec Ideal S16x128 .f32) (r : Fin 8) (l : Fin 128) :
    extractStridedSlice S8x128 ![0, 0] m slices_S16x128_o0_0_S8x128 (ix2 r l) = m (ix2 ⟨r, by omega⟩ l) := by
  pointwise
theorem lowHalf_at (m : FVec Ideal S16x128 .f32) (r : Fin 8) (l : Fin 128) :
    extractStridedSlice S8x128 ![8, 0] m slices_S16x128_o8_0_S8x128 (ix2 r l) = m (ix2 ⟨8 + r, by omega⟩ l) := by
  pointwise
theorem qryMax_all (x0 : Vec Ideal S1x1024x384 .bf16) (i : ℕ) (h : Fin 4) (l : Fin 128) (z : EReal) :
    (∀ r, qryMax (blkOf x0 i) h (ix2 r l) ≤ z) ↔ ∀ d, absE (headOf x0 h d ⟨128 * (i % 8) + l, by omega⟩) ≤ z := by
  refine (rowsMax16_all (absf (qryHead (blkOf x0 i) h)) l z).trans (forall_congr' fun d => ?_)
  show absE (qryHead (blkOf x0 i) h (ix2 d l)) ≤ z ↔ _
  rw [qryHead_at]
theorem max_at {s : Shape} (a b : FVec Ideal s .f32) (i : s.Idx) : maximumf a b i = max (a i) (b i) := rfl
theorem qryY_at (x0 : Vec Ideal S1x1024x384 .bf16) (i : ℕ) (hi : i < 8) (h : Fin 4) (r : Fin 8) (l : Fin 128) :
    qryY (blkOf x0 i) h (ix2 r l) = yq (headOf x0 h) i := by
  refine splatY_eq _ _ (fun z => ?_) r l
  simp only [max_at, topHalf_at, lowHalf_at, max_le_iff]
  rw [peak_le]
  constructor
  · intro H l r
    have := fun r => (qryMax_all x0 i h l z).2 (fun d => H d _ (by show (128 * (i % 8) + l.val) / 128 = i; omega)) r
    exact ⟨this _, this _⟩
  · intro H d s hs
    have := (qryMax_all x0 i h ⟨s.val % 128, by omega⟩ z).1 (fun r => by
      rcases Nat.lt_or_ge r.val 8 with hr | hr
      · exact (H ⟨s.val % 128, by omega⟩ ⟨r.val, hr⟩).1
      · have := (H ⟨s.val % 128, by omega⟩ ⟨r.val - 8, by omega⟩).2
        convert this using 3
        exact Fin.ext (by show r.val = 8 + (r.val - 8); omega)) d
    convert this using 3
    exact Fin.ext (by show s.val = 128 * (i % 8) + s.val % 128; omega)
theorem qryScale_at (x0 : Vec Ideal S1x1024x384 .bf16) (i : ℕ) (hi : i < 8) (h : Fin 4) (r : Fin 8) (l : Fin 128) :
    qryScale (blkOf x0 i) h (ix2 r l) = qScale (headOf x0 h) i := by
  unfold qryScale qScale
  rw [scaleV_at, qryY_at _ _ hi]

theorem laneRowB_at (m : FVec Ideal S8x128 .f32) (d : Fin 96) (l : Fin 128) :
    broadcastTo S96x128 (truncf .bf16 (extractStridedSlice S1x128 ![0, 0] m slices_S8x128_o0_0_S1x128) bitsLt_bf16_f32)
      broadcasts_S1x128_S96x128 (ix2 d l) = m (ix2 0 l) := by
  pointwise
theorem mulBB_at {s : Shape} (a b : FVec Ideal s .bf16) (i : s.Idx) : mulf a b i = a i * b i := rfl
theorem qryCodes_at (x0 : Vec Ideal S1x1024x384 .bf16) (i : ℕ) (hi : i < 8) (h : Fin 4) (d : Fin 96) (l : Fin 128) :
    qryCodes (blkOf x0 i) h (ix2 d l) = qCode (headOf x0 h) d ⟨128 * (i % 8) + l, by omega⟩ := by
  unfold qryCodes qCode
  rw [clipB_at, mulBB_at, laneRowB_at, qryHead_at, invV_at, qryY_at _ _ hi]
  congr 3
  exact congrArg _ (by show i = (128 * (i % 8) + l.val) / 128; omega)
/-- The store of a head's block of query codes. -/
theorem qryPiece_at (x0 : Vec Ideal S1x1024x384 .bf16) (i : ℕ) (hi : i < 8) (h : Fin 4) (d : Fin 96) (l : Fin 128) :
    (qryPiece (blkOf x0) i h).2 (ix3 0 d l) = qCode (headOf x0 h) d ⟨128 * (i % 8) + l, by omega⟩ :=
  (addUnit_at (qryCodes (blkOf x0 i) h) d l).trans (qryCodes_at x0 i hi h d l)

theorem row_eq (n : ℕ) (hn : n < 8) (r : Fin 8) (l : Fin 128) :
    cmpi .eq (iota .tc S8x128 32 [0] iota_S8x128_d0_w32) (broadcast S8x128 (BitVec.ofNat 32 n)) (ix2 r l) = if r.val = n then 1#1 else 0#1 := by
  have : ∀ (n r : Fin 8), IntOp.cmpi .eq (BitVec.ofNat 32 r.val) (BitVec.ofNat 32 n.val) = if r.val = n.val then 1#1 else 0#1 := by
    decide +kernel
  show IntOp.cmpi .eq (iota .tc S8x128 32 [0] iota_S8x128_d0_w32 (ix2 r l)) (BitVec.ofNat 32 n) = _
  rw [iota_single_apply]
  exact this ⟨n, hn⟩ r
theorem qryCol_at (x0 : Vec Ideal S1x1024x384 .bf16) (h : Fin 4) (r : Fin 8) (l : Fin 128) (n : ℕ) (hn : n ≤ 8) (hr : r.val < n) :
    qryCol (blkOf x0) h n (ix2 r l) = qScale (headOf x0 h) r.val := by
  induction n with
  | zero => omega
  | succ n ih =>
    show select _ _ _ _ = _
    rw [select_at, row_eq n (by omega), qryScale_at _ _ (by omega)]
    split
    · rename_i h; rw [h, select_one]
    · rw [select_none]; exact ih (by omega) (by omega)
theorem lane24_eq (g : Fin 6) (n : Fin 4) (r : Fin 8) (c : Fin 24) :
    cmpi .eq (iota .tc S8x24 32 [1] iota_S8x24_d1_w32)
      (broadcast S8x24 (Scalar.addi (Scalar.muli 4#32 (BitVec.ofNat 32 g.val)) (BitVec.ofNat 32 n.val))) (ix2 r c)
      = if c.val = 4 * g.val + n.val then 1#1 else 0#1 := by
  have : ∀ (g : Fin 6) (n : Fin 4) (c : Fin 24), IntOp.cmpi .eq (BitVec.ofNat 32 c.val)
      (Scalar.addi (Scalar.muli 4#32 (BitVec.ofNat 32 g.val)) (BitVec.ofNat 32 n.val)) = if c.val = 4 * g.val + n.val then 1#1 else 0#1 := by
    decide +kernel
  show IntOp.cmpi .eq (iota .tc S8x24 32 [1] iota_S8x24_d1_w32 (ix2 r c)) _ = _
  rw [iota_single_apply]
  exact this g n c
theorem col24_at (m : FVec Ideal S8x128 .f32) (r : Fin 8) (c : Fin 24) :
    extractStridedSlice S8x24 ![0, 0] m slices_S8x128_o0_0_S8x24 (ix2 r c) = m (ix2 r ⟨c, by omega⟩) := by
  pointwise
theorem qryAll_at (x0 : Vec Ideal S1x1024x384 .bf16) (g : Fin 6) (row : FVec Ideal S8x24 .f32) (r : Fin 8) (c : Fin 24) (n : ℕ) (hn : n ≤ 4) :
    qryAll (blkOf x0) (BitVec.ofNat 32 g.val) row n (ix2 r c)
      = if 4 * g.val ≤ c.val ∧ c.val < 4 * g.val + n then qScale (headOf x0 ⟨c.val % 4, by omega⟩) r.val else row (ix2 r c) := by
  induction n with
  | zero => rw [if_neg (by omega)]; rfl
  | succ n ih =>
    show select _ _ _ _ = _
    rw [select_at, lane24_eq g ⟨n, by omega⟩, col24_at, qryCol_at x0 ⟨n, by omega⟩ _ _ 8 (by norm_num) r.isLt, ih (by omega)]
    split
    · rename_i h
      rw [select_one, if_pos (by constructor <;> (have : c.val = 4 * g.val + n := h; omega))]
      congr 2
      exact Fin.ext (by show n = c.val % 4; have : c.val = 4 * g.val + n := h; omega)
    · rename_i h
      rw [select_none]
      have h' : ¬ c.val = 4 * g.val + n := h
      by_cases hc : 4 * g.val ≤ c.val ∧ c.val < 4 * g.val + n
      · rw [if_pos hc, if_pos (by omega)]
      · rw [if_neg hc, if_neg (by omega)]
theorem flat24_at (row : FVec Ideal S1x8x24 .f32) (r : Fin 8) (c : Fin 24) :
    shapeCast S8x24 (shapeCast S1x8x24 row shapeCasts_S1x8x24_S1x8x24) shapeCasts_S1x8x24_S8x24 (ix2 r c) = row (ix3 0 r c) := by
  pointwise
theorem unflat24_at (m : FVec Ideal S8x24 .f32) (r : Fin 8) (c : Fin 24) :
    shapeCast S1x8x24 m shapeCasts_S8x24_S1x8x24 (ix3 0 r c) = m (ix2 r c) := by
  pointwise
/-- The row of query scales over the row's own: the lanes of the point's four heads are new. -/
theorem qryScaleRow_at (x0 : Vec Ideal S1x1024x384 .bf16) (g : Fin 6) (row : Vec Ideal S1x8x24 .f32) (r : Fin 8) (c : Fin 24) :
    qryScaleRow (blkOf x0) (BitVec.ofNat 32 g.val) row (ix3 0 r c)
      = if c.val / 4 = g.val then qScale (headOf x0 ⟨c.val % 4, by omega⟩) r.val else row (ix3 0 r c) := by
  unfold qryScaleRow
  rw [unflat24_at, qryAll_at _ _ _ _ _ 4 le_rfl, flat24_at]
  by_cases hc : c.val / 4 = g.val
  · rw [if_pos hc, if_pos (by omega)]
  · rw [if_neg hc, if_neg (by omega)]

end Cert.KernelIdeal.Gen
end
-- ==== Proof.KerBlocks.lean ====
/- What one grid point leaves in its windows, entry by entry. -/
module

public import proofs.«01_k».proof.Proof.KerQueries

@[expose] public section

set_option maxHeartbeats 40000

noncomputable section

namespace Cert.KernelIdeal.Gen

open Idealize.ShloMosaic Idealize.SL.Sem Cert.Sage

theorem unit_val {s : Shape} (off size : Fin s.rank → ℕ) (inb : ∀ a, off a + size a ≤ s.size a) (x : (Rect.unit off size inb).shape.Idx) (a : Fin s.rank) :
    ((Rect.unit off size inb).emb x a).val = off a + (x a).val := by
  show off a + 1 * (x a).val = _
  omega

theorem lt_of_mem_down8 {t : ℕ} (h : t ∈ down8) : t < 8 := by
  unfold down8 at h
  simp at h
  omega

theorem keyBlock_at (x1 : Vec Ideal S1x96x1024 .bf16) (d : Fin 96) (s : Fin 1024) :
    View.canon (down8.map (keyPiece x1)) (ix3 0 d s) = kCode (rowsOf x1) d s := by
  refine canon_of_mem _ _ _ (key_cover x1 _) fun p hp x hx => ?_
  obtain ⟨t, ht, rfl⟩ := List.mem_map.mp hp
  have ht := lt_of_mem_down8 ht
  obtain ⟨a, d', l, rfl⟩ : ∃ (a : Fin 1) (d' : Fin 96) (l : Fin 128), x = ix3 a d' l := ⟨_, _, _, eq_ix3 x⟩
  obtain rfl : a = 0 := Subsingleton.elim _ _
  refine (keyPiece_at x1 t ht d' l).trans ?_
  have e1 := congrArg Fin.val (congrFun hx 1)
  have e2 := congrArg Fin.val (congrFun hx 2)
  have h1 : 0 + d'.val = d.val := (unit_val _ _ (inb_tile t) _ 1).symm.trans e1
  clear e1
  have h2 : 128 * (t % 8) + l.val = s.val := (unit_val _ _ (inb_tile t) _ 2).symm.trans e2
  clear e2 hx
  obtain rfl : d' = d := Fin.ext (by omega)
  exact congrArg _ (Fin.ext h2)

theorem valBlock_at (x2 : Vec Ideal S1x96x1024 .bf16) (d : Fin 96) (s : Fin 1024) :
    View.canon (down8.map (valPiece x2)) (ix3 0 d s) = vCode (rowsOf x2) d s := by
  refine canon_of_mem _ _ _ (val_cover x2 _) fun p hp x hx => ?_
  obtain ⟨t, ht, rfl⟩ := List.mem_map.mp hp
  obtain ⟨a, d', l, rfl⟩ : ∃ (a : Fin 1) (d' : Fin 96) (l : Fin 128), x = ix3 a d' l := ⟨_, _, _, eq_ix3 x⟩
  obtain rfl : a = 0 := Subsingleton.elim _ _
  refine (valPiece_at x2 t d' l).trans ?_
  have e1 := congrArg Fin.val (congrFun hx 1)
  have e2 := congrArg Fin.val (congrFun hx 2)
  have h1 : 0 + d'.val = d.val := (unit_val _ _ (inb_tile t) _ 1).symm.trans e1
  clear e1
  have h2 : 128 * (t % 8) + l.val = s.val := (unit_val _ _ (inb_tile t) _ 2).symm.trans e2
  clear e2 hx
  obtain rfl : d' = d := Fin.ext (by omega)
  exact congrArg _ (Fin.ext h2)

theorem qryBlock_at (x0 : Vec Ideal S1x1024x384 .bf16) (h : Fin 4) (d : Fin 96) (s : Fin 1024) :
    View.canon (qryPieces (blkOf x0)) (ix3 0 ⟨96 * h + d, by omega⟩ s) = qCode (headOf x0 h) d s := by
  refine canon_of_mem _ _ _ (qry_cover (blkOf x0) _) fun p hp x hx => ?_
  obtain ⟨i, hi, h', hh', rfl⟩ := (mem_qryPieces _).mp hp
  obtain ⟨a, d', l, rfl⟩ : ∃ (a : Fin 1) (d' : Fin 96) (l : Fin 128), x = ix3 a d' l := ⟨_, _, _, eq_ix3 x⟩
  obtain rfl : a = 0 := Subsingleton.elim _ _
  refine (qryPiece_at x0 i hi ⟨h', hh'⟩ d' l).trans ?_
  have e1 := congrArg Fin.val (congrFun hx 1)
  have e2 := congrArg Fin.val (congrFun hx 2)
  have h1 : 96 * (h' % 4) + d'.val = 96 * h.val + d.val := (unit_val _ _ (inb_qc i h') _ 1).symm.trans e1
  clear e1
  have h2 : 128 * (i % 8) + l.val = s.val := (unit_val _ _ (inb_qc i h') _ 2).symm.trans e2
  clear e2 hx
  obtain rfl : d' = d := Fin.ext (by omega)
  obtain rfl : (⟨h', hh'⟩ : Fin 4) = h := Fin.ext (by show h' = h.val; omega)
  exact congrArg _ (Fin.ext h2)

theorem ksPatch_at (i : grid0.Coords) (x1 : Vec Ideal S1x96x1024 .bf16) (Y : Vec Ideal S1x2x16 .f32) (b : Fin 2) (j : Fin 16) :
    patch (ksPiece i x1) Y (ix3 0 b j) = if b.val = (i 1).val then kScale (rowsOf x1) j else Y (ix3 0 b j) := by
  split
  · rename_i hb
    have e : (ksPiece i x1).1.emb (ix3 (n0 := 1) (n1 := 1) (n2 := 16) 0 0 j) = ix3 0 b j := by
      funext a
      refine Fin.ext ((unit_val _ _ (k0_off1_inb i) _ a).trans ?_)
      refine (congrArg (· + _) (congrFun (k0_off1_eq i) a)).trans ?_
      match a with
      | 0 => rfl
      | 1 => exact hb.symm
      | 2 => show 0 + j.val = j.val; omega
    rw [← e]
    exact (patch_emb _ _ _).trans (keyScaleRow_at x1 j)
  · rename_i hb
    refine patch_of_not_mem _ _ fun hm => hb ?_
    have := (Rect.mem_set_unit (inb := k0_off1_inb i)).mp hm 1
    rw [k0_off1_eq] at this
    have : (i 1).val ≤ b.val ∧ b.val < (i 1).val + 1 := this
    omega

theorem vsPatch_at (i : grid0.Coords) (x2 : Vec Ideal S1x96x1024 .bf16) (Y : Vec Ideal S1x2x96 .f32) (b : Fin 2) (d : Fin 96) :
    patch (vsPiece i x2) Y (ix3 0 b d) = if b.val = (i 1).val then vScale (rowsOf x2) d else Y (ix3 0 b d) := by
  split
  · rename_i hb
    have e : (vsPiece i x2).1.emb (ix3 (n0 := 1) (n1 := 1) (n2 := 96) 0 0 d) = ix3 0 b d := by
      funext a
      refine Fin.ext ((unit_val _ _ (k0_off2_inb i) _ a).trans ?_)
      refine (congrArg (· + _) (congrFun (k0_off2_eq i) a)).trans ?_
      match a with
      | 0 => rfl
      | 1 => exact hb.symm
      | 2 => show 0 + d.val = d.val; omega
    rw [← e]
    exact (patch_emb _ _ _).trans (valScaleRow_at x2 d)
  · rename_i hb
    refine patch_of_not_mem _ _ fun hm => hb ?_
    have := (Rect.mem_set_unit (inb := k0_off2_inb i)).mp hm 1
    rw [k0_off2_eq] at this
    have : (i 1).val ≤ b.val ∧ b.val < (i 1).val + 1 := this
    omega

theorem qsPatch_at (i : grid0.Coords) (x0 : Vec Ideal S1x1024x384 .bf16) (Y : Vec Ideal S2x8x24 .f32) (b : Fin 2) (r : Fin 8) (c : Fin 24) :
    patch (qsPiece i x0 Y) Y (ix3 b r c)
      = if b.val = (i 1).val ∧ c.val / 4 = (i 0).val then qScale (headOf x0 ⟨c.val % 4, by omega⟩) r.val else Y (ix3 b r c) := by
  by_cases hb : b.val = (i 1).val
  · have e : ∀ (_ : Unit), (Rect.unit (s := S2x8x24) (k0_off3 i) S1x8x24.size (k0_off3_inb i)).emb (ix3 (n0 := 1) (n1 := 8) (n2 := 24) 0 r c) = ix3 b r c := by
      intro _
      funext a
      refine Fin.ext ((unit_val _ _ (k0_off3_inb i) _ a).trans ?_)
      refine (congrArg (· + _) (congrFun (k0_off3_eq i) a)).trans ?_
      match a with
      | 0 => exact hb.symm
      | 1 => show 0 + r.val = r.val; omega
      | 2 => show 0 + c.val = c.val; omega
    have := (patch_emb (qsPiece i x0 Y) Y (ix3 (n0 := 1) (n1 := 8) (n2 := 24) 0 r c)).trans (qryScaleRow_at x0 ⟨(i 0).val, (i 0).isLt⟩ _ r c)
    rw [← e ()]
    refine this.trans ?_
    by_cases hc : c.val / 4 = (i 0).val
    · rw [if_pos hc, if_pos ⟨hb, hc⟩]
    · rw [if_neg hc, if_neg (fun h => hc h.2)]; rfl
  · rw [if_neg (fun h => hb h.1)]
    refine patch_of_not_mem _ _ fun hm => hb ?_
    have := (Rect.mem_set_unit (inb := k0_off3_inb i)).mp hm 0
    rw [k0_off3_eq] at this
    have : (i 1).val ≤ b.val ∧ b.val < (i 1).val + 1 := this
    omega

end Cert.KernelIdeal.Gen
end
-- ==== Proof.Heads.lean ====
/-
  The results of the quantisers, entry by entry, as functions of the argument arrays: what both programs compute.
-/
module

public import proofs.«01_k».proof.Proof.Spec

@[expose] public section

noncomputable section

namespace Cert.Sage

open Idealize.ShloMosaic

/-- The queries: batch, position, channel. -/
abbrev QArg := (⟨3, ![2, 1024, 2304]⟩ : Shape).Idx → EReal
/-- The keys or the values: batch, position, channel. -/
abbrev KArg := (⟨3, ![2, 1024, 576]⟩ : Shape).Idx → EReal

/-- The query head `h` of batch `b`: its column `d` at position `s`. -/
def argQ (x : QArg) (b : Fin 2) (h : Fin 24) (d : Fin 96) (s : Fin 1024) : EReal :=
  x (ix3 b s ⟨h.val * 96 + d.val, by omega⟩)

/-- The key or value head `g` of batch `b`. -/
def argK (x : KArg) (b : Fin 2) (g : Fin 6) (d : Fin 96) (s : Fin 1024) : EReal :=
  x (ix3 b s ⟨g.val * 96 + d.val, by omega⟩)

/-- The codes of the queries. -/
def resQC (x : QArg) : (⟨3, ![2, 2304, 1024]⟩ : Shape).Idx → EReal := fun y =>
  qCode (argQ x (y 0) ⟨(y 1).val / 96, Nat.div_lt_of_lt_mul (show (y 1).val < 96 * 24 from (y 1).isLt)⟩)
    ⟨(y 1).val % 96, Nat.mod_lt _ (by decide)⟩ (y 2)

/-- The scales of the queries. -/
def resQS (x : QArg) : (⟨3, ![2, 8, 24]⟩ : Shape).Idx → EReal := fun y => qScale (argQ x (y 0) (y 2)) (y 1).val

/-- The codes of the keys. -/
def resKC (x : KArg) : (⟨3, ![2, 576, 1024]⟩ : Shape).Idx → EReal := fun y =>
  kCode (argK x (y 0) ⟨(y 1).val / 96, Nat.div_lt_of_lt_mul (show (y 1).val < 96 * 6 from (y 1).isLt)⟩)
    ⟨(y 1).val % 96, Nat.mod_lt _ (by decide)⟩ (y 2)

/-- The scales of the keys. -/
def resKS (x : KArg) : (⟨3, ![6, 2, 16]⟩ : Shape).Idx → EReal := fun y => kScale (argK x (y 1) (y 0)) (y 2).val

/-- The codes of the values. -/
def resVC (x : KArg) : (⟨3, ![2, 576, 1024]⟩ : Shape).Idx → EReal := fun y =>
  vCode (argK x (y 0) ⟨(y 1).val / 96, Nat.div_lt_of_lt_mul (show (y 1).val < 96 * 6 from (y 1).isLt)⟩)
    ⟨(y 1).val % 96, Nat.mod_lt _ (by decide)⟩ (y 2)

/-- The scales of the values. -/
def resVS (x : KArg) : (⟨3, ![6, 2, 96]⟩ : Shape).Idx → EReal := fun y => vScale (argK x (y 1) (y 0)) (y 2)

/-- A query code at its head and column. -/
theorem resQC_at (x : QArg) (b : Fin 2) (h : Fin 24) (d : Fin 96) (s : Fin 1024) (n : Fin 2304) (hn : n.val = h.val * 96 + d.val) :
    resQC x (ix3 b n s) = qCode (argQ x b h) d s := by
  have e1 : (⟨n.val / 96, Nat.div_lt_of_lt_mul (show n.val < 96 * 24 from n.isLt)⟩ : Fin 24) = h := Fin.ext (by show n.val / 96 = _; omega)
  have e2 : (⟨n.val % 96, Nat.mod_lt _ (by decide)⟩ : Fin 96) = d := Fin.ext (by show n.val % 96 = _; omega)
  show qCode (argQ x b _) _ s = _
  exact congr (congrArg (fun h => qCode (argQ x b h)) e1) e2 ▸ rfl

/-- A key code at its head and column. -/
theorem resKC_at (x : KArg) (b : Fin 2) (h : Fin 6) (d : Fin 96) (s : Fin 1024) (n : Fin 576) (hn : n.val = h.val * 96 + d.val) :
    resKC x (ix3 b n s) = kCode (argK x b h) d s := by
  have e1 : (⟨n.val / 96, Nat.div_lt_of_lt_mul (show n.val < 96 * 6 from n.isLt)⟩ : Fin 6) = h := Fin.ext (by show n.val / 96 = _; omega)
  have e2 : (⟨n.val % 96, Nat.mod_lt _ (by decide)⟩ : Fin 96) = d := Fin.ext (by show n.val % 96 = _; omega)
  show kCode (argK x b _) _ s = _
  exact congr (congrArg (fun h => kCode (argK x b h)) e1) e2 ▸ rfl

/-- A value code at its head and column. -/
theorem resVC_at (x : KArg) (b : Fin 2) (h : Fin 6) (d : Fin 96) (s : Fin 1024) (n : Fin 576) (hn : n.val = h.val * 96 + d.val) :
    resVC x (ix3 b n s) = vCode (argK x b h) d s := by
  have e1 : (⟨n.val / 96, Nat.div_lt_of_lt_mul (show n.val < 96 * 6 from n.isLt)⟩ : Fin 6) = h := Fin.ext (by show n.val / 96 = _; omega)
  have e2 : (⟨n.val % 96, Nat.mod_lt _ (by decide)⟩ : Fin 96) = d := Fin.ext (by show n.val % 96 = _; omega)
  show vCode (argK x b _) _ s = _
  exact congr (congrArg (fun h => vCode (argK x b h)) e1) e2 ▸ rfl

end Cert.Sage

end

end
-- ==== Proof.KerArrays.lean ====
/-
  The kernel's result arrays, entry by entry, as functions of the argument arrays. The codes are written block by block.
  The scales of the keys and of the values are written a row at a point, two points to a block; the scales of the
  queries a few columns at a point, all the points to the one block: an entry keeps what the point that wrote it left.
-/
module

public import proofs.«01_k».proof.Proof.Run
public import proofs.«01_k».proof.Proof.KerBlocks
public import proofs.«01_k».proof.Proof.Heads
import Idealize.ShloMosaic.Lib.Pipeline.ValueKit.Point

@[expose] public section

namespace Cert.KernelIdeal.Gen

open Idealize.ShloMosaic Idealize.ShloMosaic.TcCoe Idealize.SL.Sem Cert.Sage
open Idealize.ShloMosaic.Pipeline (Dat RDat)

variable (m : (ℓ : Loc nD τ sig) → Buf (Elt Ideal) ℓ) (c : Dev nD)

/-! ## The points -/

theorem coord0 : ∀ t : Fin cfg0.N, (grid0.coords t 0).val = t.val / 2 := by decide +kernel
theorem coord1 : ∀ t : Fin cfg0.N, (grid0.coords t 1).val = t.val % 2 := by decide +kernel
theorem idx0 : ∀ t : Fin cfg0.N, win0_0.index t = ![t.val % 2, 0, t.val / 2] := by decide +kernel
theorem idx1 : ∀ t : Fin cfg0.N, win0_1.index t = ![t.val % 2, t.val / 2, 0] := by decide +kernel
theorem idx2 : ∀ t : Fin cfg0.N, win0_2.index t = ![t.val % 2, t.val / 2, 0] := by decide +kernel
theorem idx4 : ∀ t : Fin cfg0.N, win0_4.index t = ![t.val % 2, t.val / 2, 0] := by decide +kernel
theorem idx5 : ∀ t : Fin cfg0.N, win0_5.index t = ![0, 0, 0] := by decide +kernel
theorem idx6 : ∀ t : Fin cfg0.N, win0_6.index t = ![t.val % 2, t.val / 2, 0] := by decide +kernel
theorem idx7 : ∀ t : Fin cfg0.N, win0_7.index t = ![t.val / 2, 0, 0] := by decide +kernel
theorem idx8 : ∀ t : Fin cfg0.N, win0_8.index t = ![t.val % 2, t.val / 2, 0] := by decide +kernel
theorem idx9 : ∀ t : Fin cfg0.N, win0_9.index t = ![t.val / 2, 0, 0] := by decide +kernel
theorem nofetch5 : ∀ t : Fin cfg0.N, (cfg0.win 5).fetch t = false := by decide +kernel
theorem nofetch7 : ∀ t : Fin cfg0.N, (cfg0.win 7).fetch t = false := by decide +kernel
theorem nofetch9 : ∀ t : Fin cfg0.N, (cfg0.win 9).fetch t = false := by decide +kernel

theorem lt12 (t : Fin cfg0.N) : t.val < 12 := t.isLt

/-- The batch a point works on, and the key head. -/
def ptB (t : Fin cfg0.N) : Fin 2 := ⟨t.val % 2, by omega⟩
def ptG (t : Fin cfg0.N) : Fin 6 := ⟨t.val / 2, by have := lt12 t; omega⟩
/-- The query head `h` of the four a point works on. -/
def ptH (t : Fin cfg0.N) (h : Fin 4) : Fin 24 := ⟨t.val / 2 * 4 + h.val, by have := lt12 t; omega⟩

/-! ## The operands -/

theorem rows_k (t : Fin cfg0.N) : rowsOf (iblk m c 1 t) = argK (m ((c : Thread nD τ).loc main_arg1)) (ptB t) (ptG t) := by
  funext d s
  show iblk m c 1 t (ix3 0 d s) = (m ((c : Thread nD τ).loc main_arg1)) (ix3 (ptB t) s ⟨(ptG t).val * 96 + d.val, _⟩)
  unfold ptB ptG
  blk_ext! [iblk, V, idx1 t]

theorem rows_v (t : Fin cfg0.N) : rowsOf (iblk m c 2 t) = argK (m ((c : Thread nD τ).loc main_arg2)) (ptB t) (ptG t) := by
  funext d s
  show iblk m c 2 t (ix3 0 d s) = (m ((c : Thread nD τ).loc main_arg2)) (ix3 (ptB t) s ⟨(ptG t).val * 96 + d.val, _⟩)
  unfold ptB ptG
  blk_ext! [iblk, V, idx2 t]

theorem head_q (t : Fin cfg0.N) (h : Fin 4) :
    headOf (iblk m c 0 t) h = argQ (m ((c : Thread nD τ).loc main_arg0)) (ptB t) (ptH t h) := by
  funext d s
  show iblk m c 0 t (ix3 0 s ⟨96 * h.val + d.val, _⟩) = (m ((c : Thread nD τ).loc main_arg0)) (ix3 (ptB t) s ⟨(ptH t h).val * 96 + d.val, _⟩)
  unfold ptB ptH
  blk_ext! [iblk, V, idx0 t]

/-! ## What a point leaves -/

theorem leaves4 (t : Fin cfg0.N) (X) (h : (rdat m c).Leaves 4 t X) : X = View.canon (qryPieces (blkOf (iblk m c 0 t))) := by
  obtain ⟨Y, _, h⟩ := h
  rw [show (rdat m c).after 4 = _ from RDat.override_after_of_eq_some (dats m 0 c).toR (ovr := rel m c) rfl] at h
  exact h

theorem leaves6 (t : Fin cfg0.N) (X) (h : (rdat m c).Leaves 6 t X) : X = View.canon (down8.map (keyPiece (iblk m c 1 t))) := by
  obtain ⟨Y, _, h⟩ := h
  rw [show (rdat m c).after 6 = _ from RDat.override_after_of_eq_some (dats m 0 c).toR (ovr := rel m c) rfl] at h
  exact h

theorem leaves8 (t : Fin cfg0.N) (X) (h : (rdat m c).Leaves 8 t X) : X = View.canon (down8.map (valPiece (iblk m c 2 t))) := by
  obtain ⟨Y, _, h⟩ := h
  rw [show (rdat m c).after 8 = _ from RDat.override_after_of_eq_some (dats m 0 c).toR (ovr := rel m c) rfl] at h
  exact h

theorem leaves5 (t : Fin cfg0.N) (X) (h : (rdat m c).Leaves 5 t X) :
    ∃ Y, (rdat m c).Finds 5 t Y ∧ X = patch (qsPiece (grid0.coords t) (iblk m c 0 t) Y) Y := by
  obtain ⟨Y, hY, h⟩ := h
  rw [show (rdat m c).after 5 = _ from RDat.override_after_of_eq_some (dats m 0 c).toR (ovr := rel m c) rfl] at h
  exact ⟨Y, hY, h⟩

theorem leaves7 (t : Fin cfg0.N) (X) (h : (rdat m c).Leaves 7 t X) :
    ∃ Y, (rdat m c).Finds 7 t Y ∧ X = patch (ksPiece (grid0.coords t) (iblk m c 1 t)) Y := by
  obtain ⟨Y, hY, h⟩ := h
  rw [show (rdat m c).after 7 = _ from RDat.override_after_of_eq_some (dats m 0 c).toR (ovr := rel m c) rfl] at h
  exact ⟨Y, hY, h⟩

theorem leaves9 (t : Fin cfg0.N) (X) (h : (rdat m c).Leaves 9 t X) :
    ∃ Y, (rdat m c).Finds 9 t Y ∧ X = patch (vsPiece (grid0.coords t) (iblk m c 2 t)) Y := by
  obtain ⟨Y, hY, h⟩ := h
  rw [show (rdat m c).after 9 = _ from RDat.override_after_of_eq_some (dats m 0 c).toR (ovr := rel m c) rfl] at h
  exact ⟨Y, hY, h⟩

/-- The point before. -/
def pred (t : Fin cfg0.N) : Fin cfg0.N := ⟨t.val - 1, Nat.lt_of_le_of_lt (Nat.sub_le _ _) t.isLt⟩

theorem finds5 (t : Fin cfg0.N) (ht : t.val ≠ 0) (Y) (h : (rdat m c).Finds 5 t Y) : (rdat m c).Leaves 5 (pred t) Y := by
  refine ((RDat.finds_of_pos (rdat m c) (nofetch5 t) ht Y).mp h).resolve_left fun hf => ?_
  have e : (t.val - 1) % 12 = 11 := (flush0_5 (pred t)).mp hf
  have := lt12 t
  omega

theorem finds7 (t : Fin cfg0.N) (ht : t.val % 2 = 1) (Y) (h : (rdat m c).Finds 7 t Y) : (rdat m c).Leaves 7 (pred t) Y := by
  refine ((RDat.finds_of_pos (rdat m c) (nofetch7 t) (by omega) Y).mp h).resolve_left fun hf => ?_
  have e : (t.val - 1) % 2 = 1 := (flush0_7 (pred t)).mp hf
  omega

theorem finds9 (t : Fin cfg0.N) (ht : t.val % 2 = 1) (Y) (h : (rdat m c).Finds 9 t Y) : (rdat m c).Leaves 9 (pred t) Y := by
  refine ((RDat.finds_of_pos (rdat m c) (nofetch9 t) (by omega) Y).mp h).resolve_left fun hf => ?_
  have e : (t.val - 1) % 2 = 1 := (flush0_9 (pred t)).mp hf
  omega

theorem pred_ptG (t : Fin cfg0.N) (ht : t.val % 2 = 1) : ptG (pred t) = ptG t :=
  Fin.ext (by show (t.val - 1) / 2 = t.val / 2; omega)

/-- The key scales a block ends with. -/
theorem ks_left (t : Fin cfg0.N) (ht : t.val % 2 = 1) (X) (h : (rdat m c).Leaves 7 t X) (b : Fin 2) (j : Fin 16) :
    X (ix3 0 b j) = kScale (argK (m ((c : Thread nD τ).loc main_arg1)) b (ptG t)) j := by
  obtain ⟨Y, hY, rfl⟩ := leaves7 m c t X h
  refine (ksPatch_at _ _ Y b j).trans ?_
  rw [coord1, rows_k]
  by_cases hb : b.val = t.val % 2
  · rw [if_pos hb, show ptB t = b from Fin.ext hb.symm]
  rw [if_neg hb]
  obtain ⟨Z, _, rfl⟩ := leaves7 m c (pred t) Y (finds7 m c t ht Y hY)
  refine (ksPatch_at _ _ Z b j).trans ?_
  rw [coord1, rows_k, pred_ptG t ht]
  have hb' : b.val = (pred t).val % 2 := by show b.val = (t.val - 1) % 2; omega
  rw [if_pos hb', show ptB (pred t) = b from Fin.ext hb'.symm]

/-- The value scales a block ends with. -/
theorem vs_left (t : Fin cfg0.N) (ht : t.val % 2 = 1) (X) (h : (rdat m c).Leaves 9 t X) (b : Fin 2) (d : Fin 96) :
    X (ix3 0 b d) = vScale (argK (m ((c : Thread nD τ).loc main_arg2)) b (ptG t)) d := by
  obtain ⟨Y, hY, rfl⟩ := leaves9 m c t X h
  refine (vsPatch_at _ _ Y b d).trans ?_
  rw [coord1, rows_v]
  by_cases hb : b.val = t.val % 2
  · rw [if_pos hb, show ptB t = b from Fin.ext hb.symm]
  rw [if_neg hb]
  obtain ⟨Z, _, rfl⟩ := leaves9 m c (pred t) Y (finds9 m c t ht Y hY)
  refine (vsPatch_at _ _ Z b d).trans ?_
  rw [coord1, rows_v, pred_ptG t ht]
  have hb' : b.val = (pred t).val % 2 := by show b.val = (t.val - 1) % 2; omega
  rw [if_pos hb', show ptB (pred t) = b from Fin.ext hb'.symm]

/-- The query scales the points up to `n` have written. -/
theorem qs_left (n : ℕ) : ∀ (t : Fin cfg0.N), t.val = n → ∀ X, (rdat m c).Leaves 5 t X →
    ∀ (b : Fin 2) (r : Fin 8) (h : Fin 24), h.val / 4 * 2 + b.val ≤ n →
      X (ix3 b r h) = qScale (argQ (m ((c : Thread nD τ).loc main_arg0)) b h) r.val := by
  induction n with
  | zero =>
    intro t ht X hX b r h hn
    obtain ⟨Y, hY, rfl⟩ := leaves5 m c t X hX
    refine (qsPatch_at _ _ Y b r h).trans ?_
    rw [coord0, coord1, head_q, if_pos ⟨by omega, by omega⟩, show ptB t = b from Fin.ext (by show t.val % 2 = _; omega),
      show ptH t _ = h from Fin.ext (by show t.val / 2 * 4 + h.val % 4 = _; omega)]
  | succ n ih =>
    intro t ht X hX b r h hn
    obtain ⟨Y, hY, rfl⟩ := leaves5 m c t X hX
    refine (qsPatch_at _ _ Y b r h).trans ?_
    rw [coord0, coord1, head_q]
    by_cases hb : b.val = t.val % 2 ∧ h.val / 4 = t.val / 2
    · rw [if_pos hb, show ptB t = b from Fin.ext hb.1.symm,
        show ptH t _ = h from Fin.ext (by show t.val / 2 * 4 + h.val % 4 = _; omega)]
    rw [if_neg hb]
    exact ih (pred t) (by show t.val - 1 = n; omega) Y (finds5 m c t (by omega) Y hY) b r h (by omega)

/-! ## The arrays -/

/-- The contents the launch ends with are named by exact data whose blocks the points left. -/
noncomputable abbrev ended (after : (w : Fin cfg0.W) → Fin cfg0.N → (cfg0.win w).block.Idx → Elt Ideal (cfg0.win w).elt) := (rdat m c).withAfter after

variable (after : (w : Fin cfg0.W) → Fin cfg0.N → (cfg0.win w).block.Idx → Elt Ideal (cfg0.win w).elt)
  (hl : ∀ (w : Fin cfg0.W) (u : Fin cfg0.N), (cfg0.win w).flush u = true → (rdat m c).Leaves w u (after w u))

theorem split_lt {N : ℕ} (g : Fin N) (d : Fin 96) : g.val * 96 + d.val < N * 96 := by
  have := g.isLt
  have := d.isLt
  omega

include hl in
theorem arr6 : (ended m c after).arrAt 6 cfg0.N = resKC (m ((c : Thread nD τ).loc main_arg1)) := by
  refine (ended m c after).arrAt_eq_of_covers 6 _ (by decide +kernel) fun t hf y => ?_
  blk_simp
  rw [RDat.withAfter_after, leaves6 m c t _ (hl 6 t hf)]
  obtain ⟨a, d, s, rfl⟩ : ∃ (a : Fin 1) (d : Fin 96) (s : Fin 1024), y = ix3 a d s := ⟨_, _, _, eq_ix3 y⟩
  obtain rfl : a = 0 := Subsingleton.elim _ _
  have he : (win0_6.blk t).view.emb (ix3 0 d s) = ix3 (ptB t) ⟨(ptG t).val * 96 + d.val, split_lt (ptG t) d⟩ s := by
    unfold ptB ptG
    blk_ext [idx6 t]
  refine (keyBlock_at _ d s).trans ?_
  rw [rows_k]
  exact ((congrArg (resKC _) he).trans (resKC_at _ (ptB t) (ptG t) d s _ rfl)).symm

include hl in
theorem arr8 : (ended m c after).arrAt 8 cfg0.N = resVC (m ((c : Thread nD τ).loc main_arg2)) := by
  refine (ended m c after).arrAt_eq_of_covers 8 _ (by decide +kernel) fun t hf y => ?_
  blk_simp
  rw [RDat.withAfter_after, leaves8 m c t _ (hl 8 t hf)]
  obtain ⟨a, d, s, rfl⟩ : ∃ (a : Fin 1) (d : Fin 96) (s : Fin 1024), y = ix3 a d s := ⟨_, _, _, eq_ix3 y⟩
  obtain rfl : a = 0 := Subsingleton.elim _ _
  have he : (win0_8.blk t).view.emb (ix3 0 d s) = ix3 (ptB t) ⟨(ptG t).val * 96 + d.val, split_lt (ptG t) d⟩ s := by
    unfold ptB ptG
    blk_ext [idx8 t]
  refine (valBlock_at _ d s).trans ?_
  rw [rows_v]
  exact ((congrArg (resVC _) he).trans (resVC_at _ (ptB t) (ptG t) d s _ rfl)).symm

theorem split4 (n : Fin 384) : ∃ (h : Fin 4) (d : Fin 96), n = ⟨96 * h.val + d.val, by omega⟩ :=
  ⟨⟨n.val / 96, by omega⟩, ⟨n.val % 96, by omega⟩, Fin.ext (by show n.val = 96 * (n.val / 96) + n.val % 96; omega)⟩

include hl in
theorem arr4 : (ended m c after).arrAt 4 cfg0.N = resQC (m ((c : Thread nD τ).loc main_arg0)) := by
  refine (ended m c after).arrAt_eq_of_covers 4 _ (by decide +kernel) fun t hf y => ?_
  blk_simp
  rw [RDat.withAfter_after, leaves4 m c t _ (hl 4 t hf)]
  obtain ⟨a, n, s, rfl⟩ : ∃ (a : Fin 1) (n : Fin 384) (s : Fin 1024), y = ix3 a n s := ⟨_, _, _, eq_ix3 y⟩
  obtain rfl : a = 0 := Subsingleton.elim _ _
  obtain ⟨h, d, rfl⟩ := split4 n
  have he : (win0_4.blk t).view.emb (ix3 0 ⟨96 * h.val + d.val, by omega⟩ s) = ix3 (ptB t) ⟨(ptH t h).val * 96 + d.val, split_lt (ptH t h) d⟩ s := by
    unfold ptB ptH
    blk_ext [idx4 t]
  refine (qryBlock_at _ h d s).trans ?_
  rw [head_q]
  exact ((congrArg (resQC _) he).trans (resQC_at _ (ptB t) (ptH t h) d s _ rfl)).symm

include hl in
theorem arr7 : (ended m c after).arrAt 7 cfg0.N = resKS (m ((c : Thread nD τ).loc main_arg1)) := by
  refine (ended m c after).arrAt_eq_of_covers 7 _ (by decide +kernel) fun t hf y => ?_
  blk_simp
  rw [RDat.withAfter_after]
  obtain ⟨a, b, j, rfl⟩ : ∃ (a : Fin 1) (b : Fin 2) (j : Fin 16), y = ix3 a b j := ⟨_, _, _, eq_ix3 y⟩
  obtain rfl : a = 0 := Subsingleton.elim _ _
  have he : (win0_7.blk t).view.emb (ix3 0 b j) = ix3 (ptG t) b j := by
    unfold ptG
    blk_ext [idx7 t]
  exact (ks_left m c t ((flush0_7 t).mp hf) _ (hl 7 t hf) b j).trans (congrArg (resKS _) he).symm

include hl in
theorem arr9 : (ended m c after).arrAt 9 cfg0.N = resVS (m ((c : Thread nD τ).loc main_arg2)) := by
  refine (ended m c after).arrAt_eq_of_covers 9 _ (by decide +kernel) fun t hf y => ?_
  blk_simp
  rw [RDat.withAfter_after]
  obtain ⟨a, b, d, rfl⟩ : ∃ (a : Fin 1) (b : Fin 2) (d : Fin 96), y = ix3 a b d := ⟨_, _, _, eq_ix3 y⟩
  obtain rfl : a = 0 := Subsingleton.elim _ _
  have he : (win0_9.blk t).view.emb (ix3 0 b d) = ix3 (ptG t) b d := by
    unfold ptG
    blk_ext [idx9 t]
  exact (vs_left m c t ((flush0_9 t).mp hf) _ (hl 9 t hf) b d).trans (congrArg (resVS _) he).symm

include hl in
theorem arr5 : (ended m c after).arrAt 5 cfg0.N = resQS (m ((c : Thread nD τ).loc main_arg0)) := by
  refine (ended m c after).arrAt_eq_of_covers 5 _ (by decide +kernel) fun t hf y => ?_
  blk_simp
  rw [RDat.withAfter_after]
  obtain ⟨b, r, h, rfl⟩ : ∃ (b : Fin 2) (r : Fin 8) (h : Fin 24), y = ix3 b r h := ⟨_, _, _, eq_ix3 y⟩
  have he : (win0_5.blk t).view.emb (ix3 b r h) = ix3 b r h := by blk_ext [idx5 t]
  have ht : t.val = 11 := by
    have e : t.val % 12 = 11 := (flush0_5 t).mp hf
    have := lt12 t
    omega
  exact (qs_left m c 11 t ht _ (hl 5 t hf) b r h (by omega)).trans (congrArg (resQS _) he).symm

end Cert.KernelIdeal.Gen

end
-- ==== Proof.RefVals.lean ====
/- What the reference's value codes and scales hold, entry by entry. -/
module

public import proofs.«01_k».proof.Proof.Gen.ReferenceIdeal.Value
public import proofs.«01_k».proof.Proof.Spec
public import Idealize.ShloMosaic.Lib.Pointwise

@[expose] public section

set_option maxHeartbeats 40000

noncomputable section

namespace Cert.ReferenceIdeal.Gen

open Idealize.ShloMosaic Idealize.SL.Sem Cert.Sage

/-- Head `h` of batch row `b` of the transposed queries. -/
def headQ (x : Vec Ideal S2x2304x1024 .bf16) (b : Fin 2) (h : Fin 24) (d : Fin 96) (s : Fin 1024) : EReal :=
  x (ix3 b ⟨h * 96 + d, by omega⟩ s)
/-- Head `g` of batch row `b` of the transposed keys or values. -/
def headK (x : Vec Ideal S2x576x1024 .bf16) (b : Fin 2) (g : Fin 6) (d : Fin 96) (s : Fin 1024) : EReal :=
  x (ix3 b ⟨g * 96 + d, by omega⟩ s)

theorem tiny_f32 : Ideal.ofBits .f32 0x00800000#32 = (((2 : ℝ) ^ (-126 : ℤ) : ℝ) : EReal) := by
  refine (ofBits_field 1 (by norm_num)).trans ?_
  rw [thr_mid (by norm_num) (by norm_num)]
  norm_num

theorem pay10_at (x : Vec Ideal S2x576x1024 .bf16) (b : Fin 2) (g : Fin 6) (d : Fin 96) (s : Fin 1024) :
    k0_pay10 (F := Ideal) x (ix4 b g d s) = headK x b g d s := by
  unfold k0_pay10 headK
  pointwise
theorem maxRow_at_red (z : FVec Ideal S2x6x96x1024 .f32) (b : Fin 2) (g : Fin 6) (d : Fin 96) :
    multiReduction .maximumf [3] S2x6x96 z 0xFF800000#32 reduces_S2x6x96x1024_S2x6x96 (.inl rfl) rfl (ix3 b g d) = Finset.univ.fold max (Ideal.ofBits .f32 0xFF800000#32) (fun s => z (ix4 b g d s)) := by
  pointwise
theorem maxRow_at_cast (z : FVec Ideal S2x6x96 .f32) (b : Fin 2) (g : Fin 6) (d : Fin 96) :
    mulf (shapeCast S2x6x96x1 z shapeCasts_S2x6x96_S2x6x96x1) (broadcast S2x6x96x1 (Scalar.ofBits .f32 0x3B124925#32)) (ix4 b g d 0) = z (ix3 b g d) * Ideal.ofBits .f32 0x3B124925#32 := by
  pointwise
theorem maxRow_at (z : FVec Ideal S2x6x96x1024 .f32) (b : Fin 2) (g : Fin 6) (d : Fin 96) :
    mulf (shapeCast S2x6x96x1 (multiReduction .maximumf [3] S2x6x96 z 0xFF800000#32 reduces_S2x6x96x1024_S2x6x96 (.inl rfl) rfl)
      shapeCasts_S2x6x96_S2x6x96x1) (broadcast S2x6x96x1 (Scalar.ofBits .f32 0x3B124925#32)) (ix4 b g d 0)
    = Finset.univ.fold max (Ideal.ofBits .f32 0xFF800000#32) (fun s => z (ix4 b g d s)) * Ideal.ofBits .f32 0x3B124925#32 := by
  rw [maxRow_at_cast, maxRow_at_red]
theorem pay11_at (x : Vec Ideal S2x576x1024 .bf16) (b : Fin 2) (g : Fin 6) (d : Fin 96) :
    k0_pay11 (F := Ideal) x (ix4 b g d 0) = yv (headK x b g) d := by
  refine (maxRow_at (absf (k0_pay10 x)) b g d).trans ?_
  unfold yv c448
  congr 1
  refine eq_of_forall_ge_iff fun z => ?_
  rw [Finset.fold_max_le]
  simp only [iSup_le_iff, ninf_le, true_and, Finset.mem_univ, forall_true_left]
  refine forall_congr' fun s => ?_
  show absE (k0_pay10 (F := Ideal) x _) ≤ z ↔ _
  rw [pay10_at]

/-- The exponent of `y`, entry by entry. -/
theorem exponent_at {s : Shape} (y : FVec Ideal s .f32) (j : s.Idx) :
    select (cmpf .olt y (broadcast s (Scalar.ofBits .f32 0x00800000#32))) (broadcast s (Scalar.ofBits .f32 0x00000000#32))
      (addf (floor (mulf (log y) (broadcast s (Named.named κ "inv_ln2" 0x3FB8AA3B#32)))) (broadcast s (Scalar.ofBits .f32 0x3F800000#32))) j
      = expR (y j) := by
  unfold expR
  show Scalar.select (FloatOps.cmpf (F := Ideal) (φ := .f32) .olt (y j) (Ideal.ofBits .f32 0x00800000#32)) (Ideal.ofBits .f32 0x00000000#32)
    (Ideal.liftRound Int.floor (Ideal.log (y j) * (((Real.log 2)⁻¹ : ℝ) : EReal)) + Ideal.ofBits .f32 0x3F800000#32) = _
  rw [tiny_f32, Ideal.ofBits_zero_f32, Ideal.ofBits_one_f32]

theorem pay15_at (x : Vec Ideal S2x576x1024 .bf16) (b : Fin 2) (g : Fin 6) (d : Fin 96) :
    k0_pay15 (k0_pay12 x) (k0_pay13 x) (k0_pay14 (F := Ideal)) (ix4 b g d 0) = expR (yv (headK x b g) d) := by
  rw [← pay11_at]
  exact exponent_at _ _
theorem scaleT_at (e : FVec Ideal S2x6x96x1 .f32) (b : Fin 2) (g : Fin 6) (d : Fin 96) :
    transpose S6x2x96 [1, 0, 2] (shapeCast S2x6x96 (exp2 e) shapeCasts_S2x6x96x1_S2x6x96) transposes_S2x6x96_p1_0_2_S6x2x96 (ix3 g b d)
      = FloatOps.exp2 (F := Ideal) (φ := .f32) (e (ix4 b g d 0)) := by
  pointwise
theorem vscale_at (x : Vec Ideal S2x576x1024 .bf16) (b : Fin 2) (g : Fin 6) (d : Fin 96) :
    k0_pay23 (k0_pay12 x) (k0_pay13 x) (k0_pay14 (F := Ideal)) (ix3 g b d) = scaleR (yv (headK x b g) d) := by
  unfold scaleR
  rw [← pay15_at]
  exact scaleT_at _ b g d
theorem codes4_at (z : FVec Ideal S2x6x96x1024 .f32) (e : FVec Ideal S2x6x96x1 .f32) (b : Fin 2) (g : Fin 6) (d : Fin 96) (s : Fin 1024) :
    shapeCast S2x576x1024 (truncf .fp8e4m3 (minimumf (broadcast S2x6x96x1024 (Scalar.ofBits .f32 0x43E00000#32))
      (maximumf (broadcast S2x6x96x1024 (Scalar.ofBits .f32 0xC3E00000#32)) (mulf z (broadcastTo S2x6x96x1024
        (exp2 (subf (broadcast S2x6x96x1 (Scalar.ofBits .f32 0x00000000#32)) e)) broadcasts_S2x6x96x1_S2x6x96x1024)))) bitsLt_fp8e4m3_f32)
      shapeCasts_S2x6x96x1024_S2x576x1024 (ix3 b ⟨g * 96 + d, by omega⟩ s)
    = min (Ideal.ofBits .f32 0x43E00000#32) (max (Ideal.ofBits .f32 0xC3E00000#32) (z (ix4 b g d s) * FloatOps.exp2 (F := Ideal) (φ := .f32) (0 - e (ix4 b g d 0)))) := by
  pointwise
theorem vcode_at (x : Vec Ideal S2x576x1024 .bf16) (b : Fin 2) (g : Fin 6) (d : Fin 96) (s : Fin 1024) :
    k0_pay22 (k0_pay10 x) (k0_pay12 x) (k0_pay13 x) (k0_pay14 (F := Ideal)) (ix3 b ⟨g * 96 + d, by omega⟩ s)
      = clip (headK x b g d s * invR (yv (headK x b g) d)) := by
  refine (codes4_at (k0_pay10 x) _ b g d s).trans ?_
  rw [pay10_at, pay15_at]; rfl

end Cert.ReferenceIdeal.Gen
end
-- ==== Proof.RefKeys.lean ====
/- What the reference's key codes and scales hold, entry by entry. -/
module

public import proofs.«01_k».proof.Proof.RefVals

@[expose] public section

set_option maxHeartbeats 40000

noncomputable section

namespace Cert.ReferenceIdeal.Gen

open Idealize.ShloMosaic Idealize.SL.Sem Cert.Sage

/-- The keys less their mean, the mean taken by division. -/
def smoothR (K : Fin 96 → Fin 1024 → EReal) (d : Fin 96) (s : Fin 1024) : EReal :=
  K d s - Ideal.div (∑ s', K d s') (Ideal.ofBits .f32 0x44800000#32)
/-- Block `j`'s greatest magnitude over 448. -/
def ykR (K : Fin 96 → Fin 1024 → EReal) (j : ℕ) : EReal := peak (smoothR K) (fun s => s.val / 64 = j) * c448

theorem pay5_at (x : Vec Ideal S2x576x1024 .bf16) (b : Fin 2) (g : Fin 6) (d : Fin 96) (j : Fin 16) (r : Fin 64) :
    k0_pay5 (F := Ideal) x (ix5 b g d j r) = x (ix3 b ⟨g * 96 + d, by omega⟩ ⟨j * 64 + r, by omega⟩)
      - Ideal.div (∑ s' : Fin 1024, x (ix3 b ⟨g * 96 + d, by omega⟩ s')) (Ideal.ofBits .f32 0x44800000#32) := by
  unfold k0_pay5
  pointwise
theorem pay5_eq (x : Vec Ideal S2x576x1024 .bf16) (b : Fin 2) (g : Fin 6) (d : Fin 96) (j : Fin 16) (r : Fin 64) :
    k0_pay5 (F := Ideal) x (ix5 b g d j r) = smoothR (headK x b g) d ⟨j * 64 + r, by omega⟩ := pay5_at x b g d j r
theorem drop_k (b b' : Fin 2) (g g' : Fin 6) (d : Fin 96) (j j' : Fin 16) (r : Fin 64) :
    reduces_S2x6x96x16x64_S2x6x16.drop (ix5 b' g' d j' r) = ix3 b g j ↔ b' = b ∧ g' = g ∧ j' = j := by
  rw [← ix3_inj]
  refine Eq.congr ?_ rfl
  funext a
  match a with | 0 => rfl | 1 => rfl | 2 => rfl
theorem maxBlockK_at_red (z : FVec Ideal S2x6x96x16x64 .f32) (b : Fin 2) (g : Fin 6) (j : Fin 16) :
    multiReduction .maximumf [2, 4] S2x6x16 z 0xFF800000#32 reduces_S2x6x96x16x64_S2x6x16 (.inl rfl) rfl (ix3 b g j) = Finset.fold max (Ideal.ofBits .f32 0xFF800000#32) z {k | reduces_S2x6x96x16x64_S2x6x16.drop k = ix3 b g j} := by
  pointwise
theorem maxBlockK_at_cast (z : FVec Ideal S2x6x16 .f32) (b : Fin 2) (g : Fin 6) (j : Fin 16) :
    mulf (shapeCast S2x6x1x16x1 z shapeCasts_S2x6x16_S2x6x1x16x1) (broadcast S2x6x1x16x1 (Scalar.ofBits .f32 0x3B124925#32)) (ix5 b g 0 j 0) = z (ix3 b g j) * Ideal.ofBits .f32 0x3B124925#32 := by
  pointwise
theorem maxBlockK_at (z : FVec Ideal S2x6x96x16x64 .f32) (b : Fin 2) (g : Fin 6) (j : Fin 16) :
    mulf (shapeCast S2x6x1x16x1 (multiReduction .maximumf [2, 4] S2x6x16 z 0xFF800000#32 reduces_S2x6x96x16x64_S2x6x16 (.inl rfl) rfl)
      shapeCasts_S2x6x16_S2x6x1x16x1) (broadcast S2x6x1x16x1 (Scalar.ofBits .f32 0x3B124925#32)) (ix5 b g 0 j 0)
    = Finset.fold max (Ideal.ofBits .f32 0xFF800000#32) z {k | reduces_S2x6x96x16x64_S2x6x16.drop k = ix3 b g j} * Ideal.ofBits .f32 0x3B124925#32 := by
  rw [maxBlockK_at_cast, maxBlockK_at_red]
theorem yk_at (x : Vec Ideal S2x576x1024 .bf16) (b : Fin 2) (g : Fin 6) (j : Fin 16) :
    mulf (shapeCast S2x6x1x16x1 (multiReduction .maximumf [2, 4] S2x6x16 (k0_pay6 (F := Ideal) x) 0xFF800000#32 reduces_S2x6x96x16x64_S2x6x16
      (.inl rfl) rfl) shapeCasts_S2x6x16_S2x6x1x16x1) (broadcast S2x6x1x16x1 (Scalar.ofBits .f32 0x3B124925#32)) (ix5 b g 0 j 0)
    = ykR (headK x b g) j := by
  rw [maxBlockK_at]
  unfold ykR c448
  congr 1
  refine eq_of_forall_ge_iff fun z => ?_
  rw [Finset.fold_max_le, peak_le]
  simp only [ninf_le, true_and, Finset.mem_filter, Finset.mem_univ]
  constructor
  · intro H d s hs
    have := H (ix5 b g d j ⟨s.val % 64, Nat.mod_lt _ (by norm_num)⟩) ((drop_k ..).2 ⟨rfl, rfl, rfl⟩)
    refine le_trans (le_of_eq ?_) this
    show absE _ = absE (k0_pay5 (F := Ideal) x _)
    rw [pay5_eq]
    congr 2
    exact Fin.ext (by show s.val = j.val * 64 + s.val % 64; omega)
  · intro H k hk
    obtain ⟨b', g', d, j', r, rfl⟩ : ∃ (b' : Fin 2) (g' : Fin 6) (d : Fin 96) (j' : Fin 16) (r : Fin 64), k = ix5 b' g' d j' r := ⟨_, _, _, _, _, eq_ix5 k⟩
    obtain ⟨rfl, rfl, rfl⟩ := (drop_k ..).1 hk
    refine le_trans (le_of_eq ?_) (H d ⟨j' * 64 + r, by omega⟩ (by show (j'.val * 64 + r.val) / 64 = j'.val; omega))
    show absE (k0_pay5 (F := Ideal) x _) = absE _
    rw [pay5_eq]
theorem pay7_at (x : Vec Ideal S2x576x1024 .bf16) (b : Fin 2) (g : Fin 6) (j : Fin 16) :
    k0_pay7 (F := Ideal) (k0_pay6 x) (ix5 b g 0 j 0) = expR (ykR (headK x b g) j) := by
  rw [← yk_at]
  exact exponent_at _ _
theorem scaleK_at (e : FVec Ideal S2x6x1x16x1 .f32) (b : Fin 2) (g : Fin 6) (j : Fin 16) :
    k0_pay21 (exp2 e) (ix3 g b j) = FloatOps.exp2 (F := Ideal) (φ := .f32) (e (ix5 b g 0 j 0)) := by
  unfold k0_pay21
  pointwise
theorem kscale_at (x : Vec Ideal S2x576x1024 .bf16) (b : Fin 2) (g : Fin 6) (j : Fin 16) :
    k0_pay21 (k0_pay9 (F := Ideal) (k0_pay6 x)) (ix3 g b j) = scaleR (ykR (headK x b g) j) := by
  unfold scaleR
  rw [← pay7_at]
  exact scaleK_at _ b g j
theorem codesK_at (z : FVec Ideal S2x6x96x16x64 .f32) (e : FVec Ideal S2x6x1x16x1 .f32) (b : Fin 2) (g : Fin 6) (d : Fin 96) (s : Fin 1024) :
    shapeCast S2x576x1024 (truncf .fp8e4m3 (minimumf (broadcast S2x6x96x16x64 (Scalar.ofBits .f32 0x43E00000#32))
      (maximumf (broadcast S2x6x96x16x64 (Scalar.ofBits .f32 0xC3E00000#32)) (mulf z (broadcastTo S2x6x96x16x64
        (exp2 (subf (broadcast S2x6x1x16x1 (Scalar.ofBits .f32 0x00000000#32)) e)) broadcasts_S2x6x1x16x1_S2x6x96x16x64)))) bitsLt_fp8e4m3_f32)
      shapeCasts_S2x6x96x16x64_S2x576x1024 (ix3 b ⟨g * 96 + d, by omega⟩ s)
    = min (Ideal.ofBits .f32 0x43E00000#32) (max (Ideal.ofBits .f32 0xC3E00000#32)
        (z (ix5 b g d ⟨s / 64, by omega⟩ ⟨s % 64, by omega⟩) * FloatOps.exp2 (F := Ideal) (φ := .f32) (0 - e (ix5 b g 0 ⟨s / 64, by omega⟩ 0)))) := by
  pointwise
theorem kcode_at (x : Vec Ideal S2x576x1024 .bf16) (b : Fin 2) (g : Fin 6) (d : Fin 96) (s : Fin 1024) :
    k0_pay20 (k0_pay8 (F := Ideal) (k0_pay5 x) (k0_pay6 x)) (ix3 b ⟨g * 96 + d, by omega⟩ s)
      = clip (smoothR (headK x b g) d s * invR (ykR (headK x b g) (s.val / 64))) := by
  refine (codesK_at (k0_pay5 x) _ b g d s).trans ?_
  rw [pay5_eq, pay7_at]
  have : (⟨s.val / 64 * 64 + s.val % 64, by omega⟩ : Fin 1024) = s := Fin.ext (by show s.val / 64 * 64 + s.val % 64 = s.val; omega)
  show clip (smoothR (headK x b g) d ⟨s.val / 64 * 64 + s.val % 64, _⟩ * _) = _
  rw [this]; rfl

end Cert.ReferenceIdeal.Gen
end
-- ==== Proof.Bounds.lean ====
/-
  What the precondition gives: every entry is a real number below `2 ^ 128`, so every scaled peak is a real number below
  `2 ^ 126`, where the two ways of taking its exponent agree.
-/
module

public import proofs.«01_k».proof.Proof.Heads
public import proofs.«01_k».proof.Proof.RefKeys
public import proofs.«01_k».proof.Proof.Gen.Pre_finite
public import Idealize.ShloMosaic.Lib.Pointwise
public import Idealize.ShloMosaic.Lib.ReduceAll

@[expose] public section

namespace Cert.Sage

open Idealize.ShloMosaic Idealize.SL.Sem

/-! ## The precondition, decoded -/

open Cert.Pre_finite Cert.Pre_finite.Facts in
theorem concat_at (a b c : IVec S1 1) :
    concatenate S3 0 [⟨S1, a⟩, ⟨S1, b⟩, ⟨S1, c⟩] concatenates_S1_S1_S1_S3_d0 (ix1 0) = a (ix1 0)
    ∧ concatenate S3 0 [⟨S1, a⟩, ⟨S1, b⟩, ⟨S1, c⟩] concatenates_S1_S1_S1_S3_d0 (ix1 1) = b (ix1 0)
    ∧ concatenate S3 0 [⟨S1, a⟩, ⟨S1, b⟩, ⟨S1, c⟩] concatenates_S1_S1_S1_S3_d0 (ix1 2) = c (ix1 0) := by
  refine ⟨?_, ?_, ?_⟩ <;> pointwise

theorem le_of_ole {a b : EReal} (h : (FloatOps.cmpf (F := Ideal) (φ := .f32) .ole a b : BitVec 1) = 1#1) : a ≤ b := by
  by_contra hn
  have : (FloatOps.cmpf (F := Ideal) (φ := .f32) .ole a b : BitVec 1) = 0#1 := by
    simp [FloatOps.cmpf, Ideal.cmp, hn]
  rw [this] at h
  exact absurd h (by decide)

/-- The precondition: no entry's magnitude is above the largest finite number. -/
theorem finite_args (x : FVec Ideal Cert.Pre_finite.S2x1024x2304 .bf16) (k v : FVec Ideal Cert.Pre_finite.S2x1024x576 .bf16)
    (h : Cert.Pre_finite.fn (F := Ideal) x k v = fun _ => 1#1) : (∀ i, absE (x i) ≤ Ideal.ofBits .f32 0x7F7F0000#32)
      ∧ (∀ i, absE (k i) ≤ Ideal.ofBits .f32 0x7F7F0000#32) ∧ ∀ i, absE (v i) ≤ Ideal.ofBits .f32 0x7F7F0000#32 := by
  have h0 := congrFun h (fun a => a.elim0)
  dsimp only [Cert.Pre_finite.fn, Cert.Pre_finite.fn_part1] at h0
  have e := Host.reduce_andi_all _ _ _ _ _ h0
  have e0 := (concat_at _ _ _).1.symm.trans (e (ix1 0))
  have e1 := (concat_at _ _ _).2.1.symm.trans (e (ix1 1))
  have e2 := (concat_at _ _ _).2.2.symm.trans (e (ix1 2))
  clear h0 h e
  refine ⟨fun i => ?_, fun i => ?_, fun i => ?_⟩
  · exact le_of_ole (Host.reduce_andi_all _ _ _ _ _ e0 i)
  · exact le_of_ole (Host.reduce_andi_all _ _ _ _ _ e1 i)
  · exact le_of_ole (Host.reduce_andi_all _ _ _ _ _ e2 i)

/-! ## The constants -/

theorem c448_real : ∃ q : ℝ, c448 = (q : EReal) ∧ 0 ≤ q ∧ q ≤ 2⁻¹ ^ 8 := by
  refine ⟨9586981 * (2 ^ 32)⁻¹, ?_, by positivity, by norm_num⟩
  unfold c448
  simp [Ideal.ofBits, Ideal.ieee]

theorem max_bf : Ideal.ofBits .f32 0x7F7F0000#32 ≤ (((2 : ℝ) ^ 128 : ℝ) : EReal) := by
  have e : Ideal.ofBits .f32 0x7F7F0000#32 = ((16711680 * 2 ^ 104 : ℝ) : EReal) := by
    simp [Ideal.ofBits, Ideal.ieee]
  rw [e, EReal.coe_le_coe_iff]
  norm_num

theorem inv1024 : Ideal.ofBits .f32 0x3A800000#32 = ((1024⁻¹ : ℝ) : EReal) := by
  rw [show (0x3A800000#32) = IntOp.shli .vector (BitVec.ofNat 32 117) 23#32 from rfl, ofBits_field 117 (by decide), thr_mid (by decide) (by decide)]
  norm_num

theorem v1024 : Ideal.ofBits .f32 0x44800000#32 = ((1024 : ℝ) : EReal) := by
  rw [show (0x44800000#32) = IntOp.shli .vector (BitVec.ofNat 32 137) 23#32 from rfl, ofBits_field 137 (by decide), thr_mid (by decide) (by decide)]
  norm_num

/-! ## Real heads -/

/-- A head whose entries are real numbers of magnitude at most `R`. -/
def RealHead (K : Fin 96 → Fin 1024 → EReal) (R : ℝ) : Prop := ∃ k : Fin 96 → Fin 1024 → ℝ, (K = fun d s => (k d s : EReal)) ∧ ∀ d s, |k d s| ≤ R

theorem absE_coe (r : ℝ) : absE (r : EReal) = (|r| : ℝ) := by
  unfold absE
  rw [← EReal.coe_neg]
  exact (EReal.coe_strictMono.monotone.map_max (a := r) (b := -r)).symm

theorem real_of_absE {x : EReal} {R : ℝ} (h : absE x ≤ (R : EReal)) : ∃ r : ℝ, x = r ∧ |r| ≤ R := by
  have h1 : x ≤ (R : EReal) := (le_max_left _ _).trans h
  have h2 : -x ≤ (R : EReal) := (le_max_right _ _).trans h
  induction x with
  | bot => exact absurd (show (⊤ : EReal) ≤ R from h2) (not_le.mpr (EReal.coe_lt_top R))
  | top => exact absurd h1 (not_le.mpr (EReal.coe_lt_top R))
  | coe r => exact ⟨r, rfl, EReal.coe_le_coe_iff.mp ((absE_coe r).symm ▸ h)⟩

theorem realHead_of {K : Fin 96 → Fin 1024 → EReal} (h : ∀ d s, absE (K d s) ≤ Ideal.ofBits .f32 0x7F7F0000#32) :
    RealHead K (2 ^ 128) := by
  choose k hk hb using fun d s => real_of_absE ((h d s).trans max_bf)
  exact ⟨k, funext fun d => funext fun s => hk d s, hb⟩

/-- A nonempty peak of a real head is a real number in `[0, R]`. -/
theorem peak_real {K : Fin 96 → Fin 1024 → EReal} {R : ℝ} (h : RealHead K R) (P : Fin 1024 → Prop) (s : Fin 1024) (hs : P s) :
    ∃ r : ℝ, peak K P = r ∧ 0 ≤ r ∧ r ≤ R := by
  obtain ⟨k, rfl, hk⟩ := h
  have hi : peak (fun d s => (k d s : EReal)) P ≤ (R : EReal) :=
    iSup_le fun d => iSup_le fun s => iSup_le fun _ => by
      rw [absE_coe]; exact EReal.coe_le_coe_iff.mpr (hk d s)
  have lo : (0 : EReal) ≤ peak (fun d s => (k d s : EReal)) P :=
    (absE_nonneg (k 0 s : EReal)).trans
      (le_iSup_of_le (0 : Fin 96) (le_iSup_of_le s (le_iSup_of_le hs le_rfl)))
  generalize peak (fun d s => (k d s : EReal)) P = p at hi lo
  induction p with
  | bot => exact absurd lo (by decide)
  | top => exact absurd hi (not_le.mpr (EReal.coe_lt_top R))
  | coe r => exact ⟨r, rfl, EReal.coe_nonneg.mp lo, EReal.coe_le_coe_iff.mp hi⟩

theorem scaled_real {p : EReal} {R : ℝ} (hR : R ≤ 2 ^ 129) (h : ∃ r : ℝ, p = r ∧ 0 ≤ r ∧ r ≤ R) :
    ∃ r : ℝ, p * c448 = r ∧ 0 ≤ r ∧ r < (2 : ℝ) ^ (126 : ℤ) := by
  obtain ⟨r, rfl, h0, h1⟩ := h
  obtain ⟨q, hq, q0, q1⟩ := c448_real
  refine ⟨r * q, by rw [hq, EReal.coe_mul], mul_nonneg h0 q0, ?_⟩
  calc r * q ≤ 2 ^ 129 * 2⁻¹ ^ 8 := mul_le_mul (h1.trans hR) q1 q0 (by positivity)
    _ < _ := by norm_num

theorem yq_real {Q : Fin 96 → Fin 1024 → EReal} (h : RealHead Q (2 ^ 128)) (i : ℕ) (hi : i < 8) :
    ∃ r : ℝ, yq Q i = r ∧ 0 ≤ r ∧ r < (2 : ℝ) ^ (126 : ℤ) :=
  scaled_real (by norm_num) (peak_real h _ ⟨128 * i, by omega⟩ (by show 128 * i / 128 = i; omega))

theorem yv_eq (V : Fin 96 → Fin 1024 → EReal) (d : Fin 96) : ∀ R : ℝ, RealHead V R → ∃ r : ℝ, (⨆ s, absE (V d s)) = r ∧ 0 ≤ r ∧ r ≤ R := by
  intro R h
  have h' : RealHead (fun _ => V d) R := by
    obtain ⟨k, rfl, hk⟩ := h
    exact ⟨fun _ => k d, rfl, fun _ => hk d⟩
  have := peak_real h' (fun _ => True) 0 trivial
  have e : peak (fun _ : Fin 96 => V d) (fun _ => True) = ⨆ s, absE (V d s) := by
    unfold peak
    simp only [iSup_pos, ciSup_const]
  rwa [e] at this

theorem yv_real {V : Fin 96 → Fin 1024 → EReal} (h : RealHead V (2 ^ 128)) (d : Fin 96) :
    ∃ r : ℝ, yv V d = r ∧ 0 ≤ r ∧ r < (2 : ℝ) ^ (126 : ℤ) :=
  scaled_real (by norm_num) (yv_eq V d _ h)

/-! ## The smoothed keys -/

theorem coe_sum (k : Fin 1024 → ℝ) : ∑ s, (k s : EReal) = ((∑ s, k s : ℝ) : EReal) := by
  induction (Finset.univ : Finset (Fin 1024)) using Finset.induction_on with
  | empty => simp
  | insert a S ha ih => rw [Finset.sum_insert ha, Finset.sum_insert ha, ih, EReal.coe_add]

theorem smooth_coe (k : Fin 96 → Fin 1024 → ℝ) (d : Fin 96) (s : Fin 1024) :
    smooth (fun d s => (k d s : EReal)) d s = ((k d s - (∑ s', k d s') * 1024⁻¹ : ℝ) : EReal) := by
  unfold smooth
  rw [inv1024, coe_sum, ← EReal.coe_mul, ← EReal.coe_sub]

theorem smoothR_eq {K : Fin 96 → Fin 1024 → EReal} : Cert.ReferenceIdeal.Gen.smoothR K = smooth K := by
  funext d s
  unfold Cert.ReferenceIdeal.Gen.smoothR smooth
  rw [inv1024, v1024, Ideal.div, if_neg (by rw [← EReal.coe_zero, EReal.coe_eq_coe_iff]; norm_num), ← EReal.coe_inv]

theorem smooth_real {K : Fin 96 → Fin 1024 → EReal} (h : RealHead K (2 ^ 128)) : RealHead (smooth K) (2 ^ 129) := by
  obtain ⟨k, rfl, hk⟩ := h
  refine ⟨fun d s => k d s - (∑ s', k d s') * 1024⁻¹, funext fun d => funext fun s => smooth_coe k d s, fun d s => ?_⟩
  have hs : |∑ s', k d s'| ≤ 1024 * 2 ^ 128 := by
    refine (Finset.abs_sum_le_sum_abs _ _).trans ((Finset.sum_le_sum fun s' _ => hk d s').trans ?_)
    simp
  have h2 : |(∑ s', k d s') * (1024⁻¹ : ℝ)| ≤ 2 ^ 128 := by
    rw [abs_mul, abs_of_pos (by norm_num : (0 : ℝ) < 1024⁻¹)]
    linarith
  have := abs_sub (k d s) ((∑ s', k d s') * 1024⁻¹)
  have := hk d s
  have e : (2 : ℝ) ^ 129 = 2 ^ 128 + 2 ^ 128 := by norm_num
  linarith

theorem yk_real {K : Fin 96 → Fin 1024 → EReal} (h : RealHead K (2 ^ 128)) (j : ℕ) (hj : j < 16) :
    ∃ r : ℝ, yk K j = r ∧ 0 ≤ r ∧ r < (2 : ℝ) ^ (126 : ℤ) :=
  scaled_real le_rfl (peak_real (smooth_real h) _ ⟨64 * j, by omega⟩ (by show 64 * j / 64 = j; omega))

theorem ykR_eq (K : Fin 96 → Fin 1024 → EReal) (j : ℕ) : Cert.ReferenceIdeal.Gen.ykR K j = yk K j := by
  unfold Cert.ReferenceIdeal.Gen.ykR yk
  rw [smoothR_eq]

end Cert.Sage

end
-- ==== Proof.Attn.lean ====
/-
  Causal attention of one query over real codes and real scores, and the two ways of computing it that give it: with any
  shift of the scores the weights' factor cancels between the weighted values and the weights' sum.
-/
module

public import proofs.«01_k».proof.Proof.Bounds

@[expose] public section

noncomputable section

namespace Cert.Sage

open Idealize.ShloMosaic

/-- The values `v` weighted by the exponentials of the scores `s` over the keys `0..q`, times the scale `w`, over the weights' sum. -/
def softAvg (v s : ℕ → ℝ) (w : ℝ) (q : ℕ) : ℝ :=
  (∑ j ∈ Finset.range (q + 1), v j * Real.exp (s j)) * w / ∑ j ∈ Finset.range (q + 1), Real.exp (s j)

theorem coe_sum_range (f : ℕ → ℝ) (n : ℕ) : ∑ j ∈ Finset.range n, (f j : EReal) = ((∑ j ∈ Finset.range n, f j : ℝ) : EReal) := by
  induction n with
  | zero => simp
  | succ n ih => rw [Finset.sum_range_succ, Finset.sum_range_succ, ih, EReal.coe_add]

theorem sum_seen (f : ℕ → ℝ) {q n : ℕ} (h : q < n) :
    ∑ j ∈ Finset.range n, (if j ≤ q then f j else 0) = ∑ j ∈ Finset.range (q + 1), f j := by
  rw [← Finset.sum_filter]
  refine Finset.sum_congr ?_ fun _ _ => rfl
  ext j
  simp only [Finset.mem_filter, Finset.mem_range]
  omega

/-- The weight of key `j` for query `q`: the score's exponential times `c`, nothing where the key is hidden. -/
def weight (s : ℕ → ℝ) (c : ℝ) (q j : ℕ) : ℝ := if j ≤ q then Real.exp (s j) * c else 0

theorem weight_sum (s : ℕ → ℝ) (c : ℝ) {q n : ℕ} (h : q < n) :
    ∑ j ∈ Finset.range n, weight s c q j = (∑ j ∈ Finset.range (q + 1), Real.exp (s j)) * c := by
  unfold weight
  rw [sum_seen (fun j => Real.exp (s j) * c) h, Finset.sum_mul]
theorem weight_dot (v s : ℕ → ℝ) (c : ℝ) {q n : ℕ} (h : q < n) :
    ∑ j ∈ Finset.range n, v j * weight s c q j = (∑ j ∈ Finset.range (q + 1), v j * Real.exp (s j)) * c := by
  unfold weight
  simp only [mul_ite, mul_zero]
  rw [sum_seen (fun j => v j * (Real.exp (s j) * c)) h, Finset.sum_mul]
  exact Finset.sum_congr rfl fun j _ => (mul_assoc _ _ _).symm
theorem expSum_pos (s : ℕ → ℝ) (q : ℕ) : 0 < ∑ j ∈ Finset.range (q + 1), Real.exp (s j) :=
  Finset.sum_pos (fun j _ => Real.exp_pos _) ⟨0, by simp⟩

/-- The ideal quotient of real numbers. -/
theorem div_real (a b : ℝ) (h : b ≠ 0) : Ideal.div (a : EReal) (b : EReal) = ((a / b : ℝ) : EReal) := by
  rw [Ideal.div_coe h, ← EReal.coe_mul]
  congr 1
  rw [mul_one_div]

theorem v256 : Ideal.ofBits .f32 0x43800000#32 = ((256 : ℝ) : EReal) := by
  simp [Ideal.ofBits, Ideal.ieee]; rw [← EReal.coe_mul]; norm_num
theorem inv256 : Ideal.ofBits .f32 0x3B800000#32 = ((256⁻¹ : ℝ) : EReal) := by
  simp [Ideal.ofBits, Ideal.ieee]; rw [← EReal.coe_mul]; norm_num
theorem v448 : Ideal.ofBits .f32 0x43E00000#32 = ((448 : ℝ) : EReal) := by
  simp [Ideal.ofBits, Ideal.ieee]; rw [← EReal.coe_mul]; norm_num
theorem neg448 : Ideal.ofBits .f32 0xC3E00000#32 = ((-448 : ℝ) : EReal) := by
  simp [Ideal.ofBits, Ideal.ieee]; rw [← EReal.coe_mul]; norm_num
theorem v8 : Ideal.ofBits .f32 0x41000000#32 = ((8 : ℝ) : EReal) := by
  simp [Ideal.ofBits, Ideal.ieee]; rw [← EReal.coe_mul]; norm_num

/-- Clipping to `[0, 448]` leaves a number of that range as it is. -/
theorem clip_id {r : ℝ} (h0 : 0 ≤ r) (h1 : r ≤ 448) :
    min (Ideal.ofBits .f32 0x43E00000#32) (max (Ideal.ofBits .f32 0x00000000#32) (r : EReal)) = (r : EReal) := by
  rw [v448, Ideal.ofBits_zero_f32, max_eq_right (EReal.coe_nonneg.mpr h0), min_eq_right (EReal.coe_le_coe_iff.mpr h1)]

/-- A code is a real number. -/
theorem clip_real (z : EReal) : ∃ r : ℝ, clip z = (r : EReal) := by
  unfold clip
  rw [v448, neg448]
  have h1 : min ((448 : ℝ) : EReal) (max ((-448 : ℝ) : EReal) z) ≤ ((448 : ℝ) : EReal) := min_le_left _ _
  have h2 : ((-448 : ℝ) : EReal) ≤ min ((448 : ℝ) : EReal) (max ((-448 : ℝ) : EReal) z) :=
    le_min (EReal.coe_le_coe_iff.mpr (by norm_num)) (le_max_left _ _)
  generalize min ((448 : ℝ) : EReal) (max ((-448 : ℝ) : EReal) z) = p at h1 h2
  induction p with
  | bot => exact absurd h2 (not_le.mpr (EReal.bot_lt_coe _))
  | top => exact absurd h1 (not_le.mpr (EReal.coe_lt_top _))
  | coe r => exact ⟨r, rfl⟩

/-! ## With the exponential to base e, the weights scaled by 256 -/

section
variable (v s : ℕ → ℝ) (w : ℝ) (q : Fin 1024)

/-- The score of key `j`, -∞ where it is hidden. -/
def seen (s : ℕ → ℝ) (q : ℕ) (j : ℕ) : EReal := if j ≤ q then (s j : EReal) else ⊥

theorem max_real (M : EReal) (hM : M = (Finset.univ : Finset (Fin 1024)).fold max (Ideal.ofBits .f32 0xFF800000#32) (fun k => seen s q k.val)) :
    ∃ t : ℝ, M = (t : EReal) ∧ ∀ j ≤ q.val, s j ≤ t := by
  have hi : M < ⊤ := by
    rw [hM, Finset.fold_max_lt]
    refine ⟨by rw [ninf_f32]; exact bot_lt_top, fun k _ => ?_⟩
    unfold seen
    split
    · exact EReal.coe_lt_top _
    · exact bot_lt_top
  have lo : ∀ j ≤ q.val, (s j : EReal) ≤ M := fun j hj => by
    have := (Finset.fold_max_le (f := fun k : Fin 1024 => seen s q k.val) (s := Finset.univ) (b := Ideal.ofBits .f32 0xFF800000#32) M).mp hM.ge
    have := this.2 ⟨j, by omega⟩ (Finset.mem_univ _)
    simpa only [seen, if_pos hj] using this
  induction M with
  | bot => exact absurd (lo q.val le_rfl) (not_le.mpr (EReal.bot_lt_coe _))
  | top => exact absurd hi (lt_irrefl _)
  | coe t => exact ⟨t, rfl, fun j hj => EReal.coe_le_coe_iff.mp (lo j hj)⟩

theorem exp_seen (t : ℝ) (j : ℕ) : Ideal.exp (seen s q.val j - (t : EReal)) = ((weight s (Real.exp (-t)) q.val j : ℝ) : EReal) := by
  unfold seen weight
  split
  · rw [← EReal.coe_sub, Ideal.exp_coe, sub_eq_add_neg, Real.exp_add]
  · rw [EReal.bot_sub, Ideal.exp_bot, EReal.coe_zero]

theorem natural_attention (M : EReal)
    (hM : M = (Finset.univ : Finset (Fin 1024)).fold max (Ideal.ofBits .f32 0xFF800000#32) (fun k => seen s q k.val)) :
    Ideal.div ((∑ k : Fin 1024, (v k.val : EReal) * min (Ideal.ofBits .f32 0x43E00000#32) (max (Ideal.ofBits .f32 0x00000000#32)
      (Ideal.exp (seen s q k.val - M) * Ideal.ofBits .f32 0x43800000#32))) * Ideal.ofBits .f32 0x3B800000#32 * (w : EReal))
      (∑ k : Fin 1024, Ideal.exp (seen s q k.val - M)) = ((softAvg v s w q.val : ℝ) : EReal) := by
  obtain ⟨t, rfl, ht⟩ := max_real s q M hM
  have hw : ∀ j, 0 ≤ weight s (Real.exp (-t)) q.val j ∧ weight s (Real.exp (-t)) q.val j ≤ 1 := fun j => by
    unfold weight
    split
    · rename_i hj
      rw [← Real.exp_add]
      exact ⟨(Real.exp_pos _).le, Real.exp_le_one_iff.mpr (by have := ht j hj; linarith)⟩
    · exact ⟨le_rfl, zero_le_one⟩
  have e1 : ∀ k : Fin 1024, (v k.val : EReal) * min (Ideal.ofBits .f32 0x43E00000#32) (max (Ideal.ofBits .f32 0x00000000#32)
      (Ideal.exp (seen s q k.val - (t : EReal)) * Ideal.ofBits .f32 0x43800000#32))
      = ((fun j => v j * weight s (Real.exp (-t)) q.val j * 256 : ℕ → ℝ) k.val : EReal) := fun k => by
    rw [exp_seen, v256, ← EReal.coe_mul, clip_id (by have := (hw k.val).1; linarith) (by have := (hw k.val).2; linarith), ← EReal.coe_mul]
    congr 1
    ring
  have e2 : ∑ k : Fin 1024, Ideal.exp (seen s q k.val - (t : EReal)) = ∑ j ∈ Finset.range 1024, (weight s (Real.exp (-t)) q.val j : EReal) := by
    rw [Finset.sum_range]
    exact Finset.sum_congr rfl fun k _ => exp_seen s q t k.val
  rw [Finset.sum_congr rfl fun k _ => e1 k, e2,
    ← Finset.sum_range (fun j => ((v j * weight s (Real.exp (-t)) q.val j * 256 : ℝ) : EReal)), coe_sum_range, coe_sum_range, ← Finset.sum_mul,
    weight_dot v s _ q.isLt, weight_sum s _ q.isLt, inv256, ← EReal.coe_mul, ← EReal.coe_mul,
    div_real _ _ (mul_ne_zero (expSum_pos s q.val).ne' (Real.exp_pos _).ne')]
  congr 1
  unfold softAvg
  have := expSum_pos s q.val
  have := Real.exp_pos (-t)
  field_simp
end

/-! ## With the exponential to base 2 -/

section
variable (v s : ℕ → ℝ) (w : ℝ) (q : ℕ)

theorem rpow_two (x : ℝ) : Real.rpow 2 (x * (Real.log 2)⁻¹) = Real.exp x := by
  rw [Real.rpow_eq_pow, Real.rpow_def_of_pos (by norm_num)]
  congr 1
  have : Real.log 2 ≠ 0 := (Real.log_pos (by norm_num)).ne'
  field_simp

/-- The weight of a score kept in units of log 2. -/
theorem exp2_seen (t : ℝ) (j : ℕ) :
    Ideal.exp2 (seen (fun j => s j * (Real.log 2)⁻¹) q j - (t : EReal)) = ((weight s (Real.rpow 2 (-t)) q j : ℝ) : EReal) := by
  unfold seen weight
  split
  · rw [← EReal.coe_sub, Ideal.exp2_coe, sub_eq_add_neg]
    congr 1
    exact (Real.rpow_add (by norm_num : (0 : ℝ) < 2) _ _).trans (congrArg (· * _) (rpow_two (s j)))
  · rw [EReal.bot_sub, Ideal.exp2_bot, EReal.coe_zero]

theorem binary_attention (n : ℕ) (hq : q < n) (t : ℝ) (ht : ∀ j ≤ q, s j * (Real.log 2)⁻¹ ≤ t + 8) (p : ℕ → EReal)
    (hp : ∀ j, p j = Ideal.exp2 (seen (fun j => s j * (Real.log 2)⁻¹) q j - (t : EReal))) :
    (∑ j ∈ Finset.range n, (v j : EReal) * min (Ideal.ofBits .f32 0x43E00000#32) (max (Ideal.ofBits .f32 0x00000000#32) (p j))) * (w : EReal)
      * Ideal.div (Ideal.ofBits .f32 0x3F800000#32) (∑ j ∈ Finset.range n, p j) = ((softAvg v s w q : ℝ) : EReal) := by
  have hc : 0 < Real.rpow 2 (-t) := Real.rpow_pos_of_pos (by norm_num) _
  have hw : ∀ j, 0 ≤ weight s (Real.rpow 2 (-t)) q j ∧ weight s (Real.rpow 2 (-t)) q j ≤ 448 := fun j => by
    unfold weight
    split
    · rename_i hj
      refine ⟨(mul_pos (Real.exp_pos _) hc).le, ?_⟩
      rw [← rpow_two]
      refine ((Real.rpow_add (by norm_num : (0 : ℝ) < 2) _ _).symm.trans_le
        (Real.rpow_le_rpow_of_exponent_le (by norm_num : (1 : ℝ) ≤ 2) (by have := ht j hj; linarith : _ ≤ (8 : ℝ)))).trans ?_
      norm_num
    · exact ⟨le_rfl, by norm_num⟩
  have e : ∀ j, p j = ((weight s (Real.rpow 2 (-t)) q j : ℝ) : EReal) := fun j => (hp j).trans (exp2_seen s q t j)
  have e1 : ∀ j, (v j : EReal) * min (Ideal.ofBits .f32 0x43E00000#32) (max (Ideal.ofBits .f32 0x00000000#32) (p j))
      = ((v j * weight s (Real.rpow 2 (-t)) q j : ℝ) : EReal) := fun j => by
    rw [e, clip_id (hw j).1 (hw j).2, ← EReal.coe_mul]
  rw [Finset.sum_congr rfl fun j _ => e1 j, Finset.sum_congr rfl fun j _ => e j, coe_sum_range, coe_sum_range,
    weight_dot v s _ hq, weight_sum s _ hq, Ideal.ofBits_one_f32, ← EReal.coe_one, ← EReal.coe_mul,
    div_real _ _ (mul_ne_zero (expSum_pos s q).ne' hc.ne'), ← EReal.coe_mul]
  congr 1
  unfold softAvg
  have := expSum_pos s q
  field_simp
end

/-- The least bound of the scores seen is a real number. -/
theorem top_real (s : ℕ → ℝ) (q n : ℕ) (hq : q < n) (M : EReal) (hM : ∀ z, M ≤ z ↔ ∀ j < n, seen s q j ≤ z) :
    ∃ t : ℝ, M = (t : EReal) ∧ ∀ j ≤ q, s j ≤ t := by
  have hi : M ≤ ((∑ j ∈ Finset.range n, |s j| : ℝ) : EReal) := (hM _).mpr fun j hj => by
    unfold seen
    split
    · exact EReal.coe_le_coe_iff.mpr ((le_abs_self _).trans
        (Finset.single_le_sum (f := fun j => |s j|) (fun j _ => abs_nonneg _) (Finset.mem_range.mpr hj)))
    · exact bot_le
  have lo : ∀ j ≤ q, (s j : EReal) ≤ M := fun j hj => by
    have := (hM M).mp le_rfl j (by omega)
    simpa only [seen, if_pos hj] using this
  induction M with
  | bot => exact absurd (lo q le_rfl) (not_le.mpr (EReal.bot_lt_coe _))
  | top => exact absurd hi (not_le.mpr (EReal.coe_lt_top _))
  | coe t => exact ⟨t, rfl, fun j hj => EReal.coe_le_coe_iff.mp (lo j hj)⟩

/-! ## The scores and values of a head -/

/-- A position as one of the 1024. -/
abbrev fi (j : ℕ) : Fin 1024 := ⟨j % 1024, Nat.mod_lt _ (by norm_num)⟩
/-- The product of the codes of key `k` and query `q`. -/
def codeDot (Q K : Fin 96 → Fin 1024 → EReal) (k q : Fin 1024) : EReal := ∑ d, kCode K d k * qCode Q d q
/-- The score of key `j` for query `q`. -/
def score (Q K : Fin 96 → Fin 1024 → EReal) (q : Fin 1024) (j : ℕ) : ℝ :=
  (codeDot Q K (fi j) q).toReal * (qScale Q (q.val / 128)).toReal * (kScale K ((fi j).val / 64)).toReal * (Real.sqrt 96)⁻¹
/-- The output's entry at query `q` and channel `d`. -/
def att (Q K V : Fin 96 → Fin 1024 → EReal) (d : Fin 96) (q : Fin 1024) : EReal :=
  ((softAvg (fun j => (vCode V d (fi j)).toReal) (score Q K q) (vScale V d).toReal q.val : ℝ) : EReal)

theorem coe_toReal {x : EReal} (h : ∃ r : ℝ, x = (r : EReal)) : (x.toReal : EReal) = x := by
  obtain ⟨r, rfl⟩ := h; rfl
theorem codeDot_real (Q K : Fin 96 → Fin 1024 → EReal) (k q : Fin 1024) : ∃ r : ℝ, codeDot Q K k q = (r : EReal) := by
  choose a ha using fun d => clip_real (smooth K d k * invW (yk K (k.val / 64)))
  choose b hb using fun d => clip_real (Q d q * invW (yq Q (q.val / 128)))
  refine ⟨∑ d, a d * b d, ?_⟩
  unfold codeDot
  rw [Finset.sum_congr rfl fun d _ => (show kCode K d k * qCode Q d q = ((a d * b d : ℝ) : EReal) by
    rw [EReal.coe_mul, ← ha, ← hb]; rfl)]
  induction (Finset.univ : Finset (Fin 96)) using Finset.induction_on with
  | empty => simp
  | insert a S ha ih => rw [Finset.sum_insert ha, Finset.sum_insert ha, ih, EReal.coe_add]
theorem scaleW_real {y : EReal} (h : ∃ r : ℝ, y = r ∧ 0 ≤ r ∧ r < (2 : ℝ) ^ (126 : ℤ)) : ∃ r : ℝ, scaleW y = (r : EReal) := by
  obtain ⟨r, rfl, h0, h1⟩ := h
  exact ⟨_, scaleW_eq h0 h1⟩
theorem vCode_toReal (V : Fin 96 → Fin 1024 → EReal) (d : Fin 96) (k : Fin 1024) : ((vCode V d k).toReal : EReal) = vCode V d k :=
  coe_toReal (clip_real _)
theorem vScale_toReal {V : Fin 96 → Fin 1024 → EReal} (h : RealHead V (2 ^ 128)) (d : Fin 96) : ((vScale V d).toReal : EReal) = vScale V d :=
  coe_toReal (scaleW_real (yv_real h d))

theorem fi_val (k : Fin 1024) : fi k.val = k := Fin.ext (Nat.mod_eq_of_lt k.isLt)

/-- The score, the scales one after the other. -/
theorem score_one {Q K : Fin 96 → Fin 1024 → EReal} (hQ : RealHead Q (2 ^ 128)) (hK : RealHead K (2 ^ 128)) (q k : Fin 1024) :
    codeDot Q K k q * qScale Q (q.val / 128) * kScale K (k.val / 64) * (((Real.sqrt 96)⁻¹ : ℝ) : EReal) = (score Q K q k.val : EReal) := by
  have e1 : _ = qScale Q (q.val / 128) := coe_toReal (scaleW_real (yq_real hQ (q.val / 128) (by omega)))
  have e2 : _ = kScale K (k.val / 64) := coe_toReal (scaleW_real (yk_real hK (k.val / 64) (by omega)))
  unfold score
  rw [fi_val, EReal.coe_mul, EReal.coe_mul, EReal.coe_mul, coe_toReal (codeDot_real Q K k q), ← e1, ← e2]
  rfl
/-- The score in units of log 2, the scales multiplied first. -/
theorem score_two {Q K : Fin 96 → Fin 1024 → EReal} (hQ : RealHead Q (2 ^ 128)) (hK : RealHead K (2 ^ 128)) (q k : Fin 1024) :
    codeDot Q K k q * (kScale K (k.val / 64) * (qScale Q (q.val / 128) * (((Real.sqrt 96)⁻¹ * (Real.log 2)⁻¹ : ℝ) : EReal)))
      = ((score Q K q k.val * (Real.log 2)⁻¹ : ℝ) : EReal) := by
  have e1 := coe_toReal (scaleW_real (yq_real hQ (q.val / 128) (by omega)))
  have e2 := coe_toReal (scaleW_real (yk_real hK (k.val / 64) (by omega)))
  have e3 := coe_toReal (codeDot_real Q K k q)
  unfold score
  rw [fi_val]
  unfold qScale kScale at *
  rw [← e1, ← e2, ← e3]
  simp only [EReal.toReal_coe]
  rw [← EReal.coe_mul, ← EReal.coe_mul, ← EReal.coe_mul]
  congr 1
  ring

/-- The output of a call: the attention of the query head a column belongs to, over the key and value head of its group. -/
def resOut (x : QArg) (k v : KArg) : (⟨3, ![2, 1024, 2304]⟩ : Shape).Idx → EReal := fun y =>
  att (argQ x (y 0) ⟨(y 2).val / 96, Nat.div_lt_of_lt_mul (show (y 2).val < 96 * 24 from (y 2).isLt)⟩)
    (argK k (y 0) ⟨(y 2).val / 384, Nat.div_lt_of_lt_mul (show (y 2).val < 384 * 6 from (y 2).isLt)⟩)
    (argK v (y 0) ⟨(y 2).val / 384, Nat.div_lt_of_lt_mul (show (y 2).val < 384 * 6 from (y 2).isLt)⟩)
    ⟨(y 2).val % 96, Nat.mod_lt _ (by decide)⟩ (y 1)

/-- An output entry at its head and column. -/
theorem resOut_at (x : QArg) (k v : KArg) (b : Fin 2) (h : Fin 24) (g : Fin 6) (hg : g.val = h.val / 4) (d : Fin 96) (s : Fin 1024)
    (n : Fin 2304) (hn : n.val = h.val * 96 + d.val) : resOut x k v (ix3 b s n) = att (argQ x b h) (argK k b g) (argK v b g) d s := by
  have e1 : (⟨n.val / 96, Nat.div_lt_of_lt_mul (show n.val < 96 * 24 from n.isLt)⟩ : Fin 24) = h := Fin.ext (by show n.val / 96 = _; omega)
  have e2 : (⟨n.val % 96, Nat.mod_lt _ (by decide)⟩ : Fin 96) = d := Fin.ext (by show n.val % 96 = _; omega)
  have e3 : (⟨n.val / 384, Nat.div_lt_of_lt_mul (show n.val < 384 * 6 from n.isLt)⟩ : Fin 6) = g := Fin.ext (by show n.val / 384 = _; omega)
  show att (argQ x b ⟨n.val / 96, _⟩) (argK k b ⟨n.val / 384, _⟩) (argK v b ⟨n.val / 384, _⟩) ⟨n.val % 96, _⟩ s = _
  rw [e1, e2, e3]

end Cert.Sage
-- ==== Proof.KerScores.lean ====
/- The kernel's scores of one query, as stored and as read back, and the shift of their exponentials. -/
module

public import proofs.«01_k».proof.Proof.KerBlocks
public import proofs.«01_k».proof.Proof.Attn

@[expose] public section

set_option maxHeartbeats 40000

noncomputable section

namespace Cert.KernelIdeal.Gen

open Idealize.ShloMosaic Idealize.SL.Sem Cert.Sage

/-! ## Lists of stores -/

section
variable {s : Shape} {e : EltTy} {Val : EltTy → Type} [∀ e, Nonempty (Val e)]

/-- The last stores decide, if they hold `y`. -/
theorem canon_append_of_mem (y : s.Idx) (v : Val e) (L' : List (View.Piece Val s e)) : ∀ (L : List (View.Piece Val s e)), (∃ p ∈ L, y ∈ p.1.set) →
    (∀ p ∈ L, ∀ x, p.1.emb x = y → p.2 x = v) → View.canon (L ++ L') y = v
  | [], h, _ => by obtain ⟨_, hm, _⟩ := h; exact absurd hm List.not_mem_nil
  | p :: L, h, hv => by
    by_cases hy : y ∈ p.1.set
    · obtain ⟨x, rfl⟩ : ∃ x, p.1.emb x = y := p.1.exists_idx_of_mem hy
      have := hv p List.mem_cons_self x rfl
      rw [← this]
      exact View.canon_cons_emb p.1 p.2 (L ++ L') x
    · rw [List.cons_append, View.canon_cons_of_not_mem p (L ++ L') hy]
      refine canon_append_of_mem y v L' L ?_ fun p' hp' => hv p' (List.mem_cons_of_mem _ hp')
      obtain ⟨p', hm, hy'⟩ := h
      rcases List.mem_cons.mp hm with rfl | hm
      · exact absurd hy' hy
      · exact ⟨p', hm, hy'⟩
/-- Stores that do not hold `y` leave it alone. -/
theorem canon_append_of_not_mem (y : s.Idx) (L' : List (View.Piece Val s e)) : ∀ (L : List (View.Piece Val s e)), (∀ p ∈ L, y ∉ p.1.set) →
    View.canon (L ++ L') y = View.canon L' y
  | [], _ => rfl
  | p :: L, h => by
    rw [List.cons_append, View.canon_cons_of_not_mem p (L ++ L') (h p List.mem_cons_self)]
    exact canon_append_of_not_mem y L' L fun p' hp' => h p' (List.mem_cons_of_mem _ hp')
end

/-! ## The loads of the codes -/

theorem rowsCast_at (m : FVec Ideal S96x128 .fp8e4m3) (l : Fin 128) (d : Fin 96) :
    shapeCast S128x96 (truncf .fp8e4m3 (transpose S128x96 [1, 0] (extf .bf16 m bitsLt_fp8e4m3_bf16)
      transposes_S96x128_p1_0_S128x96) bitsLt_fp8e4m3_bf16) shapeCasts_S128x96_S128x96 (ix2 l d) = m (ix2 d l) := by
  pointwise
theorem rowsBlock_at (x1 : Vec Ideal S1x96x1024 .bf16) (s : Fin 1024) (d : Fin 96) :
    View.canon (down8.map (keyRowsPiece x1)) (ix2 s d) = kCode (rowsOf x1) d s := by
  refine canon_of_mem _ _ _ (rows_cover x1 _) fun p hp x hx => ?_
  obtain ⟨t, ht, rfl⟩ := List.mem_map.mp hp
  have ht := lt_of_mem_down8 ht
  obtain ⟨l, d', rfl⟩ : ∃ (l : Fin 128) (d' : Fin 96), x = ix2 l d' := ⟨_, _, eq_ix2 x⟩
  refine (rowsCast_at _ l d').trans ((keyCodes_at x1 t ht d' l).trans ?_)
  have e0 := congrArg Fin.val (congrFun hx 0)
  have e1 := congrArg Fin.val (congrFun hx 1)
  have h1 : 0 + d'.val = d.val := (unit_val _ _ (inb_krows t) _ 1).symm.trans e1
  clear e1
  have h2 : 128 * (t % 8) + l.val = s.val := (unit_val _ _ (inb_krows t) _ 0).symm.trans e0
  clear e0 hx
  obtain rfl : d' = d := Fin.ext (by omega)
  exact congrArg _ (Fin.ext h2)

variable (arg6 : Memref sig .tc .vmem S1x384x1024 .fp8e4m3) (arg10 : Memref sig .tc .vmem S1x96x1024 .fp8e4m3)
  (arg12 : Memref sig .tc .vmem S1024x96 .fp8e4m3) (arg13 : Memref sig .tc .vmem S2x1024x512 .f32)
  (x0 : Vec Ideal S1x1024x384 .bf16) (x1 x2 : Vec Ideal S1x96x1024 .bf16)

theorem knRead_at (t : ℕ) (l : Fin 128) (d : Fin 96) :
    knRead arg12 x1 t (ix2 l d) = kCode (rowsOf x1) d ⟨128 * (t % 8) + l, by omega⟩ := by
  unfold knRead
  rw [View.readCov_eq_canon', ← rowsBlock_at]
  refine congrArg (View.canon _) (funext fun a => Fin.ext ?_)
  refine (unit_val _ _ (inb_krows t) _ a).trans ?_
  match a with
  | 0 => rfl
  | 1 => exact Nat.zero_add _
theorem qcRead_at (i : ℕ) (h : Fin 4) (d : Fin 96) (l : Fin 128) :
    qcRead arg6 (blkOf x0) i h (ix3 0 d l) = qCode (headOf x0 h) d ⟨128 * (i % 8) + l, by omega⟩ := by
  unfold qcRead
  rw [View.readCov_eq_canon', ← qryBlock_at]
  refine congrArg (View.canon _) (funext fun a => Fin.ext ?_)
  refine (unit_val _ _ (inb_qc i h) _ a).trans ?_
  match a with
  | 0 => rfl
  | 1 => show 96 * (h.val % 4) + d.val = 96 * h.val + d.val; omega
  | 2 => rfl
theorem vcRead256_at (k : ℕ) (d : Fin 96) (r : Fin 256) :
    vcRead256 arg10 x2 k (ix3 0 d r) = vCode (rowsOf x2) d ⟨256 * (k % 4) + r, by omega⟩ := by
  unfold vcRead256
  rw [View.readCov_eq_canon', ← valBlock_at]
  refine congrArg (View.canon _) (funext fun a => Fin.ext ?_)
  refine (unit_val _ _ (inb_vals k) _ a).trans ?_
  match a with
  | 0 => rfl
  | 1 => exact Nat.zero_add _
  | 2 => rfl
theorem vcRead128_at (k : ℕ) (d : Fin 96) (r : Fin 128) :
    vcRead128 arg10 x2 k (ix3 0 d r) = vCode (rowsOf x2) d ⟨256 * (k % 4) + r, by omega⟩ := by
  unfold vcRead128
  rw [View.readCov_eq_canon', ← valBlock_at]
  refine congrArg (View.canon _) (funext fun a => Fin.ext ?_)
  refine (unit_val _ _ (inb_vals' k) _ a).trans ?_
  match a with
  | 0 => rfl
  | 1 => exact Nat.zero_add _
  | 2 => rfl

/-! ## A score -/

theorem mulKQ_at (a : FVec Ideal S128x96 .fp8e4m3) (p : FVec Ideal S96x256 .fp8e4m3) (k : Fin 128) (c : Fin 256) :
    matmul dot_S128x96_S96x256_S128x256_1_0_0_1_n_n none a p (constant S128x256 .f32 0x00000000#32) (ix2 k c)
      = ∑ d : Fin 96, a (ix2 k d) * p (ix2 d c) := by
  pointwise
theorem pairQ_lo (p q : FVec Ideal S96x128 .fp8e4m3) (d : Fin 96) (l : Fin 128) :
    concatenate S96x256 1 [⟨S96x128, p⟩, ⟨S96x128, q⟩] concatenates_S96x128_S96x128_S96x256_d1 (ix2 d ⟨l.val, by omega⟩) = p (ix2 d l) := by
  pointwise
theorem pairQ_hi (p q : FVec Ideal S96x128 .fp8e4m3) (d : Fin 96) (l : Fin 128) :
    concatenate S96x256 1 [⟨S96x128, p⟩, ⟨S96x128, q⟩] concatenates_S96x128_S96x128_S96x256_d1 (ix2 d ⟨128 + l.val, by omega⟩) = q (ix2 d l) := by
  pointwise
/-- The pair's half that holds head `h`. -/
theorem pairQ_at (f : ℕ → FVec Ideal S96x128 .fp8e4m3) (h : ℕ) (d : Fin 96) (l : Fin 128) :
    concatenate S96x256 1 [⟨S96x128, f (2 * (h / 2))⟩, ⟨S96x128, f (2 * (h / 2) + 1)⟩] concatenates_S96x128_S96x128_S96x256_d1
      (ix2 d ⟨128 * (h % 2) + l.val, by omega⟩) = f h (ix2 d l) := by
  rcases Nat.mod_two_eq_zero_or_one h with e | e
  · have e1 : (⟨128 * (h % 2) + l.val, by omega⟩ : Fin 256) = ⟨l.val, by omega⟩ := Fin.ext (show 128 * (h % 2) + l.val = l.val by omega)
    rw [e1, pairQ_lo, show 2 * (h / 2) = h by omega]
  · have e1 : (⟨128 * (h % 2) + l.val, by omega⟩ : Fin 256) = ⟨128 + l.val, by omega⟩ := Fin.ext (show 128 * (h % 2) + l.val = 128 + l.val by omega)
    rw [e1, pairQ_hi, show 2 * (h / 2) + 1 = h by omega]
theorem flatQ_at (v : Vec Ideal S1x96x128 .fp8e4m3) (d : Fin 96) (l : Fin 128) :
    shapeCast S96x128 v shapeCasts_S1x96x128_S96x128 (ix2 d l) = v (ix3 0 d l) := by
  pointwise
theorem half_at (m : FVec Ideal S128x256 .f32) (u h : ℕ) (r : Fin 64) (l : Fin 128) :
    extractStridedSlice S64x128 ![64 * (u % 2), 128 * (h % 2)] m (slices_dot u h) (ix2 r l)
      = m (ix2 ⟨64 * (u % 2) + r, by omega⟩ ⟨128 * (h % 2) + l, by omega⟩) := by
  pointwise
theorem scaleRow_at (m : FVec Ideal S8x128 .f32) (r : Fin 64) (l : Fin 128) :
    broadcastTo S64x128 (extractStridedSlice S1x128 ![0, 0] m slices_S8x128_o0_0_S1x128) broadcasts_S1x128_S64x128 (ix2 r l) = m (ix2 0 l) := by
  pointwise
theorem scale2_at (a b : FVec Ideal S8x128 .f32) (i : S8x128.Idx) :
    mulf a (mulf b (broadcast S8x128 (Named.named κ "score_log2" 0x3E16C740#32))) i
      = a i * (b i * (((Real.sqrt 96)⁻¹ * (Real.log 2)⁻¹ : ℝ) : EReal)) := rfl

/-- The scales of the query blocks, head by head. -/
abbrev qsOf (x0 : Vec Ideal S1x1024x384 .bf16) (i h : ℕ) : FVec Ideal S8x128 .f32 := qryScale (blkOf x0 i) h
/-- A query's score in units of log 2. -/
abbrev score2 (x0 : Vec Ideal S1x1024x384 .bf16) (x1 : Vec Ideal S1x96x1024 .bf16) (h : Fin 4) (q : Fin 1024) (j : ℕ) : ℝ :=
  score (headOf x0 h) (rowsOf x1) q j * (Real.log 2)⁻¹

theorem scoreDot_at (i : ℕ) (h : Fin 4) (t : ℕ) (k : Fin 128) (l : Fin 128) :
    scoreDot (knRead arg12 x1) (qcRead arg6 (blkOf x0)) i (h.val / 2) t (ix2 k ⟨128 * (h.val % 2) + l, by omega⟩)
      = codeDot (headOf x0 h) (rowsOf x1) ⟨128 * (t % 8) + k, by omega⟩ ⟨128 * (i % 8) + l, by omega⟩ := by
  unfold scoreDot
  rw [mulKQ_at]
  refine Finset.sum_congr rfl fun d _ => ?_
  rw [knRead_at]
  refine congrArg (_ * ·) ((pairQ_at (fun h => shapeCast S96x128 (qcRead arg6 (blkOf x0) i h) shapeCasts_S1x96x128_S96x128) h.val d l).trans ?_)
  exact (flatQ_at _ d l).trans (qcRead_at arg6 x0 i h d l)

variable {x0 x1} {h : Fin 4} (hQ : RealHead (headOf x0 h) (2 ^ 128)) (hK : RealHead (rowsOf x1) (2 ^ 128))

include hQ hK in
theorem scoreRaw_at (i : ℕ) (hi : i < 8) (t u : ℕ) (ht : t < 8) (hu : u < 2) (r : Fin 64) (l : Fin 128) :
    scoreRaw (keyScale x1) (qsOf x0) (knRead arg12 x1) (qcRead arg6 (blkOf x0)) i h t u (ix2 r l)
      = (score2 x0 x1 h ⟨128 * i + l, by omega⟩ (128 * t + 64 * u + r) : EReal) := by
  unfold scoreRaw
  refine (show _ = extractStridedSlice S64x128 _ _ (slices_dot u h) (ix2 r l) * broadcastTo S64x128 _ _ (ix2 r l) from rfl).trans ?_
  rw [half_at, scaleRow_at, scale2_at, scoreDot_at, keyScale_at _ _ (by omega), show qsOf x0 i h (ix2 0 l) = _ from qryScale_at x0 i hi h 0 l]
  have e := score_two hQ hK ⟨128 * i + l, by omega⟩ ⟨128 * t + 64 * u + r, by omega⟩
  refine Eq.trans ?_ e
  refine congrArg₂ (· * ·) (congrArg₂ (codeDot (headOf x0 h) (rowsOf x1)) (Fin.ext ?_) (Fin.ext ?_))
    (congrArg₂ (· * ·) (congrArg (kScale (rowsOf x1)) ?_) (congrArg (· * _) (congrArg (qScale (headOf x0 h)) ?_)))
  · show 128 * (t % 8) + (64 * (u % 2) + r.val) = 128 * t + 64 * u + r.val; omega
  · show 128 * (i % 8) + l.val = 128 * i + l.val; omega
  · show 2 * t + u = (128 * t + 64 * u + r.val) / 64; omega
  · show i = (128 * i + l.val) / 128; omega

theorem visible_at (k l : Fin 128) : visible (ix2 k l) = if k.val ≤ l.val then 1#1 else 0#1 := by
  show IntOp.cmpi .sle (iota .tc S128x128 32 [0] iota_S128x128_d0_w32 (ix2 k l)) (iota .tc S128x128 32 [1] iota_S128x128_d1_w32 (ix2 k l)) = _
  rw [iota_single_apply, iota_single_apply]
  refine (WordCmp.cmpi_sle_ofNat (a := k.val) (b := l.val) (w := 32) (by have := k.isLt; omega) (by have := l.isLt; omega)).trans ?_
  by_cases e : k.val ≤ l.val
  · rw [if_pos e, decide_eq_true e]; rfl
  · rw [if_neg e, decide_eq_false e]; rfl
theorem visHalf_at (m : IVec S128x128 1) (u : ℕ) (r : Fin 64) (l : Fin 128) :
    extractStridedSlice S64x128 ![64 * (u % 2), 0] m (slices_vis u) (ix2 r l) = m (ix2 ⟨64 * (u % 2) + r, by omega⟩ l) := by
  pointwise

include hQ hK in
/-- A score, -∞ where the key is hidden. -/
theorem scoreBlk_at (i : ℕ) (hi : i < 8) (t u : ℕ) (ht : t ≤ i) (hu : u < 2) (r : Fin 64) (l : Fin 128) :
    scoreBlk (keyScale x1) (qsOf x0) (knRead arg12 x1) (qcRead arg6 (blkOf x0)) i h t u (ix2 r l)
      = seen (score2 x0 x1 h ⟨128 * i + l, by omega⟩) (128 * i + l) (128 * t + 64 * u + r) := by
  unfold scoreBlk seen
  split
  · rename_i e
    subst e
    rw [select_at, visHalf_at, visible_at, scoreRaw_at arg6 arg12 hQ hK t hi t u hi hu]
    by_cases e : 64 * (u % 2) + r.val ≤ l.val
    · rw [if_pos e, if_pos (by omega), select_one]
    · rw [if_neg e, if_neg (by omega), select_none]
      exact ninf_f32
  · rw [scoreRaw_at arg6 arg12 hQ hK i hi t u (by omega) hu, if_pos (by omega)]

end Cert.KernelIdeal.Gen
end
-- ==== Proof.KerWeights.lean ====
/- The kernel's scores as it reads them back, and the shift of their exponentials. -/
module

public import proofs.«01_k».proof.Proof.KerScores

@[expose] public section

set_option maxHeartbeats 40000

noncomputable section

namespace Cert.KernelIdeal.Gen

open Idealize.ShloMosaic Idealize.SL.Sem Cert.Sage

/-! ## The stores of a query block -/

section
variable (ks : ℕ → FVec Ideal S8x128 .f32) (qs : ℕ → ℕ → FVec Ideal S8x128 .f32) (kn : ℕ → Vec Ideal S128x96 .fp8e4m3)
  (qc : ℕ → ℕ → Vec Ideal S1x96x128 .fp8e4m3)

theorem mem_downFrom (t : ℕ) : ∀ n : ℕ, t ∈ downFrom n ↔ t ≤ n
  | 0 => by simp [downFrom]
  | n + 1 => by rw [downFrom, List.mem_cons, mem_downFrom t n]; omega

theorem mem_scoresOf (i : ℕ) {p : View.Piece (Elt Ideal) S2x1024x512 .f32} :
    p ∈ scoresOf ks qs kn qc i ↔ ∃ h < 4, ∃ t ≤ i, ∃ u < 2, p = scorePiece ks qs kn qc i h t u := by
  unfold scoresOf
  simp only [List.mem_flatMap, List.mem_map, List.mem_cons, List.not_mem_nil, or_false, mem_downFrom]
  constructor
  · rintro ⟨a, ha, t, ht, n, hn, u, hu, rfl⟩
    exact ⟨2 * a + n, by omega, t, ht, u, by omega, rfl⟩
  · rintro ⟨h, hh, t, ht, u, hu, rfl⟩
    exact ⟨h / 2, by omega, t, ht, h % 2, by omega, u, by omega, by rw [show 2 * (h / 2) + h % 2 = h by omega]⟩

theorem scoresUpTo_eq (i : ℕ) : ∃ L, scoresUpTo ks qs kn qc i = scoresOf ks qs kn qc i ++ L := by
  match i with
  | 0 => exact ⟨[], (List.append_nil _).symm⟩
  | i + 1 => exact ⟨scoresUpTo ks qs kn qc i, rfl⟩
end

theorem addUnit64_at (m : FVec Ideal S64x128 .f32) (r : Fin 64) (l : Fin 128) :
    shapeCast S1x64x128 m shapeCasts_S64x128_S1x64x128 (ix3 0 r l) = m (ix2 r l) := by
  pointwise

variable (arg6 : Memref sig .tc .vmem S1x384x1024 .fp8e4m3) (arg10 : Memref sig .tc .vmem S1x96x1024 .fp8e4m3)
  (arg12 : Memref sig .tc .vmem S1024x96 .fp8e4m3) (arg13 : Memref sig .tc .vmem S2x1024x512 .f32)
  {x0 : Vec Ideal S1x1024x384 .bf16} {x1 : Vec Ideal S1x96x1024 .bf16}
  {h : Fin 4} (hQ : RealHead (headOf x0 h) (2 ^ 128)) (hK : RealHead (rowsOf x1) (2 ^ 128))

include hQ hK in
/-- What the stores up to query block `i` leave of its scores. -/
theorem upTo_at (i : ℕ) (hi : i < 8) (s : Fin 1024) (hs : s.val < 128 * (i + 1)) (l : Fin 128) :
    View.canon (scoresUpTo (keyScale x1) (qsOf x0) (knRead arg12 x1) (qcRead arg6 (blkOf x0)) i)
        (ix3 (⟨i % 2, by omega⟩ : Fin 2) s (⟨128 * h + l, by omega⟩ : Fin 512))
      = seen (score2 x0 x1 h ⟨128 * i + l, by omega⟩) (128 * i + l) s := by
  obtain ⟨L, hL⟩ := scoresUpTo_eq (keyScale x1) (qsOf x0) (knRead arg12 x1) (qcRead arg6 (blkOf x0)) i
  rw [hL]
  refine canon_append_of_mem _ _ _ _ ⟨_, (mem_scoresOf _ _ _ _ i).mpr ⟨h.val, h.isLt, s.val / 128, by omega, s.val % 128 / 64, by omega, rfl⟩,
    mem_unit (inb_score _ _ _ _) _ fun a => ?_⟩ fun p hp x hx => ?_
  · match a with
    | 0 => show i % 2 ≤ i % 2 ∧ i % 2 < i % 2 + 1; omega
    | 1 =>
      show 128 * (s.val / 128 % 8) + 64 * (s.val % 128 / 64 % 2) ≤ s.val ∧ s.val < 128 * (s.val / 128 % 8) + 64 * (s.val % 128 / 64 % 2) + 64
      omega
    | 2 => show 128 * (h.val % 4) ≤ 128 * h.val + l.val ∧ 128 * h.val + l.val < 128 * (h.val % 4) + 128; omega
  · obtain ⟨h', hh', t, ht, u, hu, rfl⟩ := (mem_scoresOf _ _ _ _ i).mp hp
    obtain ⟨a, r, l', rfl⟩ : ∃ (a : Fin 1) (r : Fin 64) (l' : Fin 128), x = ix3 a r l' := ⟨_, _, _, eq_ix3 x⟩
    obtain rfl : a = 0 := Subsingleton.elim _ _
    have e1 := congrArg Fin.val (congrFun hx 1)
    have e2 := congrArg Fin.val (congrFun hx 2)
    have h1 : 128 * (t % 8) + 64 * (u % 2) + r.val = s.val := (unit_val _ _ (inb_score i h' t u) _ 1).symm.trans e1
    clear e1
    have h2 : 128 * (h' % 4) + l'.val = 128 * h.val + l.val := (unit_val _ _ (inb_score i h' t u) _ 2).symm.trans e2
    clear e2 hx
    obtain rfl : h' = h.val := by omega
    obtain rfl : l' = l := Fin.ext (by omega)
    refine (addUnit64_at _ r l').trans ((scoreBlk_at arg6 arg12 hQ hK i hi t u ht hu r l').trans ?_)
    exact congrArg _ (show 128 * t + 64 * u + r.val = s.val by omega)

include hQ hK in
/-- They are there still when the next block's are. -/
theorem scoreList_at (i : ℕ) (hi : i < 8) (s : Fin 1024) (hs : s.val < 128 * (i + 1)) (l : Fin 128) :
    View.canon (scoreList arg6 arg12 (blkOf x0) x1 (min (i + 1) 7)) (ix3 (⟨i % 2, by omega⟩ : Fin 2) s (⟨128 * h + l, by omega⟩ : Fin 512))
      = seen (score2 x0 x1 h ⟨128 * i + l, by omega⟩) (128 * i + l) s := by
  unfold scoreList
  rcases Nat.lt_or_ge i 7 with h7 | h7
  · rw [show min (i + 1) 7 = i + 1 by omega]
    refine (canon_append_of_not_mem _ _ _ fun p hp hm => ?_).trans (upTo_at arg6 arg12 hQ hK i hi s hs l)
    obtain ⟨h', hh', t, ht, u, hu, rfl⟩ := (mem_scoresOf _ _ _ _ (i + 1)).mp hp
    have : (i + 1) % 2 ≤ i % 2 ∧ i % 2 < (i + 1) % 2 + 1 := (Rect.mem_set_unit (inb := inb_score (i + 1) h' t u)).mp hm 0
    omega
  · obtain rfl : i = 7 := by omega
    exact upTo_at arg6 arg12 hQ hK 7 hi s hs l

include hQ hK in
theorem sRead256_at (i : ℕ) (hi : i < 8) (k : ℕ) (hk : k < (i + 1) / 2) (r : Fin 256) (l : Fin 128) :
    sRead256 arg6 arg12 arg13 (blkOf x0) x1 i h k (ix3 0 r l)
      = seen (score2 x0 x1 h ⟨128 * i + l, by omega⟩) (128 * i + l) (256 * k + r) := by
  unfold sRead256
  rw [View.readCov_eq_canon']
  refine Eq.trans (congrArg (View.canon _) (funext fun a => Fin.ext ?_)) (scoreList_at arg6 arg12 hQ hK i hi ⟨256 * k + r, by omega⟩ (by show 256 * k + r.val < _; omega) l)
  refine (unit_val _ _ (inb_rd256 i h k) _ a).trans ?_
  match a with
  | 0 => rfl
  | 1 => show 256 * (k % 4) + r.val = 256 * k + r.val; omega
  | 2 => show 128 * (h.val % 4) + l.val = 128 * h.val + l.val; omega

include hQ hK in
theorem sRead128_at (i : ℕ) (hi : i < 8) (h2 : i % 2 = 0) (r : Fin 128) (l : Fin 128) :
    sRead128 arg6 arg12 arg13 (blkOf x0) x1 i h ((i + 1) / 2) (ix3 0 r l)
      = seen (score2 x0 x1 h ⟨128 * i + l, by omega⟩) (128 * i + l) (256 * ((i + 1) / 2) + r) := by
  unfold sRead128
  rw [View.readCov_eq_canon']
  refine Eq.trans (congrArg (View.canon _) (funext fun a => Fin.ext ?_))
    (scoreList_at arg6 arg12 hQ hK i hi ⟨256 * ((i + 1) / 2) + r, by omega⟩ (by show 256 * ((i + 1) / 2) + r.val < _; omega) l)
  refine (unit_val _ _ (inb_rd128 i h _) _ a).trans ?_
  match a with
  | 0 => rfl
  | 1 => show 256 * ((i + 1) / 2 % 4) + r.val = 256 * ((i + 1) / 2) + r.val; omega
  | 2 => show 128 * (h.val % 4) + l.val = 128 * h.val + l.val; omega

/-! ## The shift -/

theorem rows64_at (m : FVec Ideal S64x128 .f32) (n : ℕ) (r : Fin 8) (l : Fin 128) :
    extractStridedSlice S8x128 ![8 * (n % 8), 0] m (slices_rows64 n) (ix2 r l) = m (ix2 ⟨8 * (n % 8) + r, by omega⟩ l) := by
  pointwise
theorem rowsMax64_le (a : FVec Ideal S64x128 .f32) (r : Fin 8) (l : Fin 128) (z : EReal) (n : ℕ) :
    rowsMax64 a n (ix2 r l) ≤ z ↔ ∀ m ≤ n, a (ix2 ⟨8 * (m % 8) + r, by omega⟩ l) ≤ z := by
  induction n with
  | zero =>
    show extractStridedSlice S8x128 ![8 * (0 % 8), 0] a (slices_rows64 0) (ix2 r l) ≤ z ↔ _
    rw [rows64_at]
    exact ⟨fun h m hm => by obtain rfl : m = 0 := by omega
                            exact h, fun h => h 0 le_rfl⟩
  | succ n ih =>
    show max (rowsMax64 a n (ix2 r l)) (extractStridedSlice S8x128 ![8 * ((n + 1) % 8), 0] a (slices_rows64 (n + 1)) (ix2 r l)) ≤ z ↔ _
    rw [max_le_iff, ih, rows64_at]
    constructor
    · rintro ⟨h, h'⟩ m hm
      rcases Nat.lt_or_ge n m with hlt | hge
      · obtain rfl : m = n + 1 := by omega
        exact h'
      · exact h m hge
    · exact fun h => ⟨fun m hm => h m (by omega), h (n + 1) le_rfl⟩
theorem maxCol_red (a : FVec Ideal S8x128 .f32) (l : Fin 128) :
    multiReduction .maximumf [0] S128 a 0xFF800000#32 reduces_S8x128_S128 (.inl rfl) rfl (ix1 l)
      = Finset.univ.fold max (Ideal.ofBits .f32 0xFF800000#32) (fun r => a (ix2 r l)) := by
  pointwise
theorem less8_at (a : FVec Ideal S128 .f32) (l : Fin 128) :
    subf (shapeCast S1x128 a shapeCasts_S128_S1x128) (broadcast S1x128 (Scalar.ofBits .f32 0x41000000#32)) (ix2 0 l)
      = a (ix1 l) - Ideal.ofBits .f32 0x41000000#32 := by
  pointwise

include hQ hK in
theorem scoreMaxAt_le (i : ℕ) (hi : i < 8) (r : Fin 8) (l : Fin 128) (z : EReal) (n : ℕ) (hn : n ≤ 2 * i + 1) :
    scoreMaxAt (keyScale x1) (qsOf x0) (knRead arg12 x1) (qcRead arg6 (blkOf x0)) i h n (ix2 r l) ≤ z
      ↔ ∀ j ≤ n, ∀ m ≤ 7, seen (score2 x0 x1 h ⟨128 * i + l, by omega⟩) (128 * i + l) (64 * j + 8 * m + r) ≤ z := by
  have one : ∀ j ≤ n, rowsMax64 (scoreBlk (keyScale x1) (qsOf x0) (knRead arg12 x1) (qcRead arg6 (blkOf x0)) i h (j / 2) (j % 2)) 7 (ix2 r l) ≤ z
      ↔ ∀ m ≤ 7, seen (score2 x0 x1 h ⟨128 * i + l, by omega⟩) (128 * i + l) (64 * j + 8 * m + r) ≤ z := fun j hj => by
    rw [rowsMax64_le]
    refine forall_congr' fun m => forall_congr' fun hm => ?_
    rw [scoreBlk_at arg6 arg12 hQ hK i hi _ _ (by omega) (by omega)]
    rw [show 128 * (j / 2) + 64 * (j % 2) + (⟨8 * (m % 8) + r.val, by omega⟩ : Fin 64).val = 64 * j + 8 * m + r.val from
      (show 128 * (j / 2) + 64 * (j % 2) + (8 * (m % 8) + r.val) = 64 * j + 8 * m + r.val by omega)]
  clear hn
  induction n with
  | zero =>
    refine (one 0 le_rfl).trans ⟨fun H j hj => ?_, fun H => H 0 le_rfl⟩
    obtain rfl : j = 0 := by omega
    exact H
  | succ n ih =>
    show max (scoreMaxAt (keyScale x1) (qsOf x0) (knRead arg12 x1) (qcRead arg6 (blkOf x0)) i h n (ix2 r l)) (rowsMax64 _ 7 (ix2 r l)) ≤ z ↔ _
    refine (max_le_iff.trans (and_congr (ih fun j hj => one j (Nat.le_succ_of_le hj)) (one (n + 1) le_rfl))).trans ?_
    constructor
    · rintro ⟨h, h'⟩ j hj
      rcases Nat.lt_or_ge n j with hlt | hge
      · obtain rfl : j = n + 1 := by omega
        exact h'
      · exact h j hge
    · exact fun h => ⟨fun j hj => h j (by omega), h (n + 1) le_rfl⟩

include hQ hK in
/-- The shift is a real number, no more than 8 below any score the query sees. -/
theorem scoreTop_at (i : ℕ) (hi : i < 8) (l : Fin 128) :
    ∃ t : ℝ, scoreTop (keyScale x1) (qsOf x0) (knRead arg12 x1) (qcRead arg6 (blkOf x0)) i h (ix2 0 l) = (t : EReal)
      ∧ ∀ j ≤ 128 * i + l.val, score2 x0 x1 h ⟨128 * i + l, by omega⟩ j ≤ t + 8 := by
  unfold scoreTop
  rw [less8_at, maxCol_red, v8]
  obtain ⟨t, ht, hb⟩ := top_real (score2 x0 x1 h ⟨128 * i + l, by omega⟩) (128 * i + l) (128 * (i + 1)) (by omega)
    ((Finset.univ : Finset (Fin 8)).fold max (Ideal.ofBits .f32 0xFF800000#32) fun r =>
      scoreMaxAt (keyScale x1) (qsOf x0) (knRead arg12 x1) (qcRead arg6 (blkOf x0)) i h (2 * i + 1) (ix2 r l)) fun z => by
    rw [Finset.fold_max_le]
    simp only [ninf_le, true_and, Finset.mem_univ, forall_true_left, scoreMaxAt_le arg6 arg12 hQ hK i hi _ l z (2 * i + 1) le_rfl]
    constructor
    · intro H j hj
      have := H ⟨j % 8, by omega⟩ (j / 64) (by omega) (j % 64 / 8) (by omega)
      rwa [show 64 * (j / 64) + 8 * (j % 64 / 8) + j % 8 = j by omega] at this
    · exact fun H r j hj m hm => H _ (by omega)
  refine ⟨t - 8, by rw [ht, EReal.coe_sub], fun j hj => ?_⟩
  have := hb j hj
  linarith

end Cert.KernelIdeal.Gen
end
-- ==== Proof.KerSums.lean ====
/- The kernel's weighted values and weights' sums of one query, group by group, as sums over the keys. -/
module

public import proofs.«01_k».proof.Proof.Model
public import Idealize.ShloMosaic.Lib.Pointwise
public import Idealize.ShloMosaic.PureOps.Ideal

@[expose] public section

set_option maxHeartbeats 40000

noncomputable section

namespace Cert.KernelIdeal.Gen

open Idealize.ShloMosaic Idealize.SL.Sem

/-- Clipping to the weights' range. -/
def clipE (z : EReal) : EReal := min (Ideal.ofBits .f32 0x43E00000#32) (max (Ideal.ofBits .f32 0x00000000#32) z)

/-! ## Entries -/

theorem prob256_at (x : Vec Ideal S1x256x128 .f32) (t : FVec Ideal S1x128 .f32) (r : Fin 256) (l : Fin 128) :
    exp2 (subf (shapeCast S256x128 x shapeCasts_S1x256x128_S256x128) (broadcastTo S256x128 t broadcasts_S1x128_S256x128)) (ix2 r l)
      = Ideal.exp2 (x (ix3 0 r l) - t (ix2 0 l)) := by
  pointwise; rfl
theorem prob128_at (x : Vec Ideal S1x128x128 .f32) (t : FVec Ideal S1x128 .f32) (r : Fin 128) (l : Fin 128) :
    exp2 (subf (shapeCast S128x128 x shapeCasts_S1x128x128_S128x128) (broadcastTo S128x128 t broadcasts_S1x128_S128x128)) (ix2 r l)
      = Ideal.exp2 (x (ix3 0 r l) - t (ix2 0 l)) := by
  pointwise; rfl
theorem rows256_at (p : FVec Ideal S256x128 .f32) (n : ℕ) (r : Fin 8) (l : Fin 128) :
    extractStridedSlice S8x128 ![8 * (n % 32), 0] p (slices_sum256 n) (ix2 r l) = p (ix2 ⟨8 * (n % 32) + r, by omega⟩ l) := by
  pointwise
theorem rows128_at (p : FVec Ideal S128x128 .f32) (n : ℕ) (r : Fin 8) (l : Fin 128) :
    extractStridedSlice S8x128 ![8 * (n % 16), 0] p (slices_sum128 n) (ix2 r l) = p (ix2 ⟨8 * (n % 16) + r, by omega⟩ l) := by
  pointwise
theorem clipP_at {s : Shape} (p : FVec Ideal s .f32) (i : s.Idx) : clipP p i = clipE (p i) := rfl
theorem mul256_at (a : FVec Ideal S96x256 .fp8e4m3) (p : FVec Ideal S256x256 .fp8e4m3) (d : Fin 96) (c : Fin 256) :
    matmul dot_S96x256_S256x256_S96x256_1_0_0_1_n_n none a p (constant S96x256 .f32 0x00000000#32) (ix2 d c)
      = ∑ r : Fin 256, a (ix2 d r) * p (ix2 r c) := by
  pointwise
theorem mul128_at (a : FVec Ideal S96x128 .fp8e4m3) (p : FVec Ideal S128x256 .fp8e4m3) (d : Fin 96) (c : Fin 256) :
    matmul dot_S96x128_S128x256_S96x256_1_0_0_1_n_n none a p (constant S96x256 .f32 0x00000000#32) (ix2 d c)
      = ∑ r : Fin 128, a (ix2 d r) * p (ix2 r c) := by
  pointwise
theorem flatV256_at (v : Vec Ideal S1x96x256 .fp8e4m3) (d : Fin 96) (r : Fin 256) :
    shapeCast S96x256 v shapeCasts_S1x96x256_S96x256 (ix2 d r) = v (ix3 0 d r) := by
  pointwise
theorem flatV128_at (v : Vec Ideal S1x96x128 .fp8e4m3) (d : Fin 96) (r : Fin 128) :
    shapeCast S96x128 v shapeCasts_S1x96x128_S96x128 (ix2 d r) = v (ix3 0 d r) := by
  pointwise
theorem pair256_lo (p q : FVec Ideal S256x128 .fp8e4m3) (r : Fin 256) (l : Fin 128) :
    concatenate S256x256 1 [⟨S256x128, p⟩, ⟨S256x128, q⟩] concatenates_S256x128_S256x128_S256x256_d1 (ix2 r ⟨l.val, by omega⟩) = p (ix2 r l) := by
  pointwise
theorem pair256_hi (p q : FVec Ideal S256x128 .fp8e4m3) (r : Fin 256) (l : Fin 128) :
    concatenate S256x256 1 [⟨S256x128, p⟩, ⟨S256x128, q⟩] concatenates_S256x128_S256x128_S256x256_d1 (ix2 r ⟨128 + l.val, by omega⟩) = q (ix2 r l) := by
  pointwise
theorem pair128_lo (p q : FVec Ideal S128x128 .fp8e4m3) (r : Fin 128) (l : Fin 128) :
    concatenate S128x256 1 [⟨S128x128, p⟩, ⟨S128x128, q⟩] concatenates_S128x128_S128x128_S128x256_d1 (ix2 r ⟨l.val, by omega⟩) = p (ix2 r l) := by
  pointwise
theorem pair128_hi (p q : FVec Ideal S128x128 .fp8e4m3) (r : Fin 128) (l : Fin 128) :
    concatenate S128x256 1 [⟨S128x128, p⟩, ⟨S128x128, q⟩] concatenates_S128x128_S128x128_S128x256_d1 (ix2 r ⟨128 + l.val, by omega⟩) = q (ix2 r l) := by
  pointwise
theorem colSum_at (a : FVec Ideal S8x128 .f32) (l : Fin 128) :
    shapeCast S1x128 (multiReduction .add [0] S128 a 0x00000000#32 reduces_S8x128_S128 (.inl rfl) rfl) shapeCasts_S128_S1x128 (ix2 0 l)
      = ∑ r : Fin 8, a (ix2 r l) := by
  pointwise
theorem accHalf_at (a : FVec Ideal S96x256 .f32) (h : ℕ) (d : Fin 96) (l : Fin 128) :
    extractStridedSlice S96x128 ![0, 128 * (h % 2)] a (slices_acc h) (ix2 d l) = a (ix2 d ⟨128 * (h % 2) + l, by omega⟩) := by
  pointwise
theorem scaleOut_at (a v : FVec Ideal S96x128 .f32) (s : FVec Ideal S1x128 .f32) (d : Fin 96) (l : Fin 128) :
    truncf .bf16 (mulf (mulf a v) (broadcastTo S96x128 (divf (broadcast S1x128 (Scalar.ofBits .f32 0x3F800000#32)) s)
      broadcasts_S1x128_S96x128)) bitsLt_bf16_f32 (ix2 d l)
      = a (ix2 d l) * v (ix2 d l) * Ideal.div (Ideal.ofBits .f32 0x3F800000#32) (s (ix2 0 l)) := by
  pointwise
theorem outT_at (a0 a1 a2 a3 : FVec Ideal S96x128 .bf16) (l : Fin 128) (c : Fin 384) :
    shapeCast S1x128x384 (transpose S128x384 [1, 0] (concatenate S384x128 0
      [⟨S96x128, a0⟩, ⟨S96x128, a1⟩, ⟨S96x128, a2⟩, ⟨S96x128, a3⟩]
      concatenates_S96x128_S96x128_S96x128_S96x128_S384x128_d0) transposes_S384x128_p1_0_S128x384) shapeCasts_S128x384_S1x128x384 (ix3 0 l c)
      = concatenate S384x128 0 [⟨S96x128, a0⟩, ⟨S96x128, a1⟩, ⟨S96x128, a2⟩, ⟨S96x128, a3⟩]
      concatenates_S96x128_S96x128_S96x128_S96x128_S384x128_d0 (ix2 c l) := by
  generalize concatenate S384x128 0 _ _ = z
  pointwise
theorem rowOf0 (a0 a1 a2 a3 : FVec Ideal S96x128 .bf16) (d : Fin 96) (l : Fin 128) :
    concatenate S384x128 0 [⟨S96x128, a0⟩, ⟨S96x128, a1⟩, ⟨S96x128, a2⟩, ⟨S96x128, a3⟩]
      concatenates_S96x128_S96x128_S96x128_S96x128_S384x128_d0 (ix2 ⟨0 + d.val, by omega⟩ l) = a0 (ix2 d l) := by
  pointwise
theorem rowOf1 (a0 a1 a2 a3 : FVec Ideal S96x128 .bf16) (d : Fin 96) (l : Fin 128) :
    concatenate S384x128 0 [⟨S96x128, a0⟩, ⟨S96x128, a1⟩, ⟨S96x128, a2⟩, ⟨S96x128, a3⟩]
      concatenates_S96x128_S96x128_S96x128_S96x128_S384x128_d0 (ix2 ⟨96 + d.val, by omega⟩ l) = a1 (ix2 d l) := by
  pointwise
theorem rowOf2 (a0 a1 a2 a3 : FVec Ideal S96x128 .bf16) (d : Fin 96) (l : Fin 128) :
    concatenate S384x128 0 [⟨S96x128, a0⟩, ⟨S96x128, a1⟩, ⟨S96x128, a2⟩, ⟨S96x128, a3⟩]
      concatenates_S96x128_S96x128_S96x128_S96x128_S384x128_d0 (ix2 ⟨192 + d.val, by omega⟩ l) = a2 (ix2 d l) := by
  pointwise
  rw [dif_neg (by omega), dif_neg (by omega), dif_pos (by omega)]
  exact congrArg (fun d => a2 (ix2 d l)) (Fin.ext (show 192 + d.val - 96 - 96 = d.val by omega))
theorem rowOf3 (a0 a1 a2 a3 : FVec Ideal S96x128 .bf16) (d : Fin 96) (l : Fin 128) :
    concatenate S384x128 0 [⟨S96x128, a0⟩, ⟨S96x128, a1⟩, ⟨S96x128, a2⟩, ⟨S96x128, a3⟩]
      concatenates_S96x128_S96x128_S96x128_S96x128_S384x128_d0 (ix2 ⟨288 + d.val, by omega⟩ l) = a3 (ix2 d l) := by
  pointwise
  rw [dif_neg (by omega), dif_neg (by omega), dif_neg (by omega)]
  exact congrArg (fun d => a3 (ix2 d l)) (Fin.ext (show 288 + d.val - 96 - 96 - 96 = d.val by omega))
/-- The heads' rows, one head under the other. -/
theorem rowOf_at (f : ℕ → FVec Ideal S96x128 .bf16) (h : Fin 4) (d : Fin 96) (l : Fin 128) :
    concatenate S384x128 0 [⟨S96x128, f 0⟩, ⟨S96x128, f 1⟩, ⟨S96x128, f 2⟩, ⟨S96x128, f 3⟩]
      concatenates_S96x128_S96x128_S96x128_S96x128_S384x128_d0 (ix2 ⟨96 * h.val + d.val, by omega⟩ l) = f h.val (ix2 d l) := by
  match h with
  | 0 => exact rowOf0 (f 0) (f 1) (f 2) (f 3) d l
  | 1 => exact rowOf1 (f 0) (f 1) (f 2) (f 3) d l
  | 2 => exact rowOf2 (f 0) (f 1) (f 2) (f 3) d l
  | 3 => exact rowOf3 (f 0) (f 1) (f 2) (f 3) d l

/-- The pair's half that holds head `h`. -/
theorem pair256_at (f : ℕ → FVec Ideal S256x128 .fp8e4m3) (h : ℕ) (r : Fin 256) (l : Fin 128) :
    concatenate S256x256 1 [⟨S256x128, f (2 * (h / 2))⟩, ⟨S256x128, f (2 * (h / 2) + 1)⟩] concatenates_S256x128_S256x128_S256x256_d1
      (ix2 r ⟨128 * (h % 2) + l.val, by omega⟩) = f h (ix2 r l) := by
  rcases Nat.mod_two_eq_zero_or_one h with e | e
  · have e1 : (⟨128 * (h % 2) + l.val, by omega⟩ : Fin 256) = ⟨l.val, by omega⟩ := Fin.ext (show 128 * (h % 2) + l.val = l.val by omega)
    rw [e1, pair256_lo, show 2 * (h / 2) = h by omega]
  · have e1 : (⟨128 * (h % 2) + l.val, by omega⟩ : Fin 256) = ⟨128 + l.val, by omega⟩ := Fin.ext (show 128 * (h % 2) + l.val = 128 + l.val by omega)
    rw [e1, pair256_hi, show 2 * (h / 2) + 1 = h by omega]
theorem pair128_at (f : ℕ → FVec Ideal S128x128 .fp8e4m3) (h : ℕ) (r : Fin 128) (l : Fin 128) :
    concatenate S128x256 1 [⟨S128x128, f (2 * (h / 2))⟩, ⟨S128x128, f (2 * (h / 2) + 1)⟩] concatenates_S128x128_S128x128_S128x256_d1
      (ix2 r ⟨128 * (h % 2) + l.val, by omega⟩) = f h (ix2 r l) := by
  rcases Nat.mod_two_eq_zero_or_one h with e | e
  · have e1 : (⟨128 * (h % 2) + l.val, by omega⟩ : Fin 256) = ⟨l.val, by omega⟩ := Fin.ext (show 128 * (h % 2) + l.val = l.val by omega)
    rw [e1, pair128_lo, show 2 * (h / 2) = h by omega]
  · have e1 : (⟨128 * (h % 2) + l.val, by omega⟩ : Fin 256) = ⟨128 + l.val, by omega⟩ := Fin.ext (show 128 * (h % 2) + l.val = 128 + l.val by omega)
    rw [e1, pair128_hi, show 2 * (h / 2) + 1 = h by omega]

/-! ## The weights' sums -/

/-- Lane `l`'s sum over the eight rows. -/
def col (a : FVec Ideal S8x128 .f32) (l : Fin 128) : EReal := ∑ r : Fin 8, a (ix2 r l)

theorem sum256_col (p : FVec Ideal S256x128 .f32) (a : FVec Ideal S8x128 .f32) (l : Fin 128) (f : ℕ → EReal)
    (hf : ∀ r : Fin 256, p (ix2 r l) = f r.val) (n : ℕ) (hn : n ≤ 32) :
    col (sum256 p a n) l = col a l + ∑ j ∈ Finset.range (8 * n), f j := by
  induction n with
  | zero => simp [sum256]
  | succ n ih =>
    have e : col (sum256 p a (n + 1)) l = col (sum256 p a n) l
        + ∑ r : Fin 8, extractStridedSlice S8x128 ![8 * (n % 32), 0] p (slices_sum256 n) (ix2 r l) := Finset.sum_add_distrib
    rw [e, ih (by omega), Nat.mul_succ, Finset.sum_range_add, add_assoc, Finset.sum_range (n := 8)]
    congr 2
    refine Finset.sum_congr rfl fun r _ => ?_
    rw [rows256_at, hf]
    exact congrArg f (show 8 * (n % 32) + r.val = 8 * n + r.val by omega)
theorem sum128_col (p : FVec Ideal S128x128 .f32) (a : FVec Ideal S8x128 .f32) (l : Fin 128) (f : ℕ → EReal)
    (hf : ∀ r : Fin 128, p (ix2 r l) = f r.val) (n : ℕ) (hn : n ≤ 16) :
    col (sum128 p a n) l = col a l + ∑ j ∈ Finset.range (8 * n), f j := by
  induction n with
  | zero => simp [sum128]
  | succ n ih =>
    have e : col (sum128 p a (n + 1)) l = col (sum128 p a n) l
        + ∑ r : Fin 8, extractStridedSlice S8x128 ![8 * (n % 16), 0] p (slices_sum128 n) (ix2 r l) := Finset.sum_add_distrib
    rw [e, ih (by omega), Nat.mul_succ, Finset.sum_range_add, add_assoc, Finset.sum_range (n := 8)]
    congr 2
    refine Finset.sum_congr rfl fun r _ => ?_
    rw [rows128_at, hf]
    exact congrArg f (show 8 * (n % 16) + r.val = 8 * n + r.val by omega)

section
variable {top : ℕ → ℕ → FVec Ideal S1x128 .f32} {rd256 : ℕ → ℕ → ℕ → Vec Ideal S1x256x128 .f32} {rd128 : ℕ → ℕ → ℕ → Vec Ideal S1x128x128 .f32}
  {vc256 : ℕ → Vec Ideal S1x96x256 .fp8e4m3} {vc128 : ℕ → Vec Ideal S1x96x128 .fp8e4m3} {vsc : FVec Ideal S96x128 .f32}
  {i h : ℕ} {d : Fin 96} {l : Fin 128} {w V : ℕ → EReal}
  (h256 : ∀ k < (i + 1) / 2, ∀ r : Fin 256, prob256 top rd256 i h k (ix2 r l) = w (256 * k + r.val))
  (h128 : i % 2 = 0 → ∀ r : Fin 128, prob128 top rd128 i h ((i + 1) / 2) (ix2 r l) = w (256 * ((i + 1) / 2) + r.val))
  (v256 : ∀ k < (i + 1) / 2, ∀ r : Fin 256, vc256 k (ix3 0 d r) = V (256 * k + r.val))
  (v128 : i % 2 = 0 → ∀ r : Fin 128, vc128 ((i + 1) / 2) (ix3 0 d r) = V (256 * ((i + 1) / 2) + r.val))

include h256 in
theorem sumsAt_col (k : ℕ) (hk : k ≤ (i + 1) / 2) : col (sumsAt top rd256 i h k) l = ∑ j ∈ Finset.range (256 * k), w j := by
  induction k with
  | zero =>
    refine (Finset.sum_eq_zero fun r _ => ?_)
    exact Ideal.ofBits_zero_f32
  | succ k ih =>
    refine (sum256_col _ _ l (fun j => w (256 * k + j)) (h256 k (by omega)) 32 le_rfl).trans ?_
    rw [ih (by omega), show 256 * (k + 1) = 256 * k + 8 * 32 by omega, Finset.sum_range_add w]

include h256 h128 in
theorem sums_col : col (sums top rd256 rd128 i h) l = ∑ j ∈ Finset.range (128 * (i + 1)), w j := by
  unfold sums
  split
  · rename_i hi
    refine (sum128_col _ _ l (fun j => w (256 * ((i + 1) / 2) + j)) (h128 hi) 16 le_rfl).trans ?_
    rw [sumsAt_col h256 _ le_rfl, show 128 * (i + 1) = 256 * ((i + 1) / 2) + 8 * 16 by omega, Finset.sum_range_add]
  · rw [sumsAt_col h256 _ le_rfl, show 128 * (i + 1) = 256 * ((i + 1) / 2) by omega]

/-! ## The weighted values -/

theorem dot256_at (k : ℕ) (hw : ∀ r : Fin 256, prob256 top rd256 i h k (ix2 r l) = w (256 * k + r.val))
    (hv : ∀ r : Fin 256, vc256 k (ix3 0 d r) = V (256 * k + r.val)) :
    dot256 top rd256 vc256 i (h / 2) k (ix2 d ⟨128 * (h % 2) + l.val, by omega⟩)
      = ∑ j ∈ Finset.range 256, V (256 * k + j) * clipE (w (256 * k + j)) := by
  unfold dot256
  rw [mul256_at, Finset.sum_range]
  refine Finset.sum_congr rfl fun r _ => ?_
  rw [flatV256_at, hv, ← hw]
  exact congrArg (_ * ·) (pair256_at (fun h => clipP (prob256 top rd256 i h k)) h r l)
theorem dot128_at (k : ℕ) (hw : ∀ r : Fin 128, prob128 top rd128 i h k (ix2 r l) = w (256 * k + r.val))
    (hv : ∀ r : Fin 128, vc128 k (ix3 0 d r) = V (256 * k + r.val)) :
    dot128 top rd128 vc128 i (h / 2) k (ix2 d ⟨128 * (h % 2) + l.val, by omega⟩)
      = ∑ j ∈ Finset.range 128, V (256 * k + j) * clipE (w (256 * k + j)) := by
  unfold dot128
  rw [mul128_at, Finset.sum_range]
  refine Finset.sum_congr rfl fun r _ => ?_
  rw [flatV128_at, hv, ← hw]
  exact congrArg (_ * ·) (pair128_at (fun h => clipP (prob128 top rd128 i h k)) h r l)

include h256 v256 in
theorem accAt_at (k : ℕ) (hk : k < (i + 1) / 2) : accAt top rd256 vc256 i (h / 2) k (ix2 d ⟨128 * (h % 2) + l.val, by omega⟩)
    = ∑ j ∈ Finset.range (256 * (k + 1)), V j * clipE (w j) := by
  induction k with
  | zero =>
    refine (dot256_at 0 (h256 0 hk) (v256 0 hk)).trans ?_
    simp only [Nat.mul_zero, Nat.zero_add, Nat.mul_one]
  | succ k ih =>
    show accAt top rd256 vc256 i (h / 2) k _ + dot256 top rd256 vc256 i (h / 2) (k + 1) _ = _
    rw [ih (by omega), dot256_at (k + 1) (h256 _ hk) (v256 _ hk), Nat.mul_succ 256 (k + 1), Finset.sum_range_add]

include h256 h128 v256 v128 in
theorem acc_at : acc top rd256 rd128 vc256 vc128 i (h / 2) (ix2 d ⟨128 * (h % 2) + l.val, by omega⟩)
    = ∑ j ∈ Finset.range (128 * (i + 1)), V j * clipE (w j) := by
  unfold acc
  split
  · rename_i hi
    subst hi
    refine (dot128_at 0 (h128 rfl) (v128 rfl)).trans ?_
    simp only [Nat.mul_zero, Nat.zero_add, Nat.mul_one]
  · split
    · rename_i h0 hi
      show accAt top rd256 vc256 i (h / 2) _ _ + dot128 top rd128 vc128 i (h / 2) _ _ = _
      rw [accAt_at h256 v256 _ (by omega), dot128_at _ (h128 hi) (v128 hi), show (i + 1) / 2 - 1 + 1 = (i + 1) / 2 by omega,
        show 128 * (i + 1) = 256 * ((i + 1) / 2) + 128 by omega, Finset.sum_range_add]
    · rename_i h0 hi
      rw [accAt_at h256 v256 _ (by omega), show 256 * ((i + 1) / 2 - 1 + 1) = 128 * (i + 1) by omega]

include h256 h128 v256 v128 in
/-- An output, from the weights and the values. -/
theorem outCol_at : outCol top rd256 rd128 vc256 vc128 vsc i h (ix2 d l)
    = (∑ j ∈ Finset.range (128 * (i + 1)), V j * clipE (w j)) * vsc (ix2 d l)
      * Ideal.div (Ideal.ofBits .f32 0x3F800000#32) (∑ j ∈ Finset.range (128 * (i + 1)), w j) := by
  unfold outCol
  rw [scaleOut_at, accHalf_at, colSum_at, acc_at h256 h128 v256 v128]
  exact congrArg (fun z => _ * Ideal.div _ z) (sums_col h256 h128)
end

end Cert.KernelIdeal.Gen
end
-- ==== Proof.KerOut.lean ====
/- The output a grid point stores is `att`, entry by entry. -/
module

public import proofs.«01_k».proof.Proof.KerWeights
public import proofs.«01_k».proof.Proof.KerSums

@[expose] public section

set_option maxHeartbeats 40000

noncomputable section

namespace Cert.KernelIdeal.Gen

open Idealize.ShloMosaic Idealize.SL.Sem Cert.Sage

variable (arg6 : Memref sig .tc .vmem S1x384x1024 .fp8e4m3) (arg10 : Memref sig .tc .vmem S1x96x1024 .fp8e4m3)
  (arg12 : Memref sig .tc .vmem S1024x96 .fp8e4m3) (arg13 : Memref sig .tc .vmem S2x1024x512 .f32)
  {x0 : Vec Ideal S1x1024x384 .bf16} {x1 x2 : Vec Ideal S1x96x1024 .bf16}
  {h : Fin 4} (hQ : RealHead (headOf x0 h) (2 ^ 128)) (hK : RealHead (rowsOf x1) (2 ^ 128)) (hV : RealHead (rowsOf x2) (2 ^ 128))

include hQ hK hV in
theorem outCol_eq (i : ℕ) (hi : i < 8) (d : Fin 96) (l : Fin 128) :
    outCol (scoreTop (keyScale x1) (qsOf x0) (knRead arg12 x1) (qcRead arg6 (blkOf x0))) (sRead256 arg6 arg12 arg13 (blkOf x0) x1)
      (sRead128 arg6 arg12 arg13 (blkOf x0) x1) (vcRead256 arg10 x2) (vcRead128 arg10 x2) (valScale x2) i h (ix2 d l)
      = att (headOf x0 h) (rowsOf x1) (rowsOf x2) d ⟨128 * i + l, by omega⟩ := by
  obtain ⟨t, ht, hb⟩ := scoreTop_at arg6 arg12 hQ hK i hi l
  have e := outCol_at (top := scoreTop (keyScale x1) (qsOf x0) (knRead arg12 x1) (qcRead arg6 (blkOf x0)))
    (rd256 := sRead256 arg6 arg12 arg13 (blkOf x0) x1) (rd128 := sRead128 arg6 arg12 arg13 (blkOf x0) x1)
    (vc256 := vcRead256 arg10 x2) (vc128 := vcRead128 arg10 x2) (vsc := valScale x2) (i := i) (h := h.val) (d := d) (l := l)
    (w := fun j => Ideal.exp2 (seen (score2 x0 x1 h ⟨128 * i + l, by omega⟩) (128 * i + l) j - (t : EReal)))
    (V := fun j => vCode (rowsOf x2) d (fi j))
    (fun k hk r => by
      unfold prob256
      rw [prob256_at, sRead256_at arg6 arg12 arg13 hQ hK i hi k hk, ht])
    (fun h2 r => by
      unfold prob128
      rw [prob128_at, sRead128_at arg6 arg12 arg13 hQ hK i hi h2, ht])
    (fun k hk r => by
      rw [vcRead256_at]
      exact congrArg _ (Fin.ext (show 256 * (k % 4) + r.val = (256 * k + r.val) % 1024 by omega)))
    (fun h2 r => by
      rw [vcRead128_at]
      exact congrArg _ (Fin.ext (show 256 * ((i + 1) / 2 % 4) + r.val = (256 * ((i + 1) / 2) + r.val) % 1024 by omega)))
  refine e.trans ?_
  rw [valScale_at]
  refine Eq.trans ?_ (binary_attention (fun j => (vCode (rowsOf x2) d (fi j)).toReal) (score (headOf x0 h) (rowsOf x1) ⟨128 * i + l, by omega⟩)
    (vScale (rowsOf x2) d).toReal (128 * i + l) (128 * (i + 1)) (by omega) t hb _ fun _ => rfl)
  simp only [vCode_toReal, vScale_toReal hV]
  rfl

theorem outPiece_at (top : ℕ → ℕ → FVec Ideal S1x128 .f32) (rd256 : ℕ → ℕ → ℕ → Vec Ideal S1x256x128 .f32)
    (rd128 : ℕ → ℕ → ℕ → Vec Ideal S1x128x128 .f32) (vc256 : ℕ → Vec Ideal S1x96x256 .fp8e4m3) (vc128 : ℕ → Vec Ideal S1x96x128 .fp8e4m3)
    (vsc : FVec Ideal S96x128 .f32) (i : ℕ) (h : Fin 4) (d : Fin 96) (l : Fin 128) :
    (outPiece top rd256 rd128 vc256 vc128 vsc i).2 (ix3 0 l (⟨96 * h + d, by omega⟩ : Fin 384)) = outCol top rd256 rd128 vc256 vc128 vsc i h (ix2 d l) :=
  (outT_at _ _ _ _ l ⟨96 * h + d, by omega⟩).trans (rowOf_at (fun h => outCol top rd256 rd128 vc256 vc128 vsc i h) h d l)

theorem split384 (c : Fin 384) : ∃ (h : Fin 4) (d : Fin 96), c = ⟨96 * h + d, by omega⟩ :=
  ⟨⟨c.val / 96, by omega⟩, ⟨c.val % 96, by omega⟩, Fin.ext (show c.val = 96 * (c.val / 96) + c.val % 96 by omega)⟩

include hQ hK hV in
/-- The point's output. -/
theorem outBlock_at (d : Fin 96) (s : Fin 1024) :
    View.canon (outPieces arg6 arg10 arg12 arg13 (blkOf x0) x1 x2) (ix3 0 s (⟨96 * h + d, by omega⟩ : Fin 384))
      = att (headOf x0 h) (rowsOf x1) (rowsOf x2) d s := by
  refine canon_of_mem _ _ _ (out_cover arg6 arg10 arg12 arg13 (blkOf x0) x1 x2 _) fun p hp x hx => ?_
  obtain ⟨i, hi, rfl⟩ := List.mem_map.mp hp
  have hi := lt_of_mem_down8 hi
  obtain ⟨a, l, c, rfl⟩ : ∃ (a : Fin 1) (l : Fin 128) (c : Fin 384), x = ix3 a l c := ⟨_, _, _, eq_ix3 x⟩
  obtain rfl : a = 0 := Subsingleton.elim _ _
  obtain ⟨h', d', rfl⟩ := split384 c
  have e1 := congrArg Fin.val (congrFun hx 1)
  have e2 := congrArg Fin.val (congrFun hx 2)
  have h1 : 128 * (i % 8) + l.val = s.val := (unit_val _ _ (inb_x i) _ 1).symm.trans e1
  clear e1
  have h2 : 0 + (96 * h'.val + d'.val) = 96 * h.val + d.val := (unit_val _ _ (inb_x i) _ 2).symm.trans e2
  clear e2 hx
  obtain rfl : h' = h := Fin.ext (by omega)
  obtain rfl : d' = d := Fin.ext (by omega)
  refine (outPiece_at _ _ _ _ _ _ i h' d' l).trans ((outCol_eq arg6 arg10 arg12 arg13 hQ hK hV i hi d' l).trans ?_)
  exact congrArg _ (Fin.ext (show 128 * i + l.val = s.val by omega))

end Cert.KernelIdeal.Gen
end
-- ==== Proof.KerOutArray.lean ====
/- The kernel's output array as a function of the argument arrays. -/
module

public import proofs.«01_k».proof.Proof.KerArrays
public import proofs.«01_k».proof.Proof.KerOut
import Idealize.ShloMosaic.Lib.Pipeline.ValueKit.Point

@[expose] public section

namespace Cert.KernelIdeal.Gen

open Idealize.ShloMosaic Idealize.ShloMosaic.TcCoe Idealize.SL.Sem Cert.Sage
open Idealize.ShloMosaic.Pipeline (Dat RDat)

variable (m : (ℓ : Loc nD τ sig) → Buf (Elt Ideal) ℓ) (c : Dev nD)

theorem idx3 : ∀ t : Fin cfg0.N, win0_3.index t = ![t.val % 2, 0, t.val / 2] := by decide +kernel

theorem leaves3 (t : Fin cfg0.N) (X) (h : (rdat m c).Leaves 3 t X) :
    X = View.canon (outPieces (ms0_4 t) (ms0_8 t) scM0_0 scM0_1 (blkOf (iblk m c 0 t)) (iblk m c 1 t) (iblk m c 2 t)) := by
  obtain ⟨Y, _, h⟩ := h
  rw [show (rdat m c).after 3 = _ from RDat.override_after_of_eq_some (dats m 0 c).toR (ovr := rel m c) rfl] at h
  exact h

variable (after : (w : Fin cfg0.W) → Fin cfg0.N → (cfg0.win w).block.Idx → Elt Ideal (cfg0.win w).elt)
  (hl : ∀ (w : Fin cfg0.W) (u : Fin cfg0.N), (cfg0.win w).flush u = true → (rdat m c).Leaves w u (after w u))

include hl in
theorem arr3 (hx : ∀ b h, RealHead (argQ (m ((c : Thread nD τ).loc main_arg0)) b h) (2 ^ 128))
    (hk : ∀ b g, RealHead (argK (m ((c : Thread nD τ).loc main_arg1)) b g) (2 ^ 128))
    (hv : ∀ b g, RealHead (argK (m ((c : Thread nD τ).loc main_arg2)) b g) (2 ^ 128)) :
    (ended m c after).arrAt 3 cfg0.N
      = resOut (m ((c : Thread nD τ).loc main_arg0)) (m ((c : Thread nD τ).loc main_arg1)) (m ((c : Thread nD τ).loc main_arg2)) := by
  refine (ended m c after).arrAt_eq_of_covers 3 _ (by decide +kernel) fun t hf y => ?_
  blk_simp
  rw [RDat.withAfter_after, leaves3 m c t _ (hl 3 t hf)]
  obtain ⟨a, s, n, rfl⟩ : ∃ (a : Fin 1) (s : Fin 1024) (n : Fin 384), y = ix3 a s n := ⟨_, _, _, eq_ix3 y⟩
  obtain rfl : a = 0 := Subsingleton.elim _ _
  obtain ⟨h, d, rfl⟩ := split4 n
  have he : (win0_3.blk t).view.emb (ix3 0 s ⟨96 * h.val + d.val, by omega⟩) = ix3 (ptB t) s ⟨(ptH t h).val * 96 + d.val, split_lt (ptH t h) d⟩ := by
    unfold ptB ptH
    blk_ext [idx3 t]
  have e := outBlock_at (ms0_4 t) (ms0_8 t) scM0_0 scM0_1 (x0 := iblk m c 0 t) (x1 := iblk m c 1 t) (x2 := iblk m c 2 t) (h := h)
    (by rw [head_q]; exact hx _ _) (by rw [rows_k]; exact hk _ _) (by rw [rows_v]; exact hv _ _) d s
  refine e.trans ?_
  rw [head_q, rows_k, rows_v]
  exact ((congrArg (resOut _ _ _) he).trans (resOut_at _ _ _ (ptB t) (ptH t h) (ptG t)
    (show t.val / 2 = (t.val / 2 * 4 + h.val) / 4 by omega) d s _ rfl)).symm

end Cert.KernelIdeal.Gen

end
-- ==== Proof.RefQueries.lean ====
/- What the reference's query codes and scales hold, entry by entry. -/
module

public import proofs.«01_k».proof.Proof.RefVals

@[expose] public section

set_option maxHeartbeats 40000

noncomputable section

namespace Cert.ReferenceIdeal.Gen

open Idealize.ShloMosaic Idealize.SL.Sem Cert.Sage

theorem pay1_at (x : Vec Ideal S2x2304x1024 .bf16) (b : Fin 2) (h : Fin 24) (d : Fin 96) (i : Fin 8) (q : Fin 128) :
    k0_pay1 (F := Ideal) x (ix5 b h d i q) = headQ x b h d ⟨i * 128 + q, by omega⟩ := by
  unfold k0_pay1 headQ
  pointwise
theorem drop_q (b b' : Fin 2) (h h' : Fin 24) (d : Fin 96) (i i' : Fin 8) (q : Fin 128) :
    reduces_S2x24x96x8x128_S2x24x8.drop (ix5 b' h' d i' q) = ix3 b h i ↔ b' = b ∧ h' = h ∧ i' = i := by
  rw [← ix3_inj]
  refine Eq.congr ?_ rfl
  funext a
  match a with | 0 => rfl | 1 => rfl | 2 => rfl
theorem maxBlock_at_red (z : FVec Ideal S2x24x96x8x128 .f32) (b : Fin 2) (h : Fin 24) (i : Fin 8) :
    multiReduction .maximumf [2, 4] S2x24x8 z 0xFF800000#32 reduces_S2x24x96x8x128_S2x24x8 (.inl rfl) rfl (ix3 b h i) = Finset.fold max (Ideal.ofBits .f32 0xFF800000#32) z {k | reduces_S2x24x96x8x128_S2x24x8.drop k = ix3 b h i} := by
  pointwise
theorem maxBlock_at_cast (z : FVec Ideal S2x24x8 .f32) (b : Fin 2) (h : Fin 24) (i : Fin 8) :
    mulf (shapeCast S2x24x1x8x1 z shapeCasts_S2x24x8_S2x24x1x8x1) (broadcast S2x24x1x8x1 (Scalar.ofBits .f32 0x3B124925#32)) (ix5 b h 0 i 0) = z (ix3 b h i) * Ideal.ofBits .f32 0x3B124925#32 := by
  pointwise
theorem maxBlock_at (z : FVec Ideal S2x24x96x8x128 .f32) (b : Fin 2) (h : Fin 24) (i : Fin 8) :
    mulf (shapeCast S2x24x1x8x1 (multiReduction .maximumf [2, 4] S2x24x8 z 0xFF800000#32 reduces_S2x24x96x8x128_S2x24x8 (.inl rfl) rfl)
      shapeCasts_S2x24x8_S2x24x1x8x1) (broadcast S2x24x1x8x1 (Scalar.ofBits .f32 0x3B124925#32)) (ix5 b h 0 i 0)
    = Finset.fold max (Ideal.ofBits .f32 0xFF800000#32) z {k | reduces_S2x24x96x8x128_S2x24x8.drop k = ix3 b h i} * Ideal.ofBits .f32 0x3B124925#32 := by
  rw [maxBlock_at_cast, maxBlock_at_red]
theorem yq_at (x : Vec Ideal S2x2304x1024 .bf16) (b : Fin 2) (h : Fin 24) (i : Fin 8) :
    mulf (shapeCast S2x24x1x8x1 (multiReduction .maximumf [2, 4] S2x24x8 (absf (k0_pay1 (F := Ideal) x)) 0xFF800000#32 reduces_S2x24x96x8x128_S2x24x8
      (.inl rfl) rfl) shapeCasts_S2x24x8_S2x24x1x8x1) (broadcast S2x24x1x8x1 (Scalar.ofBits .f32 0x3B124925#32)) (ix5 b h 0 i 0)
    = yq (headQ x b h) i := by
  rw [maxBlock_at]
  unfold yq c448
  congr 1
  refine eq_of_forall_ge_iff fun z => ?_
  rw [Finset.fold_max_le, peak_le]
  simp only [ninf_le, true_and, Finset.mem_filter, Finset.mem_univ]
  constructor
  · intro H d s hs
    have := H (ix5 b h d i ⟨s.val % 128, Nat.mod_lt _ (by norm_num)⟩) ((drop_q ..).2 ⟨rfl, rfl, rfl⟩)
    refine le_trans (le_of_eq ?_) this
    show absE _ = absE (k0_pay1 (F := Ideal) x _)
    rw [pay1_at]
    congr 2
    exact Fin.ext (by show s.val = i.val * 128 + s.val % 128; omega)
  · intro H k hk
    obtain ⟨b', h', d, i', q, rfl⟩ : ∃ (b' : Fin 2) (h' : Fin 24) (d : Fin 96) (i' : Fin 8) (q : Fin 128), k = ix5 b' h' d i' q := ⟨_, _, _, _, _, eq_ix5 k⟩
    obtain ⟨rfl, rfl, rfl⟩ := (drop_q ..).1 hk
    refine le_trans (le_of_eq ?_) (H d ⟨i' * 128 + q, by omega⟩ (by show (i'.val * 128 + q.val) / 128 = i'.val; omega))
    show absE (k0_pay1 (F := Ideal) x _) = absE _
    rw [pay1_at]
theorem pay2_at (x : Vec Ideal S2x2304x1024 .bf16) (b : Fin 2) (h : Fin 24) (i : Fin 8) :
    k0_pay2 (F := Ideal) x (ix5 b h 0 i 0) = expR (yq (headQ x b h) i) := by
  rw [← yq_at]
  exact exponent_at _ _
theorem scaleQ_at (e : FVec Ideal S2x24x1x8x1 .f32) (b : Fin 2) (h : Fin 24) (i : Fin 8) :
    k0_pay19 (exp2 e) (ix3 b i h) = FloatOps.exp2 (F := Ideal) (φ := .f32) (e (ix5 b h 0 i 0)) := by
  unfold k0_pay19
  pointwise
theorem qscale_at (x : Vec Ideal S2x2304x1024 .bf16) (b : Fin 2) (h : Fin 24) (i : Fin 8) :
    k0_pay19 (k0_pay4 (F := Ideal) x) (ix3 b i h) = scaleR (yq (headQ x b h) i) := by
  unfold scaleR
  rw [← pay2_at]
  exact scaleQ_at _ b h i
theorem codesQ_at (z : FVec Ideal S2x24x96x8x128 .f32) (e : FVec Ideal S2x24x1x8x1 .f32) (b : Fin 2) (h : Fin 24) (d : Fin 96) (s : Fin 1024) :
    shapeCast S2x2304x1024 (truncf .fp8e4m3 (minimumf (broadcast S2x24x96x8x128 (Scalar.ofBits .f32 0x43E00000#32))
      (maximumf (broadcast S2x24x96x8x128 (Scalar.ofBits .f32 0xC3E00000#32)) (mulf z (broadcastTo S2x24x96x8x128
        (exp2 (subf (broadcast S2x24x1x8x1 (Scalar.ofBits .f32 0x00000000#32)) e)) broadcasts_S2x24x1x8x1_S2x24x96x8x128)))) bitsLt_fp8e4m3_f32)
      shapeCasts_S2x24x96x8x128_S2x2304x1024 (ix3 b ⟨h * 96 + d, by omega⟩ s)
    = min (Ideal.ofBits .f32 0x43E00000#32) (max (Ideal.ofBits .f32 0xC3E00000#32)
        (z (ix5 b h d ⟨s / 128, by omega⟩ ⟨s % 128, by omega⟩) * FloatOps.exp2 (F := Ideal) (φ := .f32) (0 - e (ix5 b h 0 ⟨s / 128, by omega⟩ 0)))) := by
  pointwise
theorem qcode_at (x : Vec Ideal S2x2304x1024 .bf16) (b : Fin 2) (h : Fin 24) (d : Fin 96) (s : Fin 1024) :
    k0_pay18 (k0_pay3 (F := Ideal) x) (ix3 b ⟨h * 96 + d, by omega⟩ s) = clip (headQ x b h d s * invR (yq (headQ x b h) (s.val / 128))) := by
  refine (codesQ_at (k0_pay1 x) _ b h d s).trans ?_
  rw [pay1_at, pay2_at]
  have : (⟨s.val / 128 * 128 + s.val % 128, by omega⟩ : Fin 1024) = s := Fin.ext (by show s.val / 128 * 128 + s.val % 128 = s.val; omega)
  show clip (headQ x b h d ⟨s.val / 128 * 128 + s.val % 128, _⟩ * _) = _
  rw [this]; rfl

end Cert.ReferenceIdeal.Gen
end
-- ==== Proof.RefArrays.lean ====
/-
  The reference's result arrays, entry by entry, as functions of the argument arrays.
-/
module

public import proofs.«01_k».proof.Proof.Heads
public import proofs.«01_k».proof.Proof.Bounds
public import proofs.«01_k».proof.Proof.RefKeys
public import proofs.«01_k».proof.Proof.RefVals
public import proofs.«01_k».proof.Proof.RefQueries
public import proofs.«01_k».proof.Proof.Gen.ReferenceIdeal.Value
import Idealize.ShloMosaic.Lib.Pipeline.ValueKit.Point

@[expose] public section

namespace Cert.ReferenceIdeal.Gen

open Idealize.ShloMosaic Idealize.ShloMosaic.TcCoe Idealize.SL.Sem Cert.Sage

variable (m : (ℓ : Loc nD τ sig) → Buf (Elt Ideal) ℓ) (c : Dev nD)

/-! ## The operands -/

theorem idx0 : ∀ t : Fin cfg0.N, win0_0.index t = ![0, 0, 0] := by decide +kernel
theorem idx1 : ∀ t : Fin cfg0.N, win0_1.index t = ![0, 0, 0] := by decide +kernel
theorem idx2 : ∀ t : Fin cfg0.N, win0_2.index t = ![0, 0, 0] := by decide +kernel
theorem idx4 : ∀ t : Fin cfg0.N, win0_4.index t = ![0, 0, 0] := by decide +kernel
theorem idx5 : ∀ t : Fin cfg0.N, win0_5.index t = ![0, 0, 0] := by decide +kernel
theorem idx6 : ∀ t : Fin cfg0.N, win0_6.index t = ![0, 0, 0] := by decide +kernel
theorem idx7 : ∀ t : Fin cfg0.N, win0_7.index t = ![0, 0, 0] := by decide +kernel
theorem idx8 : ∀ t : Fin cfg0.N, win0_8.index t = ![0, 0, 0] := by decide +kernel
theorem idx9 : ∀ t : Fin cfg0.N, win0_9.index t = ![0, 0, 0] := by decide +kernel

theorem head_q (t : Fin cfg0.N) (b : Fin 2) (h : Fin 24) :
    headQ (iblk m c 0 t) b h = argQ (m ((c : Thread nD τ).loc main_arg0)) b h := by
  funext d s
  show iblk m c 0 t (ix3 b ⟨h * 96 + d, _⟩ s) = (m ((c : Thread nD τ).loc main_arg0)) (ix3 b s ⟨h * 96 + d, _⟩)
  blk_ext! [iblk, V, idx0 t]

theorem head_k (t : Fin cfg0.N) (b : Fin 2) (g : Fin 6) :
    headK (iblk m c 1 t) b g = argK (m ((c : Thread nD τ).loc main_arg1)) b g := by
  funext d s
  show iblk m c 1 t (ix3 b ⟨g * 96 + d, _⟩ s) = (m ((c : Thread nD τ).loc main_arg1)) (ix3 b s ⟨g * 96 + d, _⟩)
  blk_ext! [iblk, V, idx1 t]

theorem head_v (t : Fin cfg0.N) (b : Fin 2) (g : Fin 6) :
    headK (iblk m c 2 t) b g = argK (m ((c : Thread nD τ).loc main_arg2)) b g := by
  funext d s
  show iblk m c 2 t (ix3 b ⟨g * 96 + d, _⟩ s) = (m ((c : Thread nD τ).loc main_arg2)) (ix3 b s ⟨g * 96 + d, _⟩)
  blk_ext! [iblk, V, idx2 t]

/-! ## What the one point leaves -/

theorem out4_eq (x0 : Vec Ideal S2x2304x1024 .bf16) (x1 x2 : Vec Ideal S2x576x1024 .bf16) :
    out0_4 x0 x1 x2 = k0_pay18 (k0_pay3 x0) := by
  unfold out0_4 k0_pay28
  rw [View.canon_unit_zero (by funext a; fin_cases a <;> rfl), View.ld_unit_zero (by funext a; fin_cases a <;> rfl)]

theorem out5_eq (x0 : Vec Ideal S2x2304x1024 .bf16) (x1 x2 : Vec Ideal S2x576x1024 .bf16) :
    out0_5 x0 x1 x2 = k0_pay19 (k0_pay4 x0) := by
  unfold out0_5 k0_pay29
  rw [View.canon_unit_zero (by funext a; fin_cases a <;> rfl), View.ld_unit_zero (by funext a; fin_cases a <;> rfl)]

theorem out6_eq (x0 : Vec Ideal S2x2304x1024 .bf16) (x1 x2 : Vec Ideal S2x576x1024 .bf16) :
    out0_6 x0 x1 x2 = k0_pay20 (k0_pay8 (k0_pay5 x1) (k0_pay6 x1)) := by
  unfold out0_6 k0_pay31 k0_pay30
  rw [View.canon_unit_zero (by funext a; fin_cases a <;> rfl), View.ld_unit_zero (by funext a; fin_cases a <;> rfl)]

theorem out7_eq (x0 : Vec Ideal S2x2304x1024 .bf16) (x1 x2 : Vec Ideal S2x576x1024 .bf16) :
    out0_7 x0 x1 x2 = k0_pay21 (k0_pay9 (k0_pay6 x1)) := by
  unfold out0_7 k0_pay32 k0_pay30
  rw [View.canon_unit_zero (by funext a; fin_cases a <;> rfl), View.ld_unit_zero (by funext a; fin_cases a <;> rfl)]

theorem out8_eq (x0 : Vec Ideal S2x2304x1024 .bf16) (x1 x2 : Vec Ideal S2x576x1024 .bf16) :
    out0_8 x0 x1 x2 = k0_pay22 (k0_pay10 x2) (k0_pay12 x2) (k0_pay13 x2) k0_pay14 := by
  unfold out0_8 k0_pay33 k0_pay34 k0_pay35 k0_pay36
  rw [View.canon_unit_zero (by funext a; fin_cases a <;> rfl), View.ld_unit_zero (by funext a; fin_cases a <;> rfl)]

theorem out9_eq (x0 : Vec Ideal S2x2304x1024 .bf16) (x1 x2 : Vec Ideal S2x576x1024 .bf16) :
    out0_9 x0 x1 x2 = k0_pay23 (k0_pay12 x2) (k0_pay13 x2) k0_pay14 := by
  unfold out0_9 k0_pay34 k0_pay35 k0_pay36
  rw [View.canon_unit_zero (by funext a; fin_cases a <;> rfl), View.ld_unit_zero (by funext a; fin_cases a <;> rfl)]

/-! ## The arrays -/

theorem split_lt {N : ℕ} (g : Fin N) (d : Fin 96) : g.val * 96 + d.val < N * 96 := by
  have := g.isLt
  have := d.isLt
  omega

theorem split96 {N : ℕ} (n : Fin (N * 96)) : ∃ (g : Fin N) (d : Fin 96), n = ⟨g.val * 96 + d.val, split_lt g d⟩ :=
  ⟨⟨n.val / 96, Nat.div_lt_of_lt_mul (by have := n.isLt; omega)⟩, ⟨n.val % 96, Nat.mod_lt _ (by decide)⟩, Fin.ext (by
    show n.val = n.val / 96 * 96 + n.val % 96; omega)⟩

theorem arr8 (hf : ∀ b g, RealHead (argK (m ((c : Thread nD τ).loc main_arg2)) b g) (2 ^ 128)) :
    (dats m 0 c).arrAt 8 cfg0.N = resVC (m ((c : Thread nD τ).loc main_arg2)) := by
  refine (dats m 0 c).arrAt_eq_of_covers 8 _ (by decide +kernel) fun t _ y => ?_
  blk_simp
  rw [after0_8, out8_eq]
  obtain ⟨b, n, s, rfl⟩ : ∃ (b : Fin 2) (n : Fin 576) (s : Fin 1024), y = ix3 b n s := ⟨_, _, _, eq_ix3 y⟩
  have he : (win0_8.blk t).view.emb (ix3 b n s) = ix3 b n s := by blk_ext [idx8 t]
  obtain ⟨g, d, rfl⟩ := split96 (N := 6) n
  refine (vcode_at _ b g d s).trans ?_
  rw [head_v, invR_eq (yv_real (hf b g) d)]
  exact ((congrArg (resVC _) he).trans (resVC_at _ b g d s _ rfl)).symm

theorem arr9 (hf : ∀ b g, RealHead (argK (m ((c : Thread nD τ).loc main_arg2)) b g) (2 ^ 128)) :
    (dats m 0 c).arrAt 9 cfg0.N = resVS (m ((c : Thread nD τ).loc main_arg2)) := by
  refine (dats m 0 c).arrAt_eq_of_covers 9 _ (by decide +kernel) fun t _ y => ?_
  blk_simp
  rw [after0_9, out9_eq]
  obtain ⟨g, b, d, rfl⟩ : ∃ (g : Fin 6) (b : Fin 2) (d : Fin 96), y = ix3 g b d := ⟨_, _, _, eq_ix3 y⟩
  have he : (win0_9.blk t).view.emb (ix3 g b d) = ix3 g b d := by blk_ext [idx9 t]
  refine (vscale_at _ b g d).trans ?_
  rw [head_v, scaleR_eq (yv_real (hf b g) d)]
  exact (congrArg (resVS _) he).symm

theorem arr6 (hf : ∀ b g, RealHead (argK (m ((c : Thread nD τ).loc main_arg1)) b g) (2 ^ 128)) :
    (dats m 0 c).arrAt 6 cfg0.N = resKC (m ((c : Thread nD τ).loc main_arg1)) := by
  refine (dats m 0 c).arrAt_eq_of_covers 6 _ (by decide +kernel) fun t _ y => ?_
  blk_simp
  rw [after0_6, out6_eq]
  obtain ⟨b, n, s, rfl⟩ : ∃ (b : Fin 2) (n : Fin 576) (s : Fin 1024), y = ix3 b n s := ⟨_, _, _, eq_ix3 y⟩
  have he : (win0_6.blk t).view.emb (ix3 b n s) = ix3 b n s := by blk_ext [idx6 t]
  obtain ⟨g, d, rfl⟩ := split96 (N := 6) n
  refine (kcode_at _ b g d s).trans ?_
  rw [head_k, ykR_eq, smoothR_eq, invR_eq (yk_real (hf b g) _ (by omega))]
  exact ((congrArg (resKC _) he).trans (resKC_at _ b g d s _ rfl)).symm

theorem arr7 (hf : ∀ b g, RealHead (argK (m ((c : Thread nD τ).loc main_arg1)) b g) (2 ^ 128)) :
    (dats m 0 c).arrAt 7 cfg0.N = resKS (m ((c : Thread nD τ).loc main_arg1)) := by
  refine (dats m 0 c).arrAt_eq_of_covers 7 _ (by decide +kernel) fun t _ y => ?_
  blk_simp
  rw [after0_7, out7_eq]
  obtain ⟨g, b, j, rfl⟩ : ∃ (g : Fin 6) (b : Fin 2) (j : Fin 16), y = ix3 g b j := ⟨_, _, _, eq_ix3 y⟩
  have he : (win0_7.blk t).view.emb (ix3 g b j) = ix3 g b j := by blk_ext [idx7 t]
  refine (kscale_at _ b g j).trans ?_
  rw [head_k, ykR_eq, scaleR_eq (yk_real (hf b g) _ j.isLt)]
  exact (congrArg (resKS _) he).symm

theorem arr4 (hf : ∀ b h, RealHead (argQ (m ((c : Thread nD τ).loc main_arg0)) b h) (2 ^ 128)) :
    (dats m 0 c).arrAt 4 cfg0.N = resQC (m ((c : Thread nD τ).loc main_arg0)) := by
  refine (dats m 0 c).arrAt_eq_of_covers 4 _ (by decide +kernel) fun t _ y => ?_
  blk_simp
  rw [after0_4, out4_eq]
  obtain ⟨b, n, s, rfl⟩ : ∃ (b : Fin 2) (n : Fin 2304) (s : Fin 1024), y = ix3 b n s := ⟨_, _, _, eq_ix3 y⟩
  have he : (win0_4.blk t).view.emb (ix3 b n s) = ix3 b n s := by blk_ext [idx4 t]
  obtain ⟨h, d, rfl⟩ := split96 (N := 24) n
  refine (qcode_at _ b h d s).trans ?_
  rw [head_q, invR_eq (yq_real (hf b h) _ (by omega))]
  exact ((congrArg (resQC _) he).trans (resQC_at _ b h d s _ rfl)).symm

theorem arr5 (hf : ∀ b h, RealHead (argQ (m ((c : Thread nD τ).loc main_arg0)) b h) (2 ^ 128)) :
    (dats m 0 c).arrAt 5 cfg0.N = resQS (m ((c : Thread nD τ).loc main_arg0)) := by
  refine (dats m 0 c).arrAt_eq_of_covers 5 _ (by decide +kernel) fun t _ y => ?_
  blk_simp
  rw [after0_5, out5_eq]
  obtain ⟨b, i, h, rfl⟩ : ∃ (b : Fin 2) (i : Fin 8) (h : Fin 24), y = ix3 b i h := ⟨_, _, _, eq_ix3 y⟩
  have he : (win0_5.blk t).view.emb (ix3 b i h) = ix3 b i h := by blk_ext [idx5 t]
  refine (qscale_at _ b h i).trans ?_
  rw [head_q, scaleR_eq (yq_real (hf b h) _ i.isLt)]
  exact (congrArg (resQS _) he).symm

end Cert.ReferenceIdeal.Gen

end
-- ==== Proof.RefAttn.lean ====
/- The reference's attention, entry by entry: scores, weights and weighted values of the `48` heads of the two batch rows. -/
module

public import proofs.«01_k».proof.Proof.RefVals

@[expose] public section

set_option maxHeartbeats 40000

noncomputable section

namespace Cert.ReferenceIdeal.Gen

open Idealize.ShloMosaic Idealize.SL.Sem Cert.Sage

/-- Query head `r` of key head `g` of batch row `b`. -/
abbrev hd (b : Fin 2) (g : Fin 6) (r : Fin 4) : Fin 48 := ⟨b * 24 + (g * 4 + r), by omega⟩

/-! ## The stages -/

/-- The query scales spread over the positions. -/
def aQ (v29 : FVec Ideal S2x24x1x8x1 .f32) : FVec Ideal S48x1x1024 .f32 :=
  shapeCast S48x1x1024 (broadcastTo S2x24x1x8x128 (shapeCast S2x24x1x8x1 v29 shapeCasts_S2x24x1x8x1_S2x24x1x8x1)
    broadcasts_S2x24x1x8x1_S2x24x1x8x128) shapeCasts_S2x24x1x8x128_S48x1x1024
/-- The key scales spread over the heads and the positions. -/
def aK (v66 : FVec Ideal S2x6x1x16x1 .f32) : FVec Ideal S48x1024x1 .f32 :=
  shapeCast S48x1024x1 (broadcastTo S2x6x4x16x64 (shapeCast S2x6x1x16x1 v66 shapeCasts_S2x6x1x16x1_S2x6x1x16x1)
    broadcasts_S2x6x1x16x1_S2x6x4x16x64) shapeCasts_S2x6x4x16x64_S48x1024x1
/-- The value scales spread over the heads. -/
def aV (v96 : FVec Ideal S2x6x96x1 .f32) : FVec Ideal S48x96x1 .f32 :=
  shapeCast S48x96x1 (broadcastTo S2x6x4x96x1 (shapeCast S2x6x1x96x1 (shapeCast S2x6x1x96x1 v96 shapeCasts_S2x6x96x1_S2x6x1x96x1)
    shapeCasts_S2x6x1x96x1_S2x6x1x96x1) broadcasts_S2x6x1x96x1_S2x6x4x96x1) shapeCasts_S2x6x4x96x1_S48x96x1
/-- The value codes spread over the heads. -/
def aVc (v117 : FVec Ideal S2x6x1x96x1024 .fp8e4m3) : FVec Ideal S48x96x1024 .fp8e4m3 :=
  shapeCast S48x96x1024 (broadcastTo S2x6x4x96x1024 (shapeCast S2x6x1x96x1024 v117 shapeCasts_S2x6x1x96x1024_S2x6x1x96x1024)
    broadcasts_S2x6x1x96x1024_S2x6x4x96x1024) shapeCasts_S2x6x4x96x1024_S48x96x1024
/-- The products of the codes. -/
def aDot (v112 v116 : FVec Ideal S48x96x1024 .fp8e4m3) : FVec Ideal S48x1024x1024 .f32 :=
  matmul dot_S48x96x1024_S48x96x1024_S48x1024x1024_1_1_2_2_0_0 none v116 v112 (constant S48x1024x1024 .f32 0x00000000#32)
/-- The scores. -/
def aRaw (D : FVec Ideal S48x1024x1024 .f32) (q : FVec Ideal S48x1x1024 .f32) (k : FVec Ideal S48x1024x1 .f32) : FVec Ideal S48x1024x1024 .f32 :=
  mulf (mulf (mulf D (broadcastTo S48x1024x1024 q broadcasts_S48x1x1024_S48x1024x1024))
    (broadcastTo S48x1024x1024 k broadcasts_S48x1024x1_S48x1024x1024)) (broadcast S48x1024x1024 (Named.named κ "score_scale" 0x3DD105EC#32))
/-- The scores, hidden ones -∞. -/
def aScore (R : FVec Ideal S48x1024x1024 .f32) : FVec Ideal S48x1024x1024 .f32 :=
  select (cmpi .sle (iota .tc S48x1024x1024 32 [1] iota_S48x1024x1024_d1_w32) (iota .tc S48x1024x1024 32 [2] iota_S48x1024x1024_d2_w32))
    R (broadcast S48x1024x1024 (Scalar.ofBits .f32 0xFF800000#32))
/-- Each query's greatest score. -/
def aMax (S : FVec Ideal S48x1024x1024 .f32) : FVec Ideal S48x1024 .f32 :=
  multiReduction .maximumf [1] S48x1024 S 0xFF800000#32 reduces_S48x1024x1024_S48x1024 (.inl rfl) rfl
/-- The weights. -/
def aExp (S : FVec Ideal S48x1024x1024 .f32) (M : FVec Ideal S48x1024 .f32) : FVec Ideal S48x1024x1024 .f32 :=
  exp (subf S (broadcastTo S48x1024x1024 (shapeCast S48x1x1024 M shapeCasts_S48x1024_S48x1x1024) broadcasts_S48x1x1024_S48x1024x1024))
/-- Their sums. -/
def aSum (P : FVec Ideal S48x1024x1024 .f32) : FVec Ideal S48x1024 .f32 :=
  multiReduction .add [1] S48x1024 P 0x00000000#32 reduces_S48x1024x1024_S48x1024 (.inl rfl) rfl
/-- The weights' codes. -/
def aCode (P : FVec Ideal S48x1024x1024 .f32) : FVec Ideal S48x1024x1024 .fp8e4m3 :=
  truncf .fp8e4m3 (minimumf (broadcast S48x1024x1024 (Scalar.ofBits .f32 0x43E00000#32)) (maximumf (broadcast S48x1024x1024 (Scalar.ofBits .f32 0x00000000#32))
    (mulf P (broadcast S48x1024x1024 (Scalar.ofBits .f32 0x43800000#32))))) bitsLt_fp8e4m3_f32
/-- The weighted values. -/
def aDotV (v : FVec Ideal S48x96x1024 .fp8e4m3) (p : FVec Ideal S48x1024x1024 .fp8e4m3) : FVec Ideal S48x96x1024 .f32 :=
  matmul dot_S48x96x1024_S48x1024x1024_S48x96x1024_2_1_1_2_0_0 none v p (constant S48x96x1024 .f32 0x00000000#32)
/-- Scaled and divided by the sums. -/
def aNorm (A : FVec Ideal S48x96x1024 .f32) (v : FVec Ideal S48x96x1 .f32) (L : FVec Ideal S48x1024 .f32) : FVec Ideal S48x96x1024 .f32 :=
  divf (mulf (mulf A (broadcast S48x96x1024 (Scalar.ofBits .f32 0x3B800000#32))) (broadcastTo S48x96x1024 v broadcasts_S48x96x1_S48x96x1024))
    (broadcastTo S48x96x1024 (shapeCast S48x1x1024 L shapeCasts_S48x1024_S48x1x1024) broadcasts_S48x1x1024_S48x96x1024)
/-- In the output's layout. -/
def aOut (O : FVec Ideal S48x96x1024 .f32) : FVec Ideal S2x1024x2304 .bf16 :=
  truncf .bf16 (transpose S2x1024x2304 [0, 2, 1] (shapeCast S2x2304x1024 O shapeCasts_S48x96x1024_S2x2304x1024)
    transposes_S2x2304x1024_p0_2_1_S2x1024x2304) bitsLt_bf16_f32

/-- The attention is these stages one after the other. -/
theorem pay27_eq (v29 : FVec Ideal S2x24x1x8x1 .f32) (v66 : FVec Ideal S2x6x1x16x1 .f32) (v96 : FVec Ideal S2x6x96x1 .f32)
    (v112 v116 : FVec Ideal S48x96x1024 .fp8e4m3) (v117 : FVec Ideal S2x6x1x96x1024 .fp8e4m3)
    (S : FVec Ideal S48x1024x1024 .f32) (hS : S = aScore (aRaw (aDot v112 v116) (aQ v29) (aK v66)))
    (P : FVec Ideal S48x1024x1024 .f32) (hP : P = aExp S (aMax S)) :
    k0_pay27 v29 v66 v96 v112 v116 v117 = aOut (aNorm (aDotV (aVc v117) (aCode P)) (aV v96) (aSum P)) := by
  subst hP hS; rfl

/-! ## Their entries -/

theorem hd_row (b : Fin 2) (g : Fin 6) (r : Fin 4) : (b.val * 24 + (g.val * 4 + r.val)) / 24 = b.val := by omega
theorem hd_head (b : Fin 2) (g : Fin 6) (r : Fin 4) : (b.val * 24 + (g.val * 4 + r.val)) % 24 = g.val * 4 + r.val := by omega
theorem hd_group (b : Fin 2) (g : Fin 6) (r : Fin 4) : (b.val * 24 + (g.val * 4 + r.val)) / 4 % 6 = g.val := by omega

theorem pay24_at (z : FVec Ideal S2x24x96x8x128 .fp8e4m3) (b : Fin 2) (g : Fin 6) (r : Fin 4) (d : Fin 96) (s : Fin 1024) :
    k0_pay24 z (ix3 (hd b g r) d s) = z (ix5 b ⟨g * 4 + r, by omega⟩ d ⟨s / 128, by omega⟩ ⟨s % 128, by omega⟩) := by
  unfold k0_pay24; pointwise; simp only [hd_row, hd_head, hd_group, Fin.eta]
theorem pay18_at (z : FVec Ideal S2x24x96x8x128 .fp8e4m3) (b : Fin 2) (h : Fin 24) (d : Fin 96) (s : Fin 1024) :
    k0_pay18 z (ix3 b ⟨h * 96 + d, by omega⟩ s) = z (ix5 b h d ⟨s / 128, by omega⟩ ⟨s % 128, by omega⟩) := by
  unfold k0_pay18; pointwise
theorem pay25_at (z : FVec Ideal S2x6x96x16x64 .fp8e4m3) (b : Fin 2) (g : Fin 6) (r : Fin 4) (d : Fin 96) (s : Fin 1024) :
    k0_pay25 z (ix3 (hd b g r) d s) = z (ix5 b g d ⟨s / 64, by omega⟩ ⟨s % 64, by omega⟩) := by
  unfold k0_pay25; pointwise; simp only [hd_row, hd_head, hd_group, Fin.eta]
theorem pay20_at (z : FVec Ideal S2x6x96x16x64 .fp8e4m3) (b : Fin 2) (g : Fin 6) (d : Fin 96) (s : Fin 1024) :
    k0_pay20 z (ix3 b ⟨g * 96 + d, by omega⟩ s) = z (ix5 b g d ⟨s / 64, by omega⟩ ⟨s % 64, by omega⟩) := by
  unfold k0_pay20; pointwise
theorem castVc_at (z : FVec Ideal S2x6x96x1024 .fp8e4m3) (b : Fin 2) (g : Fin 6) (d : Fin 96) (s : Fin 1024) :
    shapeCast S2x576x1024 z shapeCasts_S2x6x96x1024_S2x576x1024 (ix3 b ⟨g * 96 + d, by omega⟩ s) = z (ix4 b g d s) := by
  pointwise
theorem aVc_at (z : FVec Ideal S2x6x96x1024 .fp8e4m3) (b : Fin 2) (g : Fin 6) (r : Fin 4) (d : Fin 96) (s : Fin 1024) :
    aVc (shapeCast S2x6x1x96x1024 z shapeCasts_S2x6x96x1024_S2x6x1x96x1024) (ix3 (hd b g r) d s) = z (ix4 b g d s) := by
  unfold aVc; pointwise; simp only [hd_row, hd_head, hd_group, Fin.eta]
theorem aQ_at (z : FVec Ideal S2x24x1x8x1 .f32) (b : Fin 2) (g : Fin 6) (r : Fin 4) (s : Fin 1024) :
    aQ z (ix3 (hd b g r) 0 s) = z (ix5 b ⟨g * 4 + r, by omega⟩ 0 ⟨s / 128, by omega⟩ 0) := by
  unfold aQ; pointwise; simp only [hd_row, hd_head, hd_group, Fin.eta]
theorem aK_at (z : FVec Ideal S2x6x1x16x1 .f32) (b : Fin 2) (g : Fin 6) (r : Fin 4) (s : Fin 1024) :
    aK z (ix3 (hd b g r) s 0) = z (ix5 b g 0 ⟨s / 64, by omega⟩ 0) := by
  unfold aK; pointwise; simp only [hd_row, hd_head, hd_group, Fin.eta]
theorem aV_at (z : FVec Ideal S2x6x96x1 .f32) (b : Fin 2) (g : Fin 6) (r : Fin 4) (d : Fin 96) :
    aV z (ix3 (hd b g r) d 0) = z (ix4 b g d 0) := by
  unfold aV; pointwise; simp only [hd_row, hd_head, hd_group, Fin.eta]
theorem aDot_at (v112 v116 : FVec Ideal S48x96x1024 .fp8e4m3) (n : Fin 48) (k q : Fin 1024) :
    aDot v112 v116 (ix3 n k q) = ∑ d : Fin 96, v116 (ix3 n d k) * v112 (ix3 n d q) := by
  unfold aDot; pointwise
theorem aRaw_at (D : FVec Ideal S48x1024x1024 .f32) (a : FVec Ideal S48x1x1024 .f32) (c : FVec Ideal S48x1024x1 .f32) (n : Fin 48) (k q : Fin 1024) :
    aRaw D a c (ix3 n k q) = D (ix3 n k q) * a (ix3 n 0 q) * c (ix3 n k 0) * Named.named (F := Ideal) (φ := .f32) κ "score_scale" 0x3DD105EC#32 := by
  unfold aRaw; pointwise
theorem aMax_at (S : FVec Ideal S48x1024x1024 .f32) (n : Fin 48) (q : Fin 1024) :
    aMax S (ix2 n q) = Finset.univ.fold max (Ideal.ofBits .f32 0xFF800000#32) (fun k => S (ix3 n k q)) := by
  unfold aMax; pointwise
theorem aSum_at (S : FVec Ideal S48x1024x1024 .f32) (n : Fin 48) (q : Fin 1024) :
    aSum S (ix2 n q) = ∑ k, S (ix3 n k q) := by
  unfold aSum; pointwise
theorem spreadM_at (M : FVec Ideal S48x1024 .f32) (n : Fin 48) (k q : Fin 1024) :
    broadcastTo S48x1024x1024 (shapeCast S48x1x1024 M shapeCasts_S48x1024_S48x1x1024) broadcasts_S48x1x1024_S48x1024x1024 (ix3 n k q) = M (ix2 n q) := by
  pointwise
theorem aExp_at (S : FVec Ideal S48x1024x1024 .f32) (M : FVec Ideal S48x1024 .f32) (n : Fin 48) (k q : Fin 1024) :
    aExp S M (ix3 n k q) = Ideal.exp (S (ix3 n k q) - M (ix2 n q)) := by
  rw [← spreadM_at M n k q]; rfl
theorem aCode_at (P : FVec Ideal S48x1024x1024 .f32) (j : S48x1024x1024.Idx) :
    aCode P j = min (Ideal.ofBits .f32 0x43E00000#32) (max (Ideal.ofBits .f32 0x00000000#32) (P j * Ideal.ofBits .f32 0x43800000#32)) := rfl
theorem aDotV_at (v : FVec Ideal S48x96x1024 .fp8e4m3) (p : FVec Ideal S48x1024x1024 .fp8e4m3) (n : Fin 48) (d : Fin 96) (q : Fin 1024) :
    aDotV v p (ix3 n d q) = ∑ k : Fin 1024, v (ix3 n d k) * p (ix3 n k q) := by
  unfold aDotV; pointwise
theorem aNorm_at (A : FVec Ideal S48x96x1024 .f32) (v : FVec Ideal S48x96x1 .f32) (L : FVec Ideal S48x1024 .f32) (n : Fin 48) (d : Fin 96) (q : Fin 1024) :
    aNorm A v L (ix3 n d q) = Ideal.div (A (ix3 n d q) * Ideal.ofBits .f32 0x3B800000#32 * v (ix3 n d 0)) (L (ix2 n q)) := by
  unfold aNorm; pointwise
theorem aOut_at (O : FVec Ideal S48x96x1024 .f32) (b : Fin 2) (g : Fin 6) (r : Fin 4) (d : Fin 96) (q : Fin 1024) :
    aOut O (ix3 b q ⟨(g * 4 + r) * 96 + d, by omega⟩) = O (ix3 (hd b g r) d q) := by
  unfold aOut
  have e : ∀ h : b.val * 24 + ((g.val * 4 + r.val) * 96 + d.val) / 96 < 48,
      (⟨b.val * 24 + ((g.val * 4 + r.val) * 96 + d.val) / 96, h⟩ : Fin 48) = hd b g r := fun _ =>
    Fin.ext (show b.val * 24 + ((g.val * 4 + r.val) * 96 + d.val) / 96 = b.val * 24 + (g.val * 4 + r.val) by omega)
  pointwise
  rw [e]
theorem aScore_at (R : FVec Ideal S48x1024x1024 .f32) (n : Fin 48) (k q : Fin 1024) :
    aScore R (ix3 n k q) = if k.val ≤ q.val then R (ix3 n k q) else ⊥ := by
  show Scalar.select (IntOp.cmpi .sle (iota .tc S48x1024x1024 32 [1] iota_S48x1024x1024_d1_w32 (ix3 n k q))
    (iota .tc S48x1024x1024 32 [2] iota_S48x1024x1024_d2_w32 (ix3 n k q))) (R (ix3 n k q)) (Ideal.ofBits .f32 0xFF800000#32) = _
  rw [iota_single_apply, iota_single_apply, ninf_f32]
  show Scalar.select (IntOp.cmpi .sle (BitVec.ofNat 32 k.val) (BitVec.ofNat 32 q.val)) _ _ = _
  rw [WordCmp.cmpi_sle_ofNat (by have := k.isLt; omega) (by have := q.isLt; omega)]
  split
  · rename_i h; rw [decide_eq_true h]; rfl
  · rename_i h; rw [decide_eq_false h]; rfl

end Cert.ReferenceIdeal.Gen
end
-- ==== Proof.RefOut.lean ====
/- The reference's attention at real arguments is `att`, entry by entry. -/
module

public import proofs.«01_k».proof.Proof.RefAttn
public import proofs.«01_k».proof.Proof.RefQueries
public import proofs.«01_k».proof.Proof.RefKeys
public import proofs.«01_k».proof.Proof.Attn

@[expose] public section

noncomputable section

namespace Cert.ReferenceIdeal.Gen

open Idealize.ShloMosaic Idealize.SL.Sem Cert.Sage

variable (x0 : Vec Ideal S2x2304x1024 .bf16) (x1 x2 : Vec Ideal S2x576x1024 .bf16) (b : Fin 2) (g : Fin 6) (r : Fin 4)

theorem exp2_at {s : Shape} (e : FVec Ideal s .f32) (i : s.Idx) : exp2 e i = Ideal.exp2 (e i) := rfl

/-- Query head `r` of key head `g` among the 24. -/
abbrev hq (g : Fin 6) (r : Fin 4) : Fin 24 := ⟨g * 4 + r, by omega⟩

variable {x0 x1 x2 b g r} (hQ : RealHead (headQ x0 b (hq g r)) (2 ^ 128)) (hK : RealHead (headK x1 b g) (2 ^ 128))
  (hV : RealHead (headK x2 b g) (2 ^ 128))

include hQ in
theorem aQc_at (d : Fin 96) (q : Fin 1024) : k0_pay24 (k0_pay3 (F := Ideal) x0) (ix3 (hd b g r) d q) = qCode (headQ x0 b (hq g r)) d q := by
  rw [pay24_at]
  refine (pay18_at _ b (hq g r) d q).symm.trans ?_
  rw [qcode_at, invR_eq (yq_real hQ (q.val / 128) (by omega))]
  rfl
include hK in
theorem aKc_at (d : Fin 96) (k : Fin 1024) : k0_pay25 (k0_pay8 (F := Ideal) (k0_pay5 x1) (k0_pay6 x1)) (ix3 (hd b g r) d k) = kCode (headK x1 b g) d k := by
  rw [pay25_at]
  refine (pay20_at _ b g d k).symm.trans ?_
  rw [kcode_at, ykR_eq, smoothR_eq, invR_eq (yk_real hK (k.val / 64) (by omega))]
  rfl
include hV in
theorem aVcode_at (d : Fin 96) (k : Fin 1024) :
    aVc (k0_pay26 (k0_pay10 x2) (k0_pay12 x2) (k0_pay13 x2) (k0_pay14 (F := Ideal))) (ix3 (hd b g r) d k) = vCode (headK x2 b g) d k := by
  refine (aVc_at _ b g r d k).trans ?_
  refine (castVc_at _ b g d k).symm.trans ?_
  refine (vcode_at x2 b g d k).trans ?_
  rw [invR_eq (yv_real hV d)]
  rfl
include hQ in
theorem aQs_at (q : Fin 1024) : aQ (k0_pay4 (F := Ideal) x0) (ix3 (hd b g r) 0 q) = qScale (headQ x0 b (hq g r)) (q.val / 128) := by
  rw [aQ_at]
  unfold k0_pay4
  rw [exp2_at, pay2_at]
  exact scaleR_eq (yq_real hQ (q.val / 128) (by omega))
include hK in
theorem aKs_at (k : Fin 1024) : aK (k0_pay9 (F := Ideal) (k0_pay6 x1)) (ix3 (hd b g r) k 0) = kScale (headK x1 b g) (k.val / 64) := by
  rw [aK_at]
  unfold k0_pay9
  rw [exp2_at, pay7_at, ykR_eq]
  exact scaleR_eq (yk_real hK (k.val / 64) (by omega))
include hV in
theorem aVs_at (d : Fin 96) :
    aV (k0_pay17 (k0_pay12 x2) (k0_pay13 x2) (k0_pay14 (F := Ideal))) (ix3 (hd b g r) d 0) = vScale (headK x2 b g) d := by
  rw [aV_at]
  unfold k0_pay17
  rw [exp2_at, pay15_at]
  exact scaleR_eq (yv_real hV d)

include hQ hK in
/-- A score. -/
theorem score_at (k q : Fin 1024) :
    aScore (aRaw (aDot (k0_pay24 (k0_pay3 (F := Ideal) x0)) (k0_pay25 (k0_pay8 (k0_pay5 x1) (k0_pay6 x1)))) (aQ (k0_pay4 x0))
      (aK (k0_pay9 (k0_pay6 x1)))) (ix3 (hd b g r) k q) = seen (score (headQ x0 b (hq g r)) (headK x1 b g) q) q.val k.val := by
  rw [aScore_at, aRaw_at, aDot_at, aQs_at hQ, aKs_at hK, Finset.sum_congr rfl fun d _ => by rw [aKc_at hK, aQc_at hQ]]
  unfold seen
  rw [← score_one hQ hK]
  rfl

include hQ hK hV in
/-- An output. -/
theorem attention_at (d : Fin 96) (q : Fin 1024) :
    k0_pay27 (k0_pay4 (F := Ideal) x0) (k0_pay9 (k0_pay6 x1)) (k0_pay17 (k0_pay12 x2) (k0_pay13 x2) k0_pay14) (k0_pay24 (k0_pay3 x0))
      (k0_pay25 (k0_pay8 (k0_pay5 x1) (k0_pay6 x1))) (k0_pay26 (k0_pay10 x2) (k0_pay12 x2) (k0_pay13 x2) k0_pay14)
      (ix3 b q ⟨(g * 4 + r) * 96 + d, by omega⟩) = att (headQ x0 b (hq g r)) (headK x1 b g) (headK x2 b g) d q := by
  rw [pay27_eq _ _ _ _ _ _ _ rfl _ rfl, aOut_at, aNorm_at, aDotV_at, aSum_at, aVs_at hV]
  have hS := fun k => score_at hQ hK k q
  generalize aScore _ = S at hS ⊢
  have hM := aMax_at S (hd b g r) q
  simp only [hS] at hM
  simp only [aCode_at, aExp_at, hS, aVcode_at hV]
  generalize aMax S (ix2 (hd b g r) q) = M at hM ⊢
  refine Eq.trans ?_ (natural_attention (fun j => (vCode (headK x2 b g) d (fi j)).toReal) (score (headQ x0 b (hq g r)) (headK x1 b g) q)
    (vScale (headK x2 b g) d).toReal q M hM)
  simp only [vCode_toReal, vScale_toReal hV, fi_val]

end Cert.ReferenceIdeal.Gen
end
-- ==== Proof.RefOutArray.lean ====
/- The reference's output array as a function of the argument arrays. -/
module

public import proofs.«01_k».proof.Proof.RefArrays
public import proofs.«01_k».proof.Proof.RefOut
import Idealize.ShloMosaic.Lib.Pipeline.ValueKit.Point

@[expose] public section

namespace Cert.ReferenceIdeal.Gen

open Idealize.ShloMosaic Idealize.ShloMosaic.TcCoe Idealize.SL.Sem Cert.Sage

variable (m : (ℓ : Loc nD τ sig) → Buf (Elt Ideal) ℓ) (c : Dev nD)

theorem idx3 : ∀ t : Fin cfg0.N, win0_3.index t = ![0, 0, 0] := by decide +kernel

theorem out3_eq (x0 : Vec Ideal S2x2304x1024 .bf16) (x1 x2 : Vec Ideal S2x576x1024 .bf16) :
    out0_3 x0 x1 x2 = k0_pay27 (k0_pay4 x0) (k0_pay9 (k0_pay6 x1)) (k0_pay17 (k0_pay12 x2) (k0_pay13 x2) k0_pay14) (k0_pay24 (k0_pay3 x0))
      (k0_pay25 (k0_pay8 (k0_pay5 x1) (k0_pay6 x1))) (k0_pay26 (k0_pay10 x2) (k0_pay12 x2) (k0_pay13 x2) k0_pay14) := by
  unfold out0_3 k0_pay36 k0_pay35 k0_pay34 k0_pay33 k0_pay32 k0_pay31 k0_pay30 k0_pay29 k0_pay28
  rw [View.canon_unit_zero (by funext a; fin_cases a <;> rfl), View.ld_unit_zero (by funext a; fin_cases a <;> rfl),
    View.ld_unit_zero (by funext a; fin_cases a <;> rfl), View.ld_unit_zero (by funext a; fin_cases a <;> rfl)]

theorem split24 (h : Fin 24) : ∃ (g : Fin 6) (r : Fin 4), h = hq g r :=
  ⟨⟨h.val / 4, by omega⟩, ⟨h.val % 4, by omega⟩, Fin.ext (by show h.val = h.val / 4 * 4 + h.val % 4; omega)⟩

theorem arr3 (hx : ∀ b h, RealHead (argQ (m ((c : Thread nD τ).loc main_arg0)) b h) (2 ^ 128))
    (hk : ∀ b g, RealHead (argK (m ((c : Thread nD τ).loc main_arg1)) b g) (2 ^ 128))
    (hv : ∀ b g, RealHead (argK (m ((c : Thread nD τ).loc main_arg2)) b g) (2 ^ 128)) :
    (dats m 0 c).arrAt 3 cfg0.N
      = resOut (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, out3_eq]
  obtain ⟨b, s, n, rfl⟩ : ∃ (b : Fin 2) (s : Fin 1024) (n : Fin 2304), y = ix3 b s n := ⟨_, _, _, eq_ix3 y⟩
  have he : (win0_3.blk t).view.emb (ix3 b s n) = ix3 b s n := by blk_ext [idx3 t]
  obtain ⟨h, d, rfl⟩ := split96 (N := 24) n
  obtain ⟨g, r, rfl⟩ := split24 h
  have e := attention_at (x0 := iblk m c 0 t) (x1 := iblk m c 1 t) (x2 := iblk m c 2 t) (b := b) (g := g) (r := r)
    (by rw [head_q]; exact hx _ _) (by rw [head_k]; exact hk _ _) (by rw [head_v]; exact hv _ _) d s
  refine e.trans ?_
  rw [head_q, head_k, head_v]
  exact ((congrArg (resOut _ _ _) he).trans (resOut_at _ _ _ b (hq g r) g
    (show g.val = (g.val * 4 + r.val) / 4 by omega) d s _ rfl)).symm

end Cert.ReferenceIdeal.Gen

end
-- ==== Proof.Results.lean ====
/-
  The two runs, each ending with the output, the codes and the scales that the arithmetic of a head names, and the claim
  that the kernel's and the reference's results are the same.
-/
module

public import proofs.«01_k».proof.Defs
public import proofs.«01_k».proof.Proof.KerOutArray
public import proofs.«01_k».proof.Proof.RefOutArray
public import proofs.«01_k».proof.Proof.Gen.Pre_finite

@[expose] public section

open Idealize.ShloMosaic Idealize.ShloMosaic.TcCoe Idealize.SL.Sem Cert.Sage

namespace Cert.Sage

/-- The heads of finite arguments are real. -/
theorem real_heads (x : QArg) (k v : KArg) (h : Cert.Pre_finite.fn (F := Ideal) x k v = fun _ => 1#1) :
    (∀ b h, RealHead (argQ x b h) (2 ^ 128)) ∧ (∀ b g, RealHead (argK k b g) (2 ^ 128)) ∧ ∀ b g, RealHead (argK v b g) (2 ^ 128) :=
  have f := finite_args x k v h
  ⟨fun _ _ => realHead_of fun _ _ => f.1 _, fun _ _ => realHead_of fun _ _ => f.2.1 _, fun _ _ => realHead_of fun _ _ => f.2.2 _⟩

end Cert.Sage

namespace Cert.KernelIdeal.Gen

variable (m : (ℓ : Loc nD τ sig) → Buf (Elt Ideal) ℓ) (ρ : Dev nD → PrngReg)

/-- The kernel, of finite arguments, ends with their output, codes and scales, and the arguments as they were. -/
theorem run_results
    (hf : ∀ c : Dev nD, Cert.Pre_finite.fn (F := Ideal) (m ((c : Thread nD τ).loc main_arg0))
      (m ((c : Thread nD τ).loc main_arg1)) (m ((c : Thread nD τ).loc main_arg2)) = fun _ => 1#1) :
    θ_run (defs (F := Ideal)) (onTc (τ := τ) (main (F := Ideal))) ⟨m, fun _ => 0, ρ⟩ fun r => ∀ c : Dev nD,
      r.2.mem ((c : Thread nD τ).loc main_v2_0)
        = resOut (m ((c : Thread nD τ).loc main_arg0)) (m ((c : Thread nD τ).loc main_arg1)) (m ((c : Thread nD τ).loc main_arg2))
      ∧ r.2.mem ((c : Thread nD τ).loc main_v2_1) = resQC (m ((c : Thread nD τ).loc main_arg0))
      ∧ r.2.mem ((c : Thread nD τ).loc main_v2_2) = resQS (m ((c : Thread nD τ).loc main_arg0))
      ∧ r.2.mem ((c : Thread nD τ).loc main_v2_3) = resKC (m ((c : Thread nD τ).loc main_arg1))
      ∧ r.2.mem ((c : Thread nD τ).loc main_v2_4) = resKS (m ((c : Thread nD τ).loc main_arg1))
      ∧ r.2.mem ((c : Thread nD τ).loc main_v2_5) = resVC (m ((c : Thread nD τ).loc main_arg2))
      ∧ r.2.mem ((c : Thread nD τ).loc main_v2_6) = resVS (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => by
    obtain ⟨after, hl, hA⟩ := h.exists_exact c
    obtain ⟨rx, rk, rv⟩ := real_heads _ _ _ (hf c)
    exact ⟨(hA 3).trans (arr3 m c after hl rx rk rv), (hA 4).trans (arr4 m c after hl), (hA 5).trans (arr5 m c after hl), (hA 6).trans (arr6 m c after hl),
      (hA 7).trans (arr7 m c after hl), (hA 8).trans (arr8 m c after hl), (hA 9).trans (arr9 m c after hl),
      (Pipeline.RDat.FramePost.arr_in h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_rel m ρ)

end Cert.KernelIdeal.Gen

namespace Cert.ReferenceIdeal.Gen

variable (m : (ℓ : Loc nD τ sig) → Buf (Elt Ideal) ℓ) (ρ : Dev nD → PrngReg)

/-- The reference, of finite arguments, ends with the same output, codes and scales, and the arguments as they were. -/
theorem run_results
    (hf : ∀ c : Dev nD, Cert.Pre_finite.fn (F := Ideal) (m ((c : Thread nD τ).loc main_arg0))
      (m ((c : Thread nD τ).loc main_arg1)) (m ((c : Thread nD τ).loc main_arg2)) = fun _ => 1#1) :
    θ_run (defs (F := Ideal)) (onTc (τ := τ) (main (F := Ideal))) ⟨m, fun _ => 0, ρ⟩ fun r => ∀ c : Dev nD,
      r.2.mem ((c : Thread nD τ).loc main_v3_0)
        = resOut (m ((c : Thread nD τ).loc main_arg0)) (m ((c : Thread nD τ).loc main_arg1)) (m ((c : Thread nD τ).loc main_arg2))
      ∧ r.2.mem ((c : Thread nD τ).loc main_v3_1) = resQC (m ((c : Thread nD τ).loc main_arg0))
      ∧ r.2.mem ((c : Thread nD τ).loc main_v3_2) = resQS (m ((c : Thread nD τ).loc main_arg0))
      ∧ r.2.mem ((c : Thread nD τ).loc main_v3_3) = resKC (m ((c : Thread nD τ).loc main_arg1))
      ∧ r.2.mem ((c : Thread nD τ).loc main_v3_4) = resKS (m ((c : Thread nD τ).loc main_arg1))
      ∧ r.2.mem ((c : Thread nD τ).loc main_v3_5) = resVC (m ((c : Thread nD τ).loc main_arg2))
      ∧ r.2.mem ((c : Thread nD τ).loc main_v3_6) = resVS (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => by
    obtain ⟨h3, h4, h5, h6, h7, h8, h9, h0, h1, h2⟩ := h c
    obtain ⟨rx, rk, rv⟩ := real_heads _ _ _ (hf c)
    exact ⟨h3.trans (arr3 m c rx rk rv), h4.trans (arr4 m c rx), h5.trans (arr5 m c rx), h6.trans (arr6 m c rk), h7.trans (arr7 m c rk),
      h8.trans (arr8 m c rv), h9.trans (arr9 m c rv), h0, h1, h2⟩)
    (Cert.ReferenceIdeal.Value.run_blocks m ρ)

end Cert.ReferenceIdeal.Gen

namespace Cert.Sage

/-- THE VALUE CLAIM: on finite arguments the kernel and the reference end with the same output, codes and scales. -/
theorem same_results : Cert.algebraic_KernelIdeal_ReferenceIdeal_pre_finite := by
  intro m g m' g' hpre hargs
  refine ⟨fun c => resOut (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    fun c => resQC (m ((c : Thread Cert.KernelIdeal.nD Cert.KernelIdeal.τ).loc Cert.KernelIdeal.main_arg0)),
    fun c => resQS (m ((c : Thread Cert.KernelIdeal.nD Cert.KernelIdeal.τ).loc Cert.KernelIdeal.main_arg0)),
    fun c => resKC (m ((c : Thread Cert.KernelIdeal.nD Cert.KernelIdeal.τ).loc Cert.KernelIdeal.main_arg1)),
    fun c => resKS (m ((c : Thread Cert.KernelIdeal.nD Cert.KernelIdeal.τ).loc Cert.KernelIdeal.main_arg1)),
    fun c => resVC (m ((c : Thread Cert.KernelIdeal.nD Cert.KernelIdeal.τ).loc Cert.KernelIdeal.main_arg2)),
    fun c => resVS (m ((c : Thread Cert.KernelIdeal.nD Cert.KernelIdeal.τ).loc Cert.KernelIdeal.main_arg2)), ?_, ?_⟩
  · refine (θ_run _ _ _).mono (fun r h c => ?_) (Cert.KernelIdeal.Gen.run_results m g hpre)
    exact h c
  · have hf : ∀ c : Dev Cert.ReferenceIdeal.nD, Cert.Pre_finite.fn (F := Ideal)
        (m' ((c : Thread Cert.ReferenceIdeal.nD Cert.ReferenceIdeal.τ).loc Cert.ReferenceIdeal.main_arg0))
        (m' ((c : Thread Cert.ReferenceIdeal.nD Cert.ReferenceIdeal.τ).loc Cert.ReferenceIdeal.main_arg1))
        (m' ((c : Thread Cert.ReferenceIdeal.nD Cert.ReferenceIdeal.τ).loc Cert.ReferenceIdeal.main_arg2)) = fun _ => 1#1 := by
      intro c
      obtain ⟨e0, e1, e2⟩ := hargs c
      rw [e0, e1, e2]
      exact hpre c
    refine (θ_run _ _ _).mono (fun r h c => ?_) (Cert.ReferenceIdeal.Gen.run_results m' g' hf)
    obtain ⟨e0, e1, e2⟩ := hargs c
    obtain ⟨h0, h1, h2, h3, h4, h5, h6, ha⟩ := h c
    rw [e0, e1, e2] at h0
    exact ⟨h0, h1.trans (congrArg resQC e0), h2.trans (congrArg resQS e0), h3.trans (congrArg resKC e1),
      h4.trans (congrArg resKS e1), h5.trans (congrArg resVC e2), h6.trans (congrArg resVS e2), ha⟩

end Cert.Sage
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.ReferenceIdeal.Value
public import proofs.«01_k».proof.Proof.Gen.Reference.Frame
public import proofs.«01_k».proof.Proof.Gen.Pre_finite
public import proofs.«01_k».proof.Proof.KernelFrame
public import proofs.«01_k».proof.Proof.Results
public import Idealize.ShloMosaic.PureOps.IdealRules

@[expose] public section

open Idealize.ShloMosaic Idealize.SL.Sem

theorem Cert.Proof.claim : Cert.Claim :=
  ⟨Cert.Kernel.Gen.facts, Cert.KernelIdeal.Gen.facts, Cert.ReferenceIdeal.Gen.facts, Cert.Reference.Gen.facts,
    Cert.Pre_finite.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, fun m ρ _ => Cert.Reference.Gen.frame m ρ,
    IdealRules.named_const.statement Cert.KernelIdeal.κ "score_log2" .f32 0x3E16C740#32
      (((Real.sqrt 96)⁻¹ * (Real.log 2)⁻¹ : ℝ) : EReal) rfl,
    ⟨IdealRules.named_const.statement Cert.ReferenceIdeal.κ "inv_ln2" .f32 0x3FB8AA3B#32
        (((Real.log 2)⁻¹ : ℝ) : EReal) rfl,
      IdealRules.named_const.statement Cert.ReferenceIdeal.κ "score_scale" .f32 0x3DD105EC#32
        (((Real.sqrt 96)⁻¹ : ℝ) : EReal) rfl⟩,
    Cert.Sage.same_results⟩
